-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_tokens [hPre_finite_tokens : Cert.Pre_finite_tokens.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_tokens.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_tokens [hPre_finite_tokens : Cert.Pre_finite_tokens.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_tokens.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Kernel10Ideal_pre_finite_tokens [hKernel10Ideal : Cert.Kernel10Ideal.Facts] [hPre_finite_tokens : Cert.Pre_finite_tokens.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_tokens m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Reference10Ideal_pre_finite_tokens [hReference10Ideal : Cert.Reference10Ideal.Facts] [hPre_finite_tokens : Cert.Pre_finite_tokens.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_tokens m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  IdealRules.bf16_pair.BufferStatement Cert.Kernel7Ideal.S16384x2x1024 Cert.Kernel7Ideal.S16384x1x1024
  ∧ IdealRules.bf16_pair.BufferStatement Cert.Kernel7Ideal.S512x2x1024 Cert.Kernel7Ideal.S512x1x1024
  ∧ IdealRules.bf16_pair.Statement Cert.Kernel7Ideal.S512x2x1024 Cert.Kernel7Ideal.S512x1x1024
  ∧ IdealRules.bf16_pack.Statement Cert.Kernel7Ideal.S512x1024

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v16_0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v16_0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v34) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  IdealRules.bf16_pair.BufferStatement Cert.Kernel8Ideal.S16384x2x1024 Cert.Kernel8Ideal.S16384x1x1024
  ∧ IdealRules.bf16_pair.BufferStatement Cert.Kernel8Ideal.S512x2x1024 Cert.Kernel8Ideal.S512x1x1024
  ∧ IdealRules.bf16_pair.Statement Cert.Kernel8Ideal.S512x2x1024 Cert.Kernel8Ideal.S512x1x1024
  ∧ IdealRules.bf16_pack.Statement Cert.Kernel8Ideal.S512x1024

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v13_0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v13_0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v54) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v11)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v11) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v35) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal_pre_finite_tokens [hKernel10Ideal : Cert.Kernel10Ideal.Facts] [hReference10Ideal : Cert.Reference10Ideal.Facts] [hPre_finite_tokens : Cert.Pre_finite_tokens.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_tokens m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v18_0)) (v1 : (c : Dev Cert.Kernel10Ideal.nD) → Buf (Elt Ideal) ((c.tc : Thread Cert.Kernel10Ideal.nD Cert.Kernel10Ideal.τ).loc Cert.Kernel10Ideal.main_v18_1)) (v2 : (c : Dev Cert.Kernel10Ideal.nD) → Buf (Elt Ideal) ((c.tc : Thread Cert.Kernel10Ideal.nD Cert.Kernel10Ideal.τ).loc Cert.Kernel10Ideal.main_v18_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v18_0) = v0 c
          ∧ r.2.mem ((c.tc : Thread Cert.Kernel10Ideal.nD Cert.Kernel10Ideal.τ).loc Cert.Kernel10Ideal.main_v18_1) = v1 c
          ∧ r.2.mem ((c.tc : Thread Cert.Kernel10Ideal.nD Cert.Kernel10Ideal.τ).loc Cert.Kernel10Ideal.main_v18_3) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v40) = v0 c
          ∧ r.2.mem ((c.tc : Thread Cert.Reference10Ideal.nD Cert.Reference10Ideal.τ).loc Cert.Reference10Ideal.main_v41) = v1 c
          ∧ r.2.mem ((c.tc : Thread Cert.Reference10Ideal.nD Cert.Reference10Ideal.τ).loc Cert.Reference10Ideal.main_v42) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v11_0)) (v1 : (c : Dev Cert.Kernel11Ideal.nD) → Buf (Elt Ideal) ((c.tc : Thread Cert.Kernel11Ideal.nD Cert.Kernel11Ideal.τ).loc Cert.Kernel11Ideal.main_v11_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v11_0) = v0 c
          ∧ r.2.mem ((c.tc : Thread Cert.Kernel11Ideal.nD Cert.Kernel11Ideal.τ).loc Cert.Kernel11Ideal.main_v11_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v35) = v0 c
          ∧ r.2.mem ((c.tc : Thread Cert.Reference11Ideal.nD Cert.Reference11Ideal.τ).loc Cert.Reference11Ideal.main_v36) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_inputs : Cert.Pre_finite_inputs.Facts) (hPre_finite_tokens : Cert.Pre_finite_tokens.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_tokens (hKernel10Ideal := hKernel10Ideal) (hPre_finite_tokens := hPre_finite_tokens)
    ∧ quiescent_Reference10Ideal (hReference10Ideal := hReference10Ideal)
    ∧ quiescent_Reference10Ideal_pre_finite_tokens (hReference10Ideal := hReference10Ideal) (hPre_finite_tokens := hPre_finite_tokens)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_tokens (hKernel10Ideal := hKernel10Ideal) (hReference10Ideal := hReference10Ideal) (hPre_finite_tokens := hPre_finite_tokens)
    ∧ preserves_Kernel11_Kernel11Ideal
    ∧ algebraic_Kernel11Ideal_Reference11Ideal (hKernel11Ideal := hKernel11Ideal) (hReference11Ideal := hReference11Ideal)
-- ==== Pre_finite_inputs.lean ====
abbrev S2x8192x1024 : Shape := ⟨3, ![2, 8192, 1024]⟩
abbrev S64 : Shape := ⟨1, ![64]⟩
abbrev S128 : Shape := ⟨1, ![128]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S2x8192x1024 .f32) (main_arg1 : FVec F S2x8192x1024 .f32) (main_arg2 : FVec F S2x8192x1024 .f32) (main_arg3 : FVec F S64 .f32) (main_arg4 : FVec F S64 .f32) (main_arg5 : FVec F S64 .f32) (main_arg6 : FVec F S64 .f32) (main_arg7 : FVec F S128 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S2x8192x1024 .f32 := Host.absf main_arg1
  let main_cst_0 : FVec F S_ .f32 := constant S_ .f32 0x7F800000#32
  let main_v5 : FVec F S2x8192x1024 .f32 := broadcastInDim S2x8192x1024 ![] bcast_S_S2x8192x1024 main_cst_0
  let main_v6 : IVec S2x8192x1024 1 := cmpf .olt main_v4 main_v5
  let main_c_1 : IVec S_ 1 := constantI S_ 1 1#1
  let main_v7 : IVec S_ 1 := (fun x v => Host.reduce IntOp.andi x v reducesTo_S2x8192x1024_S_d0_1_2 h_S_) main_v6 main_c_1
  let main_v8 : IVec S_ 1 := andi main_v3 main_v7
  let main_v9 : FVec F S2x8192x1024 .f32 := Host.absf main_arg2
  let main_cst_2 : FVec F S_ .f32 := constant S_ .f32 0x7F800000#32
  let main_v10 : FVec F S2x8192x1024 .f32 := broadcastInDim S2x8192x1024 ![] bcast_S_S2x8192x1024 main_cst_2
  let main_v11 : IVec S2x8192x1024 1 := cmpf .olt main_v9 main_v10
  let main_c_3 : IVec S_ 1 := constantI S_ 1 1#1
  let main_v12 : IVec S_ 1 := (fun x v => Host.reduce IntOp.andi x v reducesTo_S2x8192x1024_S_d0_1_2 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Pre_finite_tokens.lean ====
abbrev S2x8192x2048 : Shape := ⟨3, ![2, 8192, 2048]⟩
abbrev S2048x32 : Shape := ⟨2, ![2048, 32]⟩
abbrev S32 : Shape := ⟨1, ![32]⟩
abbrev S_ : Shape := ⟨0, ![]⟩

class Facts : Prop where
  bcast_S_S2x8192x2048 : S_.BroadcastsInDim S2x8192x2048 (![] : Fin 0 → Fin S2x8192x2048.rank)
  reducesTo_S2x8192x2048_S_d0_1_2 : S2x8192x2048.ReducesTo [0, 1, 2] S_
  h_S_ : 0 < S_.numel
  bcast_S_S2048x32 : S_.BroadcastsInDim S2048x32 (![] : Fin 0 → Fin S2048x32.rank)
  reducesTo_S2048x32_S_d0_1 : S2048x32.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S2x8192x2048 .f32) (main_arg1 : FVec F S2048x32 .f32) (main_arg2 : FVec F S32 .f32) : IVec S_ 1 :=
  let main_v0 : FVec F S2x8192x2048 .f32 := Host.absf main_arg0
  let main_cst : FVec F S_ .f32 := constant S_ .f32 0x7F800000#32
  let main_v1 : FVec F S2x8192x2048 .f32 := broadcastInDim S2x8192x2048 ![] bcast_S_S2x8192x2048 main_cst
  let main_v2 : IVec S2x8192x2048 1 := cmpf .olt main_v0 main_v1
  let main_c : IVec S_ 1 := constantI S_ 1 1#1
  let main_v3 : IVec S_ 1 := (fun x v => Host.reduce IntOp.andi x v reducesTo_S2x8192x2048_S_d0_1_2 h_S_) main_v2 main_c
  let main_v4 : FVec F S2048x32 .f32 := Host.absf main_arg1
  let main_cst_0 : FVec F S_ .f32 := constant S_ .f32 0x7F800000#32
  let main_v5 : FVec F S2048x32 .f32 := broadcastInDim S2048x32 ![] bcast_S_S2048x32 main_cst_0
  let main_v6 : IVec S2048x32 1 := cmpf .olt main_v4 main_v5
  let main_c_1 : IVec S_ 1 := constantI S_ 1 1#1
  let main_v7 : IVec S_ 1 := (fun x v => Host.reduce IntOp.andi x v reducesTo_S2048x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S2x8192x1024 : Shape := ⟨3, ![2, 8192, 1024]⟩
abbrev S64 : Shape := ⟨1, ![64]⟩
abbrev S128 : Shape := ⟨1, ![128]⟩
abbrev S_ : Shape := ⟨0, ![]⟩
abbrev S16384x1024 : Shape := ⟨2, ![16384, 1024]⟩
abbrev S1024x16384 : Shape := ⟨2, ![1024, 16384]⟩
abbrev S8 : Shape := ⟨1, ![8]⟩
abbrev S512 : Shape := ⟨1, ![512]⟩
abbrev S8x1 : Shape := ⟨2, ![8, 1]⟩
abbrev S8x128x512 : Shape := ⟨3, ![8, 128, 512]⟩
abbrev S1 : Shape := ⟨1, ![1]⟩
abbrev S8x512 : Shape := ⟨2, ![8, 512]⟩
abbrev S1x512 : Shape := ⟨2, ![1, 512]⟩
abbrev S8x512x128 : Shape := ⟨3, ![8, 512, 128]⟩
abbrev S8x1x1 : Shape := ⟨3, ![8, 1, 1]⟩
abbrev S512x1 : Shape := ⟨2, ![512, 1]⟩
abbrev S512x512 : Shape := ⟨2, ![512, 512]⟩
abbrev S1x512x512 : Shape := ⟨3, ![1, 512, 512]⟩
abbrev S8x512x512 : Shape := ⟨3, ![8, 512, 512]⟩
abbrev S128x1 : Shape := ⟨2, ![128, 1]⟩
abbrev S128x512 : Shape := ⟨2, ![128, 512]⟩
abbrev S1x8192x128 : Shape := ⟨3, ![1, 8192, 128]⟩
abbrev S128x8192 : Shape := ⟨2, ![128, 8192]⟩
abbrev S1x128x512 : Shape := ⟨3, ![1, 128, 512]⟩
abbrev S1x512x128 : Shape := ⟨3, ![1, 512, 128]⟩
abbrev S1x1024 : Shape := ⟨2, ![1, 1024]⟩
abbrev S144x1024 : Shape := ⟨2, ![144, 1024]⟩
abbrev S512x1024 : Shape := ⟨2, ![512, 1024]⟩
abbrev S128x1024 : Shape := ⟨2, ![128, 1024]⟩
abbrev S256x1024 : Shape := ⟨2, ![256, 1024]⟩
abbrev S512x128 : Shape := ⟨2, ![512, 128]⟩
abbrev S16x512 : Shape := ⟨2, ![16, 512]⟩
abbrev S512x256 : Shape := ⟨2, ![512, 256]⟩
abbrev S144x512 : Shape := ⟨2, ![144, 512]⟩
abbrev S1024 : Shape := ⟨1, ![1024]⟩

abbrev nBuf : Space → Nat
  | .hbm => 204
  | .vmem => 19
  | .smem => 2
  | _ => 0

abbrev hbmTy0_0 (i : Nat) : BufTy := match i % 128 with
  | 0 => ⟨S2x8192x1024, .f32⟩
  | 1 => ⟨S2x8192x1024, .f32⟩
  | 2 => ⟨S2x8192x1024, .f32⟩
  | 3 => ⟨S64, .f32⟩
  | 4 => ⟨S64, .f32⟩
  | 5 => ⟨S64, .f32⟩
  | 6 => ⟨S64, .f32⟩
  | 7 => ⟨S128, .f32⟩
  | 8 => ⟨S_, .f32⟩
  | 9 => ⟨S2x8192x1024, .f32⟩
  | 10 => ⟨S2x8192x1024, .f32⟩
  | 11 => ⟨S16384x1024, .f32⟩
  | 12 => ⟨S1024x16384, .f32⟩
  | 13 => ⟨S1024x16384, .bf16⟩
  | 14 => ⟨S16384x1024, .f32⟩
  | 15 => ⟨S1024x16384, .f32⟩
  | 16 => ⟨S1024x16384, .bf16⟩
  | 17 => ⟨S64, .f32⟩
  | 18 => ⟨S_, .f32⟩
  | 19 => ⟨S_, .f32⟩
  | 20 => ⟨S_, .f32⟩
  | 21 => ⟨S64, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S2x8192x1024, .bf16⟩
  | 29 => ⟨S8, .f32⟩
  | 30 => ⟨S_, .f32⟩
  | 31 => ⟨S8, .f32⟩
  | 32 => ⟨S8, .f32⟩
  | 33 => ⟨S_, .f32⟩
  | 34 => ⟨S8, .f32⟩
  | 35 => ⟨S8, .f32⟩
  | 36 => ⟨S_, .f32⟩
  | 37 => ⟨S8, .f32⟩
  | 38 => ⟨S8, .f32⟩
  | 39 => ⟨S512, .i32⟩
  | 40 => ⟨S_, .i32⟩
  | 41 => ⟨S_, .i32⟩
  | 42 => ⟨S512, .i32⟩
  | 43 => ⟨S512, .i32⟩
  | 44 => ⟨S512, .i32⟩
  | 45 => ⟨S_, .i32⟩
  | 46 => ⟨S512, .i32⟩
  | 47 => ⟨S512, .i1⟩
  | 48 => ⟨S512, .i32⟩
  | 49 => ⟨S512, .i32⟩
  | 50 => ⟨S_, .i32⟩
  | 51 => ⟨S512, .i32⟩
  | 52 => ⟨S512, .i1⟩
  | 53 => ⟨S512, .i1⟩
  | 54 => ⟨S_, .i32⟩
  | 55 => ⟨S512, .i32⟩
  | 56 => ⟨S512, .i32⟩
  | 57 => ⟨S512, .i32⟩
  | 58 => ⟨S_, .i32⟩
  | 59 => ⟨S512, .i32⟩
  | 60 => ⟨S512, .i32⟩
  | 61 => ⟨S512, .f32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S512, .i32⟩
  | 69 => ⟨S512, .i32⟩
  | 70 => ⟨S_, .i32⟩
  | 71 => ⟨S512, .i32⟩
  | 72 => ⟨S512, .i1⟩
  | 73 => ⟨S_, .i32⟩
  | 74 => ⟨S512, .i32⟩
  | 75 => ⟨S512, .i1⟩
  | 76 => ⟨S_, .i32⟩
  | 77 => ⟨S_, .i1⟩
  | 78 => ⟨S512, .i1⟩
  | 79 => ⟨S512, .i1⟩
  | 80 => ⟨S512, .i1⟩
  | 81 => ⟨S512, .i32⟩
  | 82 => ⟨S512, .i32⟩
  | 83 => ⟨S512, .i32⟩
  | 84 => ⟨S512, .f32⟩
  | 85 => ⟨S512, .i32⟩
  | 86 => ⟨S_, .i32⟩
  | 87 => ⟨S_, .i32⟩
  | 88 => ⟨S512, .i32⟩
  | 89 => ⟨S512, .i32⟩
  | 90 => ⟨S512, .i32⟩
  | 91 => ⟨S_, .i32⟩
  | 92 => ⟨S512, .i32⟩
  | 93 => ⟨S512, .i1⟩
  | 94 => ⟨S512, .i32⟩
  | 95 => ⟨S512, .i32⟩
  | 96 => ⟨S_, .i32⟩
  | 97 => ⟨S512, .i32⟩
  | 98 => ⟨S512, .i1⟩
  | 99 => ⟨S512, .i1⟩
  | 100 => ⟨S_, .i32⟩
  | 101 => ⟨S512, .i32⟩
  | 102 => ⟨S512, .i32⟩
  | 103 => ⟨S512, .i32⟩
  | 104 => ⟨S_, .i32⟩
  | 105 => ⟨S512, .i32⟩
  | 106 => ⟨S512, .i32⟩
  | 107 => ⟨S512, .f32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S512, .i32⟩
  | 115 => ⟨S512, .i32⟩
  | 116 => ⟨S_, .i32⟩
  | 117 => ⟨S512, .i32⟩
  | 118 => ⟨S512, .i1⟩
  | 119 => ⟨S_, .i32⟩
  | 120 => ⟨S512, .i32⟩
  | 121 => ⟨S512, .i1⟩
  | 122 => ⟨S_, .i32⟩
  | 123 => ⟨S_, .i1⟩
  | 124 => ⟨S512, .i1⟩
  | 125 => ⟨S512, .i1⟩
  | 126 => ⟨S512, .i1⟩
  | 127 => ⟨S512, .i32⟩
  | _ => ⟨S2x8192x1024, .f32⟩

abbrev hbmTy0_1 (i : Nat) : BufTy := match i % 128 with
  | 0 => ⟨S512, .i32⟩
  | 1 => ⟨S512, .i32⟩
  | 2 => ⟨S512, .f32⟩
  | 3 => ⟨S8x1, .f32⟩
  | 4 => ⟨S_, .f32⟩
  | 5 => ⟨S8x128x512, .f32⟩
  | 6 => ⟨S_, .i32⟩
  | 7 => ⟨S1, .i32⟩
  | 8 => ⟨S_, .f32⟩
  | 9 => ⟨S8x512, .f32⟩
  | 10 => ⟨S8x128x512, .f32⟩
  | 11 => ⟨S_, .i32⟩
  | 12 => ⟨S1, .i32⟩
  | 13 => ⟨S_, .f32⟩
  | 14 => ⟨S8x512, .f32⟩
  | 15 => ⟨S8x128x512, .f32⟩
  | 16 => ⟨S8x1, .f32⟩
  | 17 => ⟨S1x512, .f32⟩
  | 18 => ⟨S8x512, .f32⟩
  | 19 => ⟨S8x512, .f32⟩
  | 20 => ⟨S8x512, .f32⟩
  | 21 => ⟨S_, .i32⟩
  | 22 => ⟨S1, .i32⟩
  | 23 => ⟨S8x128x512, .f32⟩
  | 24 => ⟨S8x1, .f32⟩
  | 25 => ⟨S1x512, .f32⟩
  | 26 => ⟨S8x512, .f32⟩
  | 27 => ⟨S8x512, .f32⟩
  | 28 => ⟨S8x512, .f32⟩
  | 29 => ⟨S_, .i32⟩
  | 30 => ⟨S1, .i32⟩
  | 31 => ⟨S8x128x512, .f32⟩
  | 32 => ⟨S_, .f32⟩
  | 33 => ⟨S8x512x128, .f32⟩
  | 34 => ⟨S1x512, .f32⟩
  | 35 => ⟨S8x512, .f32⟩
  | 36 => ⟨S8x512, .f32⟩
  | 37 => ⟨S8x512, .f32⟩
  | 38 => ⟨S_, .i32⟩
  | 39 => ⟨S1, .i32⟩
  | 40 => ⟨S8x512x128, .f32⟩
  | 41 => ⟨S1x512, .f32⟩
  | 42 => ⟨S8x512, .f32⟩
  | 43 => ⟨S8x512, .f32⟩
  | 44 => ⟨S8x512, .f32⟩
  | 45 => ⟨S_, .i32⟩
  | 46 => ⟨S1, .i32⟩
  | 47 => ⟨S8x512x128, .f32⟩
  | 48 => ⟨S_, .i32⟩
  | 49 => ⟨S1, .i32⟩
  | 50 => ⟨S_, .f32⟩
  | 51 => ⟨S8x512, .f32⟩
  | 52 => ⟨S8x512x128, .f32⟩
  | 53 => ⟨S_, .i32⟩
  | 54 => ⟨S1, .i32⟩
  | 55 => ⟨S_, .f32⟩
  | 56 => ⟨S8x512, .f32⟩
  | 57 => ⟨S8x512x128, .f32⟩
  | 58 => ⟨S512, .i32⟩
  | 59 => ⟨S8x1x1, .f32⟩
  | 60 => ⟨S512x1, .i32⟩
  | 61 => ⟨S1x512, .i32⟩
  | 62 => ⟨S512x512, .i32⟩
  | 63 => ⟨S512x512, .i32⟩
  | 64 => ⟨S512x512, .i32⟩
  | 65 => ⟨S512x512, .i32⟩
  | 66 => ⟨S512x512, .f32⟩
  | 67 => ⟨S1x512x512, .f32⟩
  | 68 => ⟨S8x512x512, .f32⟩
  | 69 => ⟨S8x512x512, .f32⟩
  | 70 => ⟨S8x512x512, .f32⟩
  | 71 => ⟨S1, .f32⟩
  | 72 => ⟨S8x128x512, .bf16⟩
  | 73 => ⟨S8x512x128, .bf16⟩
  | 74 => ⟨S128x1, .f32⟩
  | 75 => ⟨S2x8192x1024, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | .local _ .vmem, ⟨0, _⟩ => ⟨S128x512, .bf16⟩
  | .local _ .vmem, ⟨1, _⟩ => ⟨S128x512, .bf16⟩
  | .local _ .vmem, ⟨2, _⟩ => ⟨S1x8192x128, .bf16⟩
  | .local _ .vmem, ⟨3, _⟩ => ⟨S1x8192x128, .bf16⟩
  | .local _ .vmem, ⟨4, _⟩ => ⟨S128x8192, .bf16⟩
  | .local _ .vmem, ⟨5, _⟩ => ⟨S128x8192, .bf16⟩
  | .local _ .vmem, ⟨6, _⟩ => ⟨S1x128x512, .bf16⟩
  | .local _ .vmem, ⟨7, _⟩ => ⟨S1x128x512, .bf16⟩
  | .local _ .vmem, ⟨8, _⟩ => ⟨S1x512x128, .bf16⟩
  | .local _ .vmem, ⟨9, _⟩ => ⟨S1x512x128, .bf16⟩
  | .local _ .vmem, ⟨10, _⟩ => ⟨S1x512x512, .f32⟩
  | .local _ .vmem, ⟨11, _⟩ => ⟨S1x512x512, .f32⟩
  | .local _ .vmem, ⟨12, _⟩ => ⟨S128x1, .f32⟩
  | .local _ .vmem, ⟨13, _⟩ => ⟨S1x512x128, .bf16⟩
  | .local _ .vmem, ⟨14, _⟩ => ⟨S1x512x128, .bf16⟩
  | .local _ .vmem, ⟨15, _⟩ => ⟨S1x1024, .f32⟩
  | .local _ .vmem, ⟨16, _⟩ => ⟨S144x1024, .f32⟩
  | .local _ .vmem, ⟨17, _⟩ => ⟨S512x1024, .f32⟩
  | .local _ .vmem, ⟨18, _⟩ => ⟨S512x1024, .f32⟩
  | .local _ .smem, ⟨0, _⟩ => ⟨S8, .f32⟩
  | .local _ .smem, ⟨1, _⟩ => ⟨S1, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_c : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_0 : Ref sig .tc := ⟨.hbm, 54, rfl⟩
abbrev main_call0_v12 : Ref sig .tc := ⟨.hbm, 55, rfl⟩
abbrev main_call0_v13 : Ref sig .tc := ⟨.hbm, 56, rfl⟩
abbrev main_v25 : Ref sig .tc := ⟨.hbm, 57, rfl⟩
abbrev main_c_6 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_c_7 : Ref sig .tc := ⟨.hbm, 62, rfl⟩
abbrev main_call1_v0 : Ref sig .tc := ⟨.hbm, 63, rfl⟩
abbrev main_call1_c : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_c_1 : Ref sig .tc := ⟨.hbm, 70, rfl⟩
abbrev main_call1_v5 : Ref sig .tc := ⟨.hbm, 71, rfl⟩
abbrev main_call1_v6 : Ref sig .tc := ⟨.hbm, 72, rfl⟩
abbrev main_call1_c_2 : Ref sig .tc := ⟨.hbm, 73, rfl⟩
abbrev main_call1_v7 : Ref sig .tc := ⟨.hbm, 74, rfl⟩
abbrev main_call1_v8 : Ref sig .tc := ⟨.hbm, 75, rfl⟩
abbrev main_call1_c_3 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_c_8 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_c : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_0 : Ref sig .tc := ⟨.hbm, 100, rfl⟩
abbrev main_call2_v12 : Ref sig .tc := ⟨.hbm, 101, rfl⟩
abbrev main_call2_v13 : Ref sig .tc := ⟨.hbm, 102, rfl⟩
abbrev main_v32 : Ref sig .tc := ⟨.hbm, 103, rfl⟩
abbrev main_c_9 : Ref sig .tc := ⟨.hbm, 104, rfl⟩
abbrev main_v33 : Ref sig .tc := ⟨.hbm, 105, rfl⟩
abbrev main_v34 : Ref sig .tc := ⟨.hbm, 106, rfl⟩
abbrev main_v35 : Ref sig .tc := ⟨.hbm, 107, rfl⟩
abbrev main_c_10 : Ref sig .tc := ⟨.hbm, 108, rfl⟩
abbrev main_call3_v0 : Ref sig .tc := ⟨.hbm, 109, rfl⟩
abbrev main_call3_c : Ref sig .tc := ⟨.hbm, 110, rfl⟩
abbrev main_call3_v1 : Ref sig .tc := ⟨.hbm, 111, rfl⟩
abbrev main_call3_c_0 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_c_1 : Ref sig .tc := ⟨.hbm, 116, rfl⟩
abbrev main_call3_v5 : Ref sig .tc := ⟨.hbm, 117, rfl⟩
abbrev main_call3_v6 : Ref sig .tc := ⟨.hbm, 118, rfl⟩
abbrev main_call3_c_2 : Ref sig .tc := ⟨.hbm, 119, rfl⟩
abbrev main_call3_v7 : Ref sig .tc := ⟨.hbm, 120, rfl⟩
abbrev main_call3_v8 : Ref sig .tc := ⟨.hbm, 121, rfl⟩
abbrev main_call3_c_3 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_call3_v12 : Ref sig .tc := ⟨.hbm, 126, rfl⟩
abbrev main_call3_v13 : Ref sig .tc := ⟨.hbm, 127, rfl⟩
abbrev main_call3_v14 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_cst_11 : Ref sig .tc := ⟨.hbm, 132, rfl⟩
abbrev main_v39 : Ref sig .tc := ⟨.hbm, 133, rfl⟩
abbrev main_c_12 : Ref sig .tc := ⟨.hbm, 134, rfl⟩
abbrev main_v40 : Ref sig .tc := ⟨.hbm, 135, rfl⟩
abbrev main_cst_13 : Ref sig .tc := ⟨.hbm, 136, rfl⟩
abbrev main_v41 : Ref sig .tc := ⟨.hbm, 137, rfl⟩
abbrev main_v42 : Ref sig .tc := ⟨.hbm, 138, rfl⟩
abbrev main_c_14 : Ref sig .tc := ⟨.hbm, 139, rfl⟩
abbrev main_v43 : Ref sig .tc := ⟨.hbm, 140, rfl⟩
abbrev main_cst_15 : Ref sig .tc := ⟨.hbm, 141, rfl⟩
abbrev main_v44 : Ref sig .tc := ⟨.hbm, 142, rfl⟩
abbrev main_v45 : Ref sig .tc := ⟨.hbm, 143, rfl⟩
abbrev main_v46 : Ref sig .tc := ⟨.hbm, 144, rfl⟩
abbrev main_v47 : Ref sig .tc := ⟨.hbm, 145, rfl⟩
abbrev main_v48 : Ref sig .tc := ⟨.hbm, 146, rfl⟩
abbrev main_v49 : Ref sig .tc := ⟨.hbm, 147, rfl⟩
abbrev main_v50 : Ref sig .tc := ⟨.hbm, 148, rfl⟩
abbrev main_c_16 : Ref sig .tc := ⟨.hbm, 149, rfl⟩
abbrev main_v51 : Ref sig .tc := ⟨.hbm, 150, rfl⟩
abbrev main_v52 : Ref sig .tc := ⟨.hbm, 151, rfl⟩
abbrev main_v53 : Ref sig .tc := ⟨.hbm, 152, rfl⟩
abbrev main_v54 : Ref sig .tc := ⟨.hbm, 153, rfl⟩
abbrev main_v55 : Ref sig .tc := ⟨.hbm, 154, rfl⟩
abbrev main_v56 : Ref sig .tc := ⟨.hbm, 155, rfl⟩
abbrev main_v57 : Ref sig .tc := ⟨.hbm, 156, rfl⟩
abbrev main_c_17 : Ref sig .tc := ⟨.hbm, 157, rfl⟩
abbrev main_v58 : Ref sig .tc := ⟨.hbm, 158, rfl⟩
abbrev main_v59 : Ref sig .tc := ⟨.hbm, 159, rfl⟩
abbrev main_cst_18 : Ref sig .tc := ⟨.hbm, 160, rfl⟩
abbrev main_v60 : Ref sig .tc := ⟨.hbm, 161, rfl⟩
abbrev main_v61 : Ref sig .tc := ⟨.hbm, 162, rfl⟩
abbrev main_v62 : Ref sig .tc := ⟨.hbm, 163, rfl⟩
abbrev main_v63 : Ref sig .tc := ⟨.hbm, 164, rfl⟩
abbrev main_v64 : Ref sig .tc := ⟨.hbm, 165, rfl⟩
abbrev main_c_19 : Ref sig .tc := ⟨.hbm, 166, rfl⟩
abbrev main_v65 : Ref sig .tc := ⟨.hbm, 167, rfl⟩
abbrev main_v66 : Ref sig .tc := ⟨.hbm, 168, rfl⟩
abbrev main_v67 : Ref sig .tc := ⟨.hbm, 169, rfl⟩
abbrev main_v68 : Ref sig .tc := ⟨.hbm, 170, rfl⟩
abbrev main_v69 : Ref sig .tc := ⟨.hbm, 171, rfl⟩
abbrev main_v70 : Ref sig .tc := ⟨.hbm, 172, rfl⟩
abbrev main_c_20 : Ref sig .tc := ⟨.hbm, 173, rfl⟩
abbrev main_v71 : Ref sig .tc := ⟨.hbm, 174, rfl⟩
abbrev main_v72 : Ref sig .tc := ⟨.hbm, 175, rfl⟩
abbrev main_c_21 : Ref sig .tc := ⟨.hbm, 176, rfl⟩
abbrev main_v73 : Ref sig .tc := ⟨.hbm, 177, rfl⟩
abbrev main_cst_22 : Ref sig .tc := ⟨.hbm, 178, rfl⟩
abbrev main_v74 : Ref sig .tc := ⟨.hbm, 179, rfl⟩
abbrev main_v75 : Ref sig .tc := ⟨.hbm, 180, rfl⟩
abbrev main_c_23 : Ref sig .tc := ⟨.hbm, 181, rfl⟩
abbrev main_v76 : Ref sig .tc := ⟨.hbm, 182, rfl⟩
abbrev main_cst_24 : Ref sig .tc := ⟨.hbm, 183, rfl⟩
abbrev main_v77 : Ref sig .tc := ⟨.hbm, 184, rfl⟩
abbrev main_v78 : Ref sig .tc := ⟨.hbm, 185, rfl⟩
abbrev main_v79 : Ref sig .tc := ⟨.hbm, 186, rfl⟩
abbrev main_v80 : Ref sig .tc := ⟨.hbm, 187, rfl⟩
abbrev main_v81 : Ref sig .tc := ⟨.hbm, 188, rfl⟩
abbrev main_v82 : Ref sig .tc := ⟨.hbm, 189, rfl⟩
abbrev main_v83 : Ref sig .tc := ⟨.hbm, 190, rfl⟩
abbrev main_v84 : Ref sig .tc := ⟨.hbm, 191, rfl⟩
abbrev main_v85 : Ref sig .tc := ⟨.hbm, 192, rfl⟩
abbrev main_v86 : Ref sig .tc := ⟨.hbm, 193, rfl⟩
abbrev main_v87 : Ref sig .tc := ⟨.hbm, 194, rfl⟩
abbrev main_v88 : Ref sig .tc := ⟨.hbm, 195, rfl⟩
abbrev main_v89 : Ref sig .tc := ⟨.hbm, 196, rfl⟩
abbrev main_v90 : Ref sig .tc := ⟨.hbm, 197, rfl⟩
abbrev main_v91 : Ref sig .tc := ⟨.hbm, 198, rfl⟩
abbrev main_v92 : Ref sig .tc := ⟨.hbm, 199, rfl⟩
abbrev main_v93 : Ref sig .tc := ⟨.hbm, 200, rfl⟩
abbrev main_v94 : Ref sig .tc := ⟨.hbm, 201, rfl⟩
abbrev main_v95 : Ref sig .tc := ⟨.hbm, 202, rfl⟩
abbrev main_v96 : Ref sig .tc := ⟨.hbm, 203, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨3, ![2, 8, 16], ![false, false, false]⟩

def k0_off1 (i : grid0.Coords) : Fin 1 → Nat :=
  let arg1 : BitVec 32 := BitVec.ofNat 32 (i 1).val
  let v1 : Index := Scalar.indexCast arg1
  ![v1.toNat]
def k0_mult1 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v33 : BitVec 1 := Scalar.cmpi .sgt v0 c0_i32
  let v34 : BitVec 32 := Scalar.extui v33
  let c0_i32_18 : BitVec 32 := 0#32
  let v35 : BitVec 1 := Scalar.cmpi .slt v0 c0_i32_18
  let v36 : BitVec 32 := Scalar.extui v35
  let v37 : BitVec 32 := Scalar.subi v34 v36
  let c512_i32_17 : BitVec 32 := 512#32
  let c0_i32_19 : BitVec 32 := 0#32
  let v38 : BitVec 1 := Scalar.cmpi .sgt c512_i32_17 c0_i32_19
  let v39 : BitVec 32 := Scalar.extui v38
  let c0_i32_20 : BitVec 32 := 0#32
  let v40 : BitVec 1 := Scalar.cmpi .slt c512_i32_17 c0_i32_20
  let v41 : BitVec 32 := Scalar.extui v40
  let v42 : BitVec 32 := Scalar.subi v39 v41
  let v43 : BitVec 1 := Scalar.cmpi .ne v37 v42
  let v44 : BitVec 32 := Scalar.remsi v0 c512_i32_17
  let c0_i32_21 : BitVec 32 := 0#32
  let v45 : BitVec 1 := Scalar.cmpi .ne v44 c0_i32_21
  let v46 : BitVec 1 := Scalar.andi v43 v45
  let v32 : BitVec 32 := Scalar.divsi v0 c512_i32_17
  let c1_i32 : BitVec 32 := 1#32
  let v47 : BitVec 32 := Scalar.subi v32 c1_i32
  let v48 : BitVec 32 := Scalar.select v46 v47 v32
  let c512_i32_22 : BitVec 32 := 512#32
  let v49 : BitVec 32 := Scalar.muli v48 c512_i32_22
  v49
def k0_off2 (i : grid0.Coords) : Fin 3 → Nat :=
  let c0_26 : Index := 0#32
  let arg2 : BitVec 32 := BitVec.ofNat 32 (i 2).val
  let c512_i32 : BitVec 32 := 512#32
  let v0 : BitVec 32 := Scalar.muli arg2 c512_i32
  let c0_i32 : BitVec 32 := 0#32
  let v33 : BitVec 1 := Scalar.cmpi .sgt v0 c0_i32
  let v34 : BitVec 32 := Scalar.extui v33
  let c0_i32_18 : BitVec 32 := 0#32
  let v35 : BitVec 1 := Scalar.cmpi .slt v0 c0_i32_18
  let v36 : BitVec 32 := Scalar.extui v35
  let v37 : BitVec 32 := Scalar.subi v34 v36
  let c512_i32_17 : BitVec 32 := 512#32
  let c0_i32_19 : BitVec 32 := 0#32
  let v38 : BitVec 1 := Scalar.cmpi .sgt c512_i32_17 c0_i32_19
  let v39 : BitVec 32 := Scalar.extui v38
  let c0_i32_20 : BitVec 32 := 0#32
  let v40 : BitVec 1 := Scalar.cmpi .slt c512_i32_17 c0_i32_20
  let v41 : BitVec 32 := Scalar.extui v40
  let v42 : BitVec 32 := Scalar.subi v39 v41
  let v43 : BitVec 1 := Scalar.cmpi .ne v37 v42
  let v44 : BitVec 32 := Scalar.remsi v0 c512_i32_17
  let c0_i32_21 : BitVec 32 := 0#32
  let v45 : BitVec 1 := Scalar.cmpi .ne v44 c0_i32_21
  let v46 : BitVec 1 := Scalar.andi v43 v45
  let v32 : BitVec 32 := Scalar.divsi v0 c512_i32_17
  let c1_i32 : BitVec 32 := 1#32
  let v47 : BitVec 32 := Scalar.subi v32 c1_i32
  let v48 : BitVec 32 := Scalar.select v46 v47 v32
  let c512_i32_22 : BitVec 32 := 512#32
  let v49 : BitVec 32 := Scalar.muli v48 c512_i32_22
  let v50 : BitVec 32 := v49
  let v53 : Index := Scalar.indexCast v50
  let c0_27 : Index := 0#32
  ![0, v53.toNat, 0]
def k0_mult2 (i : grid0.Coords) : BitVec 32 :=
  let c0_i32_32 : BitVec 32 := 0#32
  let c0_i32_31 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v33 : BitVec 1 := Scalar.cmpi .sgt v0 c0_i32
  let v34 : BitVec 32 := Scalar.extui v33
  let c0_i32_18 : BitVec 32 := 0#32
  let v35 : BitVec 1 := Scalar.cmpi .slt v0 c0_i32_18
  let v36 : BitVec 32 := Scalar.extui v35
  let v37 : BitVec 32 := Scalar.subi v34 v36
  let c512_i32_17 : BitVec 32 := 512#32
  let c0_i32_19 : BitVec 32 := 0#32
  let v38 : BitVec 1 := Scalar.cmpi .sgt c512_i32_17 c0_i32_19
  let v39 : BitVec 32 := Scalar.extui v38
  let c0_i32_20 : BitVec 32 := 0#32
  let v40 : BitVec 1 := Scalar.cmpi .slt c512_i32_17 c0_i32_20
  let v41 : BitVec 32 := Scalar.extui v40
  let v42 : BitVec 32 := Scalar.subi v39 v41
  let v43 : BitVec 1 := Scalar.cmpi .ne v37 v42
  let v44 : BitVec 32 := Scalar.remsi v0 c512_i32_17
  let c0_i32_21 : BitVec 32 := 0#32
  let v45 : BitVec 1 := Scalar.cmpi .ne v44 c0_i32_21
  let v46 : BitVec 1 := Scalar.andi v43 v45
  let v32 : BitVec 32 := Scalar.divsi v0 c512_i32_17
  let c1_i32 : BitVec 32 := 1#32
  let v47 : BitVec 32 := Scalar.subi v32 c1_i32
  let v48 : BitVec 32 := Scalar.select v46 v47 v32
  let v62 : BitVec 1 := Scalar.cmpi .sge c0_i32_31 v48
  let v63 : BitVec 32 := Scalar.extui v62
  let v64 : BitVec 32 := Scalar.addi c0_i32_32 v63
  let c512_i32_33 : BitVec 32 := 512#32
  let v65 : BitVec 32 := Scalar.muli v64 c512_i32_33
  v65
def k0_off3 (i : grid0.Coords) : Fin 3 → Nat :=
  let c0_34 : Index := 0#32
  let c0_i32_32 : BitVec 32 := 0#32
  let c0_i32_31 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v33 : BitVec 1 := Scalar.cmpi .sgt v0 c0_i32
  let v34 : BitVec 32 := Scalar.extui v33
  let c0_i32_18 : BitVec 32 := 0#32
  let v35 : BitVec 1 := Scalar.cmpi .slt v0 c0_i32_18
  let v36 : BitVec 32 := Scalar.extui v35
  let v37 : BitVec 32 := Scalar.subi v34 v36
  let c512_i32_17 : BitVec 32 := 512#32
  let c0_i32_19 : BitVec 32 := 0#32
  let v38 : BitVec 1 := Scalar.cmpi .sgt c512_i32_17 c0_i32_19
  let v39 : BitVec 32 := Scalar.extui v38
  let c0_i32_20 : BitVec 32 := 0#32
  let v40 : BitVec 1 := Scalar.cmpi .slt c512_i32_17 c0_i32_20
  let v41 : BitVec 32 := Scalar.extui v40
  let v42 : BitVec 32 := Scalar.subi v39 v41
  let v43 : BitVec 1 := Scalar.cmpi .ne v37 v42
  let v44 : BitVec 32 := Scalar.remsi v0 c512_i32_17
  let c0_i32_21 : BitVec 32 := 0#32
  let v45 : BitVec 1 := Scalar.cmpi .ne v44 c0_i32_21
  let v46 : BitVec 1 := Scalar.andi v43 v45
  let v32 : BitVec 32 := Scalar.divsi v0 c512_i32_17
  let c1_i32 : BitVec 32 := 1#32
  let v47 : BitVec 32 := Scalar.subi v32 c1_i32
  let v48 : BitVec 32 := Scalar.select v46 v47 v32
  let v62 : BitVec 1 := Scalar.cmpi .sge c0_i32_31 v48
  let v63 : BitVec 32 := Scalar.extui v62
  let v64 : BitVec 32 := Scalar.addi c0_i32_32 v63
  let c512_i32_33 : BitVec 32 := 512#32
  let v65 : BitVec 32 := Scalar.muli v64 c512_i32_33
  let v66 : BitVec 32 := v65
  let v67 : Index := Scalar.indexCast v66
  let c0_35 : Index := 0#32
  ![0, v67.toNat, 0]
def k0_mult3 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v33 : BitVec 1 := Scalar.cmpi .sgt v0 c0_i32
  let v34 : BitVec 32 := Scalar.extui v33
  let c0_i32_18 : BitVec 32 := 0#32
  let v35 : BitVec 1 := Scalar.cmpi .slt v0 c0_i32_18
  let v36 : BitVec 32 := Scalar.extui v35
  let v37 : BitVec 32 := Scalar.subi v34 v36
  let c512_i32_17 : BitVec 32 := 512#32
  let c0_i32_19 : BitVec 32 := 0#32
  let v38 : BitVec 1 := Scalar.cmpi .sgt c512_i32_17 c0_i32_19
  let v39 : BitVec 32 := Scalar.extui v38
  let c0_i32_20 : BitVec 32 := 0#32
  let v40 : BitVec 1 := Scalar.cmpi .slt c512_i32_17 c0_i32_20
  let v41 : BitVec 32 := Scalar.extui v40
  let v42 : BitVec 32 := Scalar.subi v39 v41
  let v43 : BitVec 1 := Scalar.cmpi .ne v37 v42
  let v44 : BitVec 32 := Scalar.remsi v0 c512_i32_17
  let c0_i32_21 : BitVec 32 := 0#32
  let v45 : BitVec 1 := Scalar.cmpi .ne v44 c0_i32_21
  let v46 : BitVec 1 := Scalar.andi v43 v45
  let v32 : BitVec 32 := Scalar.divsi v0 c512_i32_17
  let c1_i32 : BitVec 32 := 1#32
  let v47 : BitVec 32 := Scalar.subi v32 c1_i32
  let v48 : BitVec 32 := Scalar.select v46 v47 v32
  let c512_i32_41 : BitVec 32 := 512#32
  let v78 : BitVec 32 := Scalar.muli v48 c512_i32_41
  v78
def k0_off4 (i : grid0.Coords) : Fin 2 → Nat :=
  let c0_42 : Index := 0#32
  let arg2 : BitVec 32 := BitVec.ofNat 32 (i 2).val
  let c512_i32 : BitVec 32 := 512#32
  let v0 : BitVec 32 := Scalar.muli arg2 c512_i32
  let c0_i32 : BitVec 32 := 0#32
  let v33 : BitVec 1 := Scalar.cmpi .sgt v0 c0_i32
  let v34 : BitVec 32 := Scalar.extui v33
  let c0_i32_18 : BitVec 32 := 0#32
  let v35 : BitVec 1 := Scalar.cmpi .slt v0 c0_i32_18
  let v36 : BitVec 32 := Scalar.extui v35
  let v37 : BitVec 32 := Scalar.subi v34 v36
  let c512_i32_17 : BitVec 32 := 512#32
  let c0_i32_19 : BitVec 32 := 0#32
  let v38 : BitVec 1 := Scalar.cmpi .sgt c512_i32_17 c0_i32_19
  let v39 : BitVec 32 := Scalar.extui v38
  let c0_i32_20 : BitVec 32 := 0#32
  let v40 : BitVec 1 := Scalar.cmpi .slt c512_i32_17 c0_i32_20
  let v41 : BitVec 32 := Scalar.extui v40
  let v42 : BitVec 32 := Scalar.subi v39 v41
  let v43 : BitVec 1 := Scalar.cmpi .ne v37 v42
  let v44 : BitVec 32 := Scalar.remsi v0 c512_i32_17
  let c0_i32_21 : BitVec 32 := 0#32
  let v45 : BitVec 1 := Scalar.cmpi .ne v44 c0_i32_21
  let v46 : BitVec 1 := Scalar.andi v43 v45
  let v32 : BitVec 32 := Scalar.divsi v0 c512_i32_17
  let c1_i32 : BitVec 32 := 1#32
  let v47 : BitVec 32 := Scalar.subi v32 c1_i32
  let v48 : BitVec 32 := Scalar.select v46 v47 v32
  let c512_i32_41 : BitVec 32 := 512#32
  let v78 : BitVec 32 := Scalar.muli v48 c512_i32_41
  let v79 : BitVec 32 := v78
  let v80 : Index := Scalar.indexCast v79
  ![0, v80.toNat]
@[reducible] def k0_t1_loop : Scf.Loop 32 :=
  let c0_i32_55 : BitVec 32 := 0#32
  let c7_i32 : BitVec 32 := 7#32
  let v109 : BitVec 32 := Scalar.addi c0_i32_55 c7_i32
  let c1_i32_56 : BitVec 32 := 1#32
  ⟨c0_i32_55, v109, c1_i32_56⟩
def k0_mult4 (i : grid0.Coords) (k0_t1 : Fin k0_t1_loop.trips) : BitVec 32 :=
  let c2_i32 : BitVec 32 := 2#32
  let c0_i32_55 : BitVec 32 := 0#32
  let c1_i32_56 : BitVec 32 := 1#32
  let arg17 : BitVec 32 := Scf.iv c0_i32_55 c1_i32_56 k0_t1
  let v183 : BitVec 32 := Scalar.muli c2_i32 arg17
  let c1_i32_85 : BitVec 32 := 1#32
  let v184 : BitVec 32 := Scalar.addi v183 c1_i32_85
  let arg2 : BitVec 32 := BitVec.ofNat 32 (i 2).val
  let c512_i32 : BitVec 32 := 512#32
  let v0 : BitVec 32 := Scalar.muli arg2 c512_i32
  let c0_i32 : BitVec 32 := 0#32
  let v33 : BitVec 1 := Scalar.cmpi .sgt v0 c0_i32
  let v34 : BitVec 32 := Scalar.extui v33
  let c0_i32_18 : BitVec 32 := 0#32
  let v35 : BitVec 1 := Scalar.cmpi .slt v0 c0_i32_18
  let v36 : BitVec 32 := Scalar.extui v35
  let v37 : BitVec 32 := Scalar.subi v34 v36
  let c512_i32_17 : BitVec 32 := 512#32
  let c0_i32_19 : BitVec 32 := 0#32
  let v38 : BitVec 1 := Scalar.cmpi .sgt c512_i32_17 c0_i32_19
  let v39 : BitVec 32 := Scalar.extui v38
  let c0_i32_20 : BitVec 32 := 0#32
  let v40 : BitVec 1 := Scalar.cmpi .slt c512_i32_17 c0_i32_20
  let v41 : BitVec 32 := Scalar.extui v40
  let v42 : BitVec 32 := Scalar.subi v39 v41
  let v43 : BitVec 1 := Scalar.cmpi .ne v37 v42
  let v44 : BitVec 32 := Scalar.remsi v0 c512_i32_17
  let c0_i32_21 : BitVec 32 := 0#32
  let v45 : BitVec 1 := Scalar.cmpi .ne v44 c0_i32_21
  let v46 : BitVec 1 := Scalar.andi v43 v45
  let v32 : BitVec 32 := Scalar.divsi v0 c512_i32_17
  let c1_i32 : BitVec 32 := 1#32
  let v47 : BitVec 32 := Scalar.subi v32 c1_i32
  let v48 : BitVec 32 := Scalar.select v46 v47 v32
  let v185 : BitVec 1 := Scalar.cmpi .sge v184 v48
  let v186 : BitVec 32 := Scalar.extui v185
  let v187 : BitVec 32 := Scalar.addi v184 v186
  let c512_i32_86 : BitVec 32 := 512#32
  let v188 : BitVec 32 := Scalar.muli v187 c512_i32_86
  v188
def k0_off5 (i : grid0.Coords) (k0_t1 : Fin k0_t1_loop.trips) (c1_i32_85 : BitVec 32) : Fin 3 → Nat :=
  let c0_87 : Index := 0#32
  let c2_i32 : BitVec 32 := 2#32
  let c0_i32_55 : BitVec 32 := 0#32
  let c1_i32_56 : BitVec 32 := 1#32
  let arg17 : BitVec 32 := Scf.iv c0_i32_55 c1_i32_56 k0_t1
  let v183 : BitVec 32 := Scalar.muli c2_i32 arg17
  let v184 : BitVec 32 := Scalar.addi v183 c1_i32_85
  let arg2 : BitVec 32 := BitVec.ofNat 32 (i 2).val
  let c512_i32 : BitVec 32 := 512#32
  let v0 : BitVec 32 := Scalar.muli arg2 c512_i32
  let c0_i32 : BitVec 32 := 0#32
  let v33 : BitVec 1 := Scalar.cmpi .sgt v0 c0_i32
  let v34 : BitVec 32 := Scalar.extui v33
  let c0_i32_18 : BitVec 32 := 0#32
  let v35 : BitVec 1 := Scalar.cmpi .slt v0 c0_i32_18
  let v36 : BitVec 32 := Scalar.extui v35
  let v37 : BitVec 32 := Scalar.subi v34 v36
  let c512_i32_17 : BitVec 32 := 512#32
  let c0_i32_19 : BitVec 32 := 0#32
  let v38 : BitVec 1 := Scalar.cmpi .sgt c512_i32_17 c0_i32_19
  let v39 : BitVec 32 := Scalar.extui v38
  let c0_i32_20 : BitVec 32 := 0#32
  let v40 : BitVec 1 := Scalar.cmpi .slt c512_i32_17 c0_i32_20
  let v41 : BitVec 32 := Scalar.extui v40
  let v42 : BitVec 32 := Scalar.subi v39 v41
  let v43 : BitVec 1 := Scalar.cmpi .ne v37 v42
  let v44 : BitVec 32 := Scalar.remsi v0 c512_i32_17
  let c0_i32_21 : BitVec 32 := 0#32
  let v45 : BitVec 1 := Scalar.cmpi .ne v44 c0_i32_21
  let v46 : BitVec 1 := Scalar.andi v43 v45
  let v32 : BitVec 32 := Scalar.divsi v0 c512_i32_17
  let c1_i32 : BitVec 32 := 1#32
  let v47 : BitVec 32 := Scalar.subi v32 c1_i32
  let v48 : BitVec 32 := Scalar.select v46 v47 v32
  let v185 : BitVec 1 := Scalar.cmpi .sge v184 v48
  let v186 : BitVec 32 := Scalar.extui v185
  let v187 : BitVec 32 := Scalar.addi v184 v186
  let c512_i32_86 : BitVec 32 := 512#32
  let v188 : BitVec 32 := Scalar.muli v187 c512_i32_86
  let v189 : BitVec 32 := v188
  let v190 : Index := Scalar.indexCast v189
  let c0_88 : Index := 0#32
  ![0, v190.toNat, 0]
def k0_mult5 (i : grid0.Coords) (k0_t1 : Fin k0_t1_loop.trips) : BitVec 32 :=
  let c2_i32_92 : BitVec 32 := 2#32
  let c0_i32_55 : BitVec 32 := 0#32
  let c1_i32_56 : BitVec 32 := 1#32
  let arg17 : BitVec 32 := Scf.iv c0_i32_55 c1_i32_56 k0_t1
  let v200 : BitVec 32 := Scalar.muli c2_i32_92 arg17
  let arg2 : BitVec 32 := BitVec.ofNat 32 (i 2).val
  let c512_i32 : BitVec 32 := 512#32
  let v0 : BitVec 32 := Scalar.muli arg2 c512_i32
  let c0_i32 : BitVec 32 := 0#32
  let v33 : BitVec 1 := Scalar.cmpi .sgt v0 c0_i32
  let v34 : BitVec 32 := Scalar.extui v33
  let c0_i32_18 : BitVec 32 := 0#32
  let v35 : BitVec 1 := Scalar.cmpi .slt v0 c0_i32_18
  let v36 : BitVec 32 := Scalar.extui v35
  let v37 : BitVec 32 := Scalar.subi v34 v36
  let c512_i32_17 : BitVec 32 := 512#32
  let c0_i32_19 : BitVec 32 := 0#32
  let v38 : BitVec 1 := Scalar.cmpi .sgt c512_i32_17 c0_i32_19
  let v39 : BitVec 32 := Scalar.extui v38
  let c0_i32_20 : BitVec 32 := 0#32
  let v40 : BitVec 1 := Scalar.cmpi .slt c512_i32_17 c0_i32_20
  let v41 : BitVec 32 := Scalar.extui v40
  let v42 : BitVec 32 := Scalar.subi v39 v41
  let v43 : BitVec 1 := Scalar.cmpi .ne v37 v42
  let v44 : BitVec 32 := Scalar.remsi v0 c512_i32_17
  let c0_i32_21 : BitVec 32 := 0#32
  let v45 : BitVec 1 := Scalar.cmpi .ne v44 c0_i32_21
  let v46 : BitVec 1 := Scalar.andi v43 v45
  let v32 : BitVec 32 := Scalar.divsi v0 c512_i32_17
  let c1_i32 : BitVec 32 := 1#32
  let v47 : BitVec 32 := Scalar.subi v32 c1_i32
  let v48 : BitVec 32 := Scalar.select v46 v47 v32
  let v201 : BitVec 1 := Scalar.cmpi .sge v200 v48
  let v202 : BitVec 32 := Scalar.extui v201
  let v203 : BitVec 32 := Scalar.addi v200 v202
  let c512_i32_96 : BitVec 32 := 512#32
  let v210 : BitVec 32 := Scalar.muli v203 c512_i32_96
  v210
def k0_off6 (i : grid0.Coords) (k0_t1 : Fin k0_t1_loop.trips) : Fin 2 → Nat :=
  let c0_97 : Index := 0#32
  let c2_i32_92 : BitVec 32 := 2#32
  let c0_i32_55 : BitVec 32 := 0#32
  let c1_i32_56 : BitVec 32 := 1#32
  let arg17 : BitVec 32 := Scf.iv c0_i32_55 c1_i32_56 k0_t1
  let v200 : BitVec 32 := Scalar.muli c2_i32_92 arg17
  let arg2 : BitVec 32 := BitVec.ofNat 32 (i 2).val
  let c512_i32 : BitVec 32 := 512#32
  let v0 : BitVec 32 := Scalar.muli arg2 c512_i32
  let c0_i32 : BitVec 32 := 0#32
  let v33 : BitVec 1 := Scalar.cmpi .sgt v0 c0_i32
  let v34 : BitVec 32 := Scalar.extui v33
  let c0_i32_18 : BitVec 32 := 0#32
  let v35 : BitVec 1 := Scalar.cmpi .slt v0 c0_i32_18
  let v36 : BitVec 32 := Scalar.extui v35
  let v37 : BitVec 32 := Scalar.subi v34 v36
  let c512_i32_17 : BitVec 32 := 512#32
  let c0_i32_19 : BitVec 32 := 0#32
  let v38 : BitVec 1 := Scalar.cmpi .sgt c512_i32_17 c0_i32_19
  let v39 : BitVec 32 := Scalar.extui v38
  let c0_i32_20 : BitVec 32 := 0#32
  let v40 : BitVec 1 := Scalar.cmpi .slt c512_i32_17 c0_i32_20
  let v41 : BitVec 32 := Scalar.extui v40
  let v42 : BitVec 32 := Scalar.subi v39 v41
  let v43 : BitVec 1 := Scalar.cmpi .ne v37 v42
  let v44 : BitVec 32 := Scalar.remsi v0 c512_i32_17
  let c0_i32_21 : BitVec 32 := 0#32
  let v45 : BitVec 1 := Scalar.cmpi .ne v44 c0_i32_21
  let v46 : BitVec 1 := Scalar.andi v43 v45
  let v32 : BitVec 32 := Scalar.divsi v0 c512_i32_17
  let c1_i32 : BitVec 32 := 1#32
  let v47 : BitVec 32 := Scalar.subi v32 c1_i32
  let v48 : BitVec 32 := Scalar.select v46 v47 v32
  let v201 : BitVec 1 := Scalar.cmpi .sge v200 v48
  let v202 : BitVec 32 := Scalar.extui v201
  let v203 : BitVec 32 := Scalar.addi v200 v202
  let c512_i32_96 : BitVec 32 := 512#32
  let v210 : BitVec 32 := Scalar.muli v203 c512_i32_96
  let v211 : BitVec 32 := v210
  let v212 : Index := Scalar.indexCast v211
  ![0, v212.toNat]
def k0_mult6 (i : grid0.Coords) (k0_t1 : Fin k0_t1_loop.trips) : BitVec 32 :=
  let c2_i32_108 : BitVec 32 := 2#32
  let c0_i32_55 : BitVec 32 := 0#32
  let c1_i32_56 : BitVec 32 := 1#32
  let arg17 : BitVec 32 := Scf.iv c0_i32_55 c1_i32_56 k0_t1
  let v241 : BitVec 32 := Scalar.muli c2_i32_108 arg17
  let c2_i32_109 : BitVec 32 := 2#32
  let v242 : BitVec 32 := Scalar.addi v241 c2_i32_109
  let arg2 : BitVec 32 := BitVec.ofNat 32 (i 2).val
  let c512_i32 : BitVec 32 := 512#32
  let v0 : BitVec 32 := Scalar.muli arg2 c512_i32
  let c0_i32 : BitVec 32 := 0#32
  let v33 : BitVec 1 := Scalar.cmpi .sgt v0 c0_i32
  let v34 : BitVec 32 := Scalar.extui v33
  let c0_i32_18 : BitVec 32 := 0#32
  let v35 : BitVec 1 := Scalar.cmpi .slt v0 c0_i32_18
  let v36 : BitVec 32 := Scalar.extui v35
  let v37 : BitVec 32 := Scalar.subi v34 v36
  let c512_i32_17 : BitVec 32 := 512#32
  let c0_i32_19 : BitVec 32 := 0#32
  let v38 : BitVec 1 := Scalar.cmpi .sgt c512_i32_17 c0_i32_19
  let v39 : BitVec 32 := Scalar.extui v38
  let c0_i32_20 : BitVec 32 := 0#32
  let v40 : BitVec 1 := Scalar.cmpi .slt c512_i32_17 c0_i32_20
  let v41 : BitVec 32 := Scalar.extui v40
  let v42 : BitVec 32 := Scalar.subi v39 v41
  let v43 : BitVec 1 := Scalar.cmpi .ne v37 v42
  let v44 : BitVec 32 := Scalar.remsi v0 c512_i32_17
  let c0_i32_21 : BitVec 32 := 0#32
  let v45 : BitVec 1 := Scalar.cmpi .ne v44 c0_i32_21
  let v46 : BitVec 1 := Scalar.andi v43 v45
  let v32 : BitVec 32 := Scalar.divsi v0 c512_i32_17
  let c1_i32 : BitVec 32 := 1#32
  let v47 : BitVec 32 := Scalar.subi v32 c1_i32
  let v48 : BitVec 32 := Scalar.select v46 v47 v32
  let v243 : BitVec 1 := Scalar.cmpi .sge v242 v48
  let v244 : BitVec 32 := Scalar.extui v243
  let v245 : BitVec 32 := Scalar.addi v242 v244
  let c512_i32_110 : BitVec 32 := 512#32
  let v246 : BitVec 32 := Scalar.muli v245 c512_i32_110
  v246
def k0_mult7 (i : grid0.Coords) (k0_t1 : Fin k0_t1_loop.trips) : BitVec 32 :=
  let c2_i32_116 : BitVec 32 := 2#32
  let c0_i32_55 : BitVec 32 := 0#32
  let c1_i32_56 : BitVec 32 := 1#32
  let arg17 : BitVec 32 := Scf.iv c0_i32_55 c1_i32_56 k0_t1
  let v258 : BitVec 32 := Scalar.muli c2_i32_116 arg17
  let c1_i32_117 : BitVec 32 := 1#32
  let v259 : BitVec 32 := Scalar.addi v258 c1_i32_117
  let arg2 : BitVec 32 := BitVec.ofNat 32 (i 2).val
  let c512_i32 : BitVec 32 := 512#32
  let v0 : BitVec 32 := Scalar.muli arg2 c512_i32
  let c0_i32 : BitVec 32 := 0#32
  let v33 : BitVec 1 := Scalar.cmpi .sgt v0 c0_i32
  let v34 : BitVec 32 := Scalar.extui v33
  let c0_i32_18 : BitVec 32 := 0#32
  let v35 : BitVec 1 := Scalar.cmpi .slt v0 c0_i32_18
  let v36 : BitVec 32 := Scalar.extui v35
  let v37 : BitVec 32 := Scalar.subi v34 v36
  let c512_i32_17 : BitVec 32 := 512#32
  let c0_i32_19 : BitVec 32 := 0#32
  let v38 : BitVec 1 := Scalar.cmpi .sgt c512_i32_17 c0_i32_19
  let v39 : BitVec 32 := Scalar.extui v38
  let c0_i32_20 : BitVec 32 := 0#32
  let v40 : BitVec 1 := Scalar.cmpi .slt c512_i32_17 c0_i32_20
  let v41 : BitVec 32 := Scalar.extui v40
  let v42 : BitVec 32 := Scalar.subi v39 v41
  let v43 : BitVec 1 := Scalar.cmpi .ne v37 v42
  let v44 : BitVec 32 := Scalar.remsi v0 c512_i32_17
  let c0_i32_21 : BitVec 32 := 0#32
  let v45 : BitVec 1 := Scalar.cmpi .ne v44 c0_i32_21
  let v46 : BitVec 1 := Scalar.andi v43 v45
  let v32 : BitVec 32 := Scalar.divsi v0 c512_i32_17
  let c1_i32 : BitVec 32 := 1#32
  let v47 : BitVec 32 := Scalar.subi v32 c1_i32
  let v48 : BitVec 32 := Scalar.select v46 v47 v32
  let v260 : BitVec 1 := Scalar.cmpi .sge v259 v48
  let v261 : BitVec 32 := Scalar.extui v260
  let v262 : BitVec 32 := Scalar.addi v259 v261
  let c512_i32_121 : BitVec 32 := 512#32
  let v269 : BitVec 32 := Scalar.muli v262 c512_i32_121
  v269
def k0_off7 (i : grid0.Coords) (k0_t1 : Fin k0_t1_loop.trips) : Fin 2 → Nat :=
  let c0_122 : Index := 0#32
  let c2_i32_116 : BitVec 32 := 2#32
  let c0_i32_55 : BitVec 32 := 0#32
  let c1_i32_56 : BitVec 32 := 1#32
  let arg17 : BitVec 32 := Scf.iv c0_i32_55 c1_i32_56 k0_t1
  let v258 : BitVec 32 := Scalar.muli c2_i32_116 arg17
  let c1_i32_117 : BitVec 32 := 1#32
  let v259 : BitVec 32 := Scalar.addi v258 c1_i32_117
  let arg2 : BitVec 32 := BitVec.ofNat 32 (i 2).val
  let c512_i32 : BitVec 32 := 512#32
  let v0 : BitVec 32 := Scalar.muli arg2 c512_i32
  let c0_i32 : BitVec 32 := 0#32
  let v33 : BitVec 1 := Scalar.cmpi .sgt v0 c0_i32
  let v34 : BitVec 32 := Scalar.extui v33
  let c0_i32_18 : BitVec 32 := 0#32
  let v35 : BitVec 1 := Scalar.cmpi .slt v0 c0_i32_18
  let v36 : BitVec 32 := Scalar.extui v35
  let v37 : BitVec 32 := Scalar.subi v34 v36
  let c512_i32_17 : BitVec 32 := 512#32
  let c0_i32_19 : BitVec 32 := 0#32
  let v38 : BitVec 1 := Scalar.cmpi .sgt c512_i32_17 c0_i32_19
  let v39 : BitVec 32 := Scalar.extui v38
  let c0_i32_20 : BitVec 32 := 0#32
  let v40 : BitVec 1 := Scalar.cmpi .slt c512_i32_17 c0_i32_20
  let v41 : BitVec 32 := Scalar.extui v40
  let v42 : BitVec 32 := Scalar.subi v39 v41
  let v43 : BitVec 1 := Scalar.cmpi .ne v37 v42
  let v44 : BitVec 32 := Scalar.remsi v0 c512_i32_17
  let c0_i32_21 : BitVec 32 := 0#32
  let v45 : BitVec 1 := Scalar.cmpi .ne v44 c0_i32_21
  let v46 : BitVec 1 := Scalar.andi v43 v45
  let v32 : BitVec 32 := Scalar.divsi v0 c512_i32_17
  let c1_i32 : BitVec 32 := 1#32
  let v47 : BitVec 32 := Scalar.subi v32 c1_i32
  let v48 : BitVec 32 := Scalar.select v46 v47 v32
  let v260 : BitVec 1 := Scalar.cmpi .sge v259 v48
  let v261 : BitVec 32 := Scalar.extui v260
  let v262 : BitVec 32 := Scalar.addi v259 v261
  let c512_i32_121 : BitVec 32 := 512#32
  let v269 : BitVec 32 := Scalar.muli v262 c512_i32_121
  let v270 : BitVec 32 := v269
  let v271 : Index := Scalar.indexCast v270
  ![0, v271.toNat]
def k0_mult8 (i : grid0.Coords) : BitVec 32 :=
  let c14_i32_58 : BitVec 32 := 14#32
  let c14_i32 : BitVec 32 := 14#32
  let arg2 : BitVec 32 := BitVec.ofNat 32 (i 2).val
  let c512_i32 : BitVec 32 := 512#32
  let v0 : BitVec 32 := Scalar.muli arg2 c512_i32
  let c0_i32 : BitVec 32 := 0#32
  let v33 : BitVec 1 := Scalar.cmpi .sgt v0 c0_i32
  let v34 : BitVec 32 := Scalar.extui v33
  let c0_i32_18 : BitVec 32 := 0#32
  let v35 : BitVec 1 := Scalar.cmpi .slt v0 c0_i32_18
  let v36 : BitVec 32 := Scalar.extui v35
  let v37 : BitVec 32 := Scalar.subi v34 v36
  let c512_i32_17 : BitVec 32 := 512#32
  let c0_i32_19 : BitVec 32 := 0#32
  let v38 : BitVec 1 := Scalar.cmpi .sgt c512_i32_17 c0_i32_19
  let v39 : BitVec 32 := Scalar.extui v38
  let c0_i32_20 : BitVec 32 := 0#32
  let v40 : BitVec 1 := Scalar.cmpi .slt c512_i32_17 c0_i32_20
  let v41 : BitVec 32 := Scalar.extui v40
  let v42 : BitVec 32 := Scalar.subi v39 v41
  let v43 : BitVec 1 := Scalar.cmpi .ne v37 v42
  let v44 : BitVec 32 := Scalar.remsi v0 c512_i32_17
  let c0_i32_21 : BitVec 32 := 0#32
  let v45 : BitVec 1 := Scalar.cmpi .ne v44 c0_i32_21
  let v46 : BitVec 1 := Scalar.andi v43 v45
  let v32 : BitVec 32 := Scalar.divsi v0 c512_i32_17
  let c1_i32 : BitVec 32 := 1#32
  let v47 : BitVec 32 := Scalar.subi v32 c1_i32
  let v48 : BitVec 32 := Scalar.select v46 v47 v32
  let v110 : BitVec 1 := Scalar.cmpi .sge c14_i32 v48
  let v111 : BitVec 32 := Scalar.extui v110
  let v112 : BitVec 32 := Scalar.addi c14_i32_58 v111
  let c512_i32_62 : BitVec 32 := 512#32
  let v119 : BitVec 32 := Scalar.muli v112 c512_i32_62
  v119
def k0_off8 (i : grid0.Coords) : Fin 2 → Nat :=
  let c0_63 : Index := 0#32
  let c14_i32_58 : BitVec 32 := 14#32
  let c14_i32 : BitVec 32 := 14#32
  let arg2 : BitVec 32 := BitVec.ofNat 32 (i 2).val
  let c512_i32 : BitVec 32 := 512#32
  let v0 : BitVec 32 := Scalar.muli arg2 c512_i32
  let c0_i32 : BitVec 32 := 0#32
  let v33 : BitVec 1 := Scalar.cmpi .sgt v0 c0_i32
  let v34 : BitVec 32 := Scalar.extui v33
  let c0_i32_18 : BitVec 32 := 0#32
  let v35 : BitVec 1 := Scalar.cmpi .slt v0 c0_i32_18
  let v36 : BitVec 32 := Scalar.extui v35
  let v37 : BitVec 32 := Scalar.subi v34 v36
  let c512_i32_17 : BitVec 32 := 512#32
  let c0_i32_19 : BitVec 32 := 0#32
  let v38 : BitVec 1 := Scalar.cmpi .sgt c512_i32_17 c0_i32_19
  let v39 : BitVec 32 := Scalar.extui v38
  let c0_i32_20 : BitVec 32 := 0#32
  let v40 : BitVec 1 := Scalar.cmpi .slt c512_i32_17 c0_i32_20
  let v41 : BitVec 32 := Scalar.extui v40
  let v42 : BitVec 32 := Scalar.subi v39 v41
  let v43 : BitVec 1 := Scalar.cmpi .ne v37 v42
  let v44 : BitVec 32 := Scalar.remsi v0 c512_i32_17
  let c0_i32_21 : BitVec 32 := 0#32
  let v45 : BitVec 1 := Scalar.cmpi .ne v44 c0_i32_21
  let v46 : BitVec 1 := Scalar.andi v43 v45
  let v32 : BitVec 32 := Scalar.divsi v0 c512_i32_17
  let c1_i32 : BitVec 32 := 1#32
  let v47 : BitVec 32 := Scalar.subi v32 c1_i32
  let v48 : BitVec 32 := Scalar.select v46 v47 v32
  let v110 : BitVec 1 := Scalar.cmpi .sge c14_i32 v48
  let v111 : BitVec 32 := Scalar.extui v110
  let v112 : BitVec 32 := Scalar.addi c14_i32_58 v111
  let c512_i32_62 : BitVec 32 := 512#32
  let v119 : BitVec 32 := Scalar.muli v112 c512_i32_62
  let v120 : BitVec 32 := v119
  let v121 : Index := Scalar.indexCast v120
  ![0, v121.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![arg1.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S128x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ReferenceIdeal.lean ====
abbrev S2x8192x1024 : Shape := ⟨3, ![2, 8192, 1024]⟩
abbrev S64 : Shape := ⟨1, ![64]⟩
abbrev S128 : Shape := ⟨1, ![128]⟩
abbrev S_ : Shape := ⟨0, ![]⟩
abbrev S2x8192x8x2x64 : Shape := ⟨5, ![2, 8192, 8, 2, 64]⟩
abbrev S2x8x2x8192x64 : Shape := ⟨5, ![2, 8, 2, 8192, 64]⟩
abbrev S2x8192x8x128 : Shape := ⟨4, ![2, 8192, 8, 128]⟩
abbrev S2x8x8192x128 : Shape := ⟨4, ![2, 8, 8192, 128]⟩
abbrev S8 : Shape := ⟨1, ![8]⟩
abbrev S8192 : Shape := ⟨1, ![8192]⟩
abbrev S2x8x2x8192x8192 : Shape := ⟨5, ![2, 8, 2, 8192, 8192]⟩
abbrev S8192x1 : Shape := ⟨2, ![8192, 1]⟩
abbrev S1x8192 : Shape := ⟨2, ![1, 8192]⟩
abbrev S8192x8192 : Shape := ⟨2, ![8192, 8192]⟩
abbrev S8x1x1x1 : Shape := ⟨4, ![8, 1, 1, 1]⟩
abbrev S1x1x8192x8192 : Shape := ⟨4, ![1, 1, 8192, 8192]⟩
abbrev S8x1x8192x8192 : Shape := ⟨4, ![8, 1, 8192, 8192]⟩
abbrev S1x8x1x8192x8192 : Shape := ⟨5, ![1, 8, 1, 8192, 8192]⟩
abbrev S2x8x2x8192 : Shape := ⟨4, ![2, 8, 2, 8192]⟩
abbrev S2x8x2x8192x1 : Shape := ⟨5, ![2, 8, 2, 8192, 1]⟩
abbrev S2x8x1x8192x8192 : Shape := ⟨5, ![2, 8, 1, 8192, 8192]⟩
abbrev S2x8x8192x8192 : Shape := ⟨4, ![2, 8, 8192, 8192]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩

abbrev nBuf : Space → Nat
  | .hbm => 99
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x8192x8x2x64, .f32⟩
  | .hbm, ⟨20, _⟩ => ⟨S2x8x2x8192x64, .f32⟩
  | .hbm, ⟨21, _⟩ => ⟨S_, .f32⟩
  | .hbm, ⟨22, _⟩ => ⟨S2x8x2x8192x64, .f32⟩
  | .hbm, ⟨23, _⟩ => ⟨S2x8x2x8192x64, .f32⟩
  | .hbm, ⟨24, _⟩ => ⟨S2x8192x8x2x64, .f32⟩
  | .hbm, ⟨25, _⟩ => ⟨S2x8x2x8192x64, .f32⟩
  | .hbm, ⟨26, _⟩ => ⟨S2x8192x8x128, .f32⟩
  | .hbm, ⟨27, _⟩ => ⟨S2x8x8192x128, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S8192, .i32⟩
  | .hbm, ⟨39, _⟩ => ⟨S2x8x2x8192x8192, .f32⟩
  | .hbm, ⟨40, _⟩ => ⟨S8192x1, .i32⟩
  | .hbm, ⟨41, _⟩ => ⟨S1x8192, .i32⟩
  | .hbm, ⟨42, _⟩ => ⟨S8192x8192, .i32⟩
  | .hbm, ⟨43, _⟩ => ⟨S8192x8192, .i32⟩
  | .hbm, ⟨44, _⟩ => ⟨S8192x8192, .i32⟩
  | .hbm, ⟨45, _⟩ => ⟨S8192x8192, .i32⟩
  | .hbm, ⟨46, _⟩ => ⟨S8192x8192, .f32⟩
  | .hbm, ⟨47, _⟩ => ⟨S8x1x1x1, .f32⟩
  | .hbm, ⟨48, _⟩ => ⟨S1x1x8192x8192, .f32⟩
  | .hbm, ⟨49, _⟩ => ⟨S8x1x8192x8192, .f32⟩
  | .hbm, ⟨50, _⟩ => ⟨S8x1x8192x8192, .f32⟩
  | .hbm, ⟨51, _⟩ => ⟨S8x1x8192x8192, .f32⟩
  | .hbm, ⟨52, _⟩ => ⟨S1x8x1x8192x8192, .f32⟩
  | .hbm, ⟨53, _⟩ => ⟨S2x8x2x8192x8192, .f32⟩
  | .hbm, ⟨54, _⟩ => ⟨S2x8x2x8192x8192, .f32⟩
  | .hbm, ⟨55, _⟩ => ⟨S_, .f32⟩
  | .hbm, ⟨56, _⟩ => ⟨S2x8x2x8192, .f32⟩
  | .hbm, ⟨57, _⟩ => ⟨S_, .f32⟩
  | .hbm, ⟨58, _⟩ => ⟨S2x8x2x8192, .f32⟩
  | .hbm, ⟨59, _⟩ => ⟨S2x8x2x8192, .f32⟩
  | .hbm, ⟨60, _⟩ => ⟨S2x8x2x8192x1, .f32⟩
  | .hbm, ⟨61, _⟩ => ⟨S2x8x2x8192x8192, .f32⟩
  | .hbm, ⟨62, _⟩ => ⟨S2x8x2x8192x8192, .f32⟩
  | .hbm, ⟨63, _⟩ => ⟨S2x8x2x8192x8192, .f32⟩
  | .hbm, ⟨64, _⟩ => ⟨S_, .f32⟩
  | .hbm, ⟨65, _⟩ => ⟨S2x8x2x8192, .f32⟩
  | .hbm, ⟨66, _⟩ => ⟨S2x8x2x8192x1, .f32⟩
  | .hbm, ⟨67, _⟩ => ⟨S2x8x2x8192x8192, .f32⟩
  | .hbm, ⟨68, _⟩ => ⟨S2x8x2x8192x8192, .f32⟩
  | .hbm, ⟨69, _⟩ => ⟨S2x8x1x8192x8192, .f32⟩
  | .hbm, ⟨70, _⟩ => ⟨S2x8x8192x8192, .f32⟩
  | .hbm, ⟨71, _⟩ => ⟨S2x8x1x8192x8192, .f32⟩
  | .hbm, ⟨72, _⟩ => ⟨S2x8x8192x8192, .f32⟩
  | .hbm, ⟨73, _⟩ => ⟨S2x8x8192x8192, .f32⟩
  | .hbm, ⟨74, _⟩ => ⟨S2x8x8192x8192, .f32⟩
  | .hbm, ⟨75, _⟩ => ⟨S2x8x8192x8192, .f32⟩
  | .hbm, ⟨76, _⟩ => ⟨S2x8x8192x128, .f32⟩
  | .hbm, ⟨77, _⟩ => ⟨S2x8192x8x128, .f32⟩
  | .hbm, ⟨78, _⟩ => ⟨S2x8192x8x128, .f32⟩
  | .hbm, ⟨79, _⟩ => ⟨S_, .f32⟩
  | .hbm, ⟨80, _⟩ => ⟨S2x8192x8, .f32⟩
  | .hbm, ⟨81, _⟩ => ⟨S2x8192x8x1, .f32⟩
  | .hbm, ⟨82, _⟩ => ⟨S_, .f32⟩
  | .hbm, ⟨83, _⟩ => ⟨S2x8192x8x1, .f32⟩
  | .hbm, ⟨84, _⟩ => ⟨S2x8192x8x1, .f32⟩
  | .hbm, ⟨85, _⟩ => ⟨S_, .f32⟩
  | .hbm, ⟨86, _⟩ => ⟨S2x8192x8x1, .f32⟩
  | .hbm, ⟨87, _⟩ => ⟨S2x8192x8x1, .f32⟩
  | .hbm, ⟨88, _⟩ => ⟨S2x8192x8x1, .f32⟩
  | .hbm, ⟨89, _⟩ => ⟨S2x8192x8x128, .f32⟩
  | .hbm, ⟨90, _⟩ => ⟨S2x8192x8x128, .f32⟩
  | .hbm, ⟨91, _⟩ => ⟨S1x1x1x128, .f32⟩
  | .hbm, ⟨92, _⟩ => ⟨S2x8192x8x128, .f32⟩
  | .hbm, ⟨93, _⟩ => ⟨S2x8192x8x128, .f32⟩
  | .hbm, ⟨94, _⟩ => ⟨S_, .f32⟩
  | .hbm, ⟨95, _⟩ => ⟨S2x8192x8x128, .f32⟩
  | .hbm, ⟨96, _⟩ => ⟨S2x8192x8x128, .f32⟩
  | .hbm, ⟨97, _⟩ => ⟨S2x8192x1024, .f32⟩
  | .hbm, ⟨98, _⟩ => ⟨S2x8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_v62 : Ref sig .tc := ⟨.hbm, 81, rfl⟩
abbrev main_cst_10 : Ref sig .tc := ⟨.hbm, 82, rfl⟩
abbrev main_v63 : Ref sig .tc := ⟨.hbm, 83, rfl⟩
abbrev main_v64 : Ref sig .tc := ⟨.hbm, 84, rfl⟩
abbrev main_cst_11 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_12 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩

abbrev nD : Nat := 1
abbrev τ : Topo := Topo.v7x

variable {F : FTy → Type} [FloatOps F]
-- ==== Kernel2.lean ====
abbrev S2x8192x2048 : Shape := ⟨3, ![2, 8192, 2048]⟩
abbrev S1x2048x4096 : Shape := ⟨3, ![1, 2048, 4096]⟩
abbrev S16384x2048 : Shape := ⟨2, ![16384, 2048]⟩
abbrev S2048x4096 : Shape := ⟨2, ![2048, 4096]⟩
abbrev S16384x4096 : Shape := ⟨2, ![16384, 4096]⟩
abbrev S1024x2048 : Shape := ⟨2, ![1024, 2048]⟩
abbrev S2048x2048 : Shape := ⟨2, ![2048, 2048]⟩

abbrev nBuf : Space → Nat
  | .hbm => 6
  | .vmem => 6
  | .smem => 0
  | _ => 0

abbrev bufTy : (tb : Table) → Fin (tcTables nBuf tb) → BufTy
  | .hbm, ⟨0, _⟩ => ⟨S2x8192x2048, .f32⟩
  | .hbm, ⟨1, _⟩ => ⟨S1x2048x4096, .f32⟩
  | .hbm, ⟨2, _⟩ => ⟨S16384x2048, .f32⟩
  | .hbm, ⟨3, _⟩ => ⟨S16384x2048, .bf16⟩
  | .hbm, ⟨4, _⟩ => ⟨S2048x4096, .f32⟩
  | .hbm, ⟨5, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .f32⟩
  | .local _ .vmem, ⟨3, _⟩ => ⟨S2048x2048, .f32⟩
  | .local _ .vmem, ⟨4, _⟩ => ⟨S1024x2048, .bf16⟩
  | .local _ .vmem, ⟨5, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S2x8192x2048 : Shape := ⟨3, ![2, 8192, 2048]⟩
abbrev S1x2048x4096 : Shape := ⟨3, ![1, 2048, 4096]⟩
abbrev S2048x4096 : Shape := ⟨2, ![2048, 4096]⟩
abbrev S2x8192x4096 : Shape := ⟨3, ![2, 8192, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048x4096, .f32⟩
  | .hbm, ⟨2, _⟩ => ⟨S2048x4096, .f32⟩
  | .hbm, ⟨3, _⟩ => ⟨S2x8192x4096, .f32⟩
  | .hbm, ⟨4, _⟩ => ⟨S16384x4096, .f32⟩
  | .hbm, ⟨5, _⟩ => ⟨S16384x4096, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S2x8192x2048 : Shape := ⟨3, ![2, 8192, 2048]⟩
abbrev S1x2048x6144 : Shape := ⟨3, ![1, 2048, 6144]⟩
abbrev S16384x2048 : Shape := ⟨2, ![16384, 2048]⟩
abbrev S2048x6144 : Shape := ⟨2, ![2048, 6144]⟩
abbrev S3072x16384 : Shape := ⟨2, ![3072, 16384]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x8192x2048, .f32⟩
  | .hbm, ⟨1, _⟩ => ⟨S1x2048x6144, .f32⟩
  | .hbm, ⟨2, _⟩ => ⟨S16384x2048, .f32⟩
  | .hbm, ⟨3, _⟩ => ⟨S16384x2048, .bf16⟩
  | .hbm, ⟨4, _⟩ => ⟨S2048x6144, .f32⟩
  | .hbm, ⟨5, _⟩ => ⟨S3072x16384, .f32⟩
  | .local _ .vmem, ⟨0, _⟩ => ⟨S2048x1024, .f32⟩
  | .local _ .vmem, ⟨1, _⟩ => ⟨S2048x1024, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2x8192x2048 : Shape := ⟨3, ![2, 8192, 2048]⟩
abbrev S1x2048x6144 : Shape := ⟨3, ![1, 2048, 6144]⟩
abbrev S2048x6144 : Shape := ⟨2, ![2048, 6144]⟩
abbrev S2x8192x6144 : Shape := ⟨3, ![2, 8192, 6144]⟩
abbrev S2x8192x3072 : Shape := ⟨3, ![2, 8192, 3072]⟩
abbrev S16384x3072 : Shape := ⟨2, ![16384, 3072]⟩
abbrev S3072x16384 : Shape := ⟨2, ![3072, 16384]⟩

abbrev nBuf : Space → Nat
  | .hbm => 7
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048x6144, .f32⟩
  | .hbm, ⟨2, _⟩ => ⟨S2048x6144, .f32⟩
  | .hbm, ⟨3, _⟩ => ⟨S2x8192x6144, .f32⟩
  | .hbm, ⟨4, _⟩ => ⟨S2x8192x3072, .f32⟩
  | .hbm, ⟨5, _⟩ => ⟨S16384x3072, .f32⟩
  | .hbm, ⟨6, _⟩ => ⟨S3072x16384, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S2x8192x2048 : Shape := ⟨3, ![2, 8192, 2048]⟩
abbrev S1x2048x6144 : Shape := ⟨3, ![1, 2048, 6144]⟩
abbrev S16384x2048 : Shape := ⟨2, ![16384, 2048]⟩
abbrev S2048x6144 : Shape := ⟨2, ![2048, 6144]⟩
abbrev S1024x16384 : Shape := ⟨2, ![1024, 16384]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x8192x2048, .f32⟩
  | .hbm, ⟨1, _⟩ => ⟨S1x2048x6144, .f32⟩
  | .hbm, ⟨2, _⟩ => ⟨S16384x2048, .f32⟩
  | .hbm, ⟨3, _⟩ => ⟨S16384x2048, .bf16⟩
  | .hbm, ⟨4, _⟩ => ⟨S2048x6144, .f32⟩
  | .hbm, ⟨5, _⟩ => ⟨S1024x16384, .bf16⟩
  | .local _ .vmem, ⟨0, _⟩ => ⟨S2048x1024, .f32⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2x8192x2048 : Shape := ⟨3, ![2, 8192, 2048]⟩
abbrev S1x2048x6144 : Shape := ⟨3, ![1, 2048, 6144]⟩
abbrev S2048x6144 : Shape := ⟨2, ![2048, 6144]⟩
abbrev S2x8192x6144 : Shape := ⟨3, ![2, 8192, 6144]⟩
abbrev S2x8192x1024 : Shape := ⟨3, ![2, 8192, 1024]⟩
abbrev S_ : Shape := ⟨0, ![]⟩
abbrev S16384x1024 : Shape := ⟨2, ![16384, 1024]⟩
abbrev S1024x16384 : Shape := ⟨2, ![1024, 16384]⟩

abbrev nBuf : Space → Nat
  | .hbm => 11
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048x6144, .f32⟩
  | .hbm, ⟨2, _⟩ => ⟨S2048x6144, .f32⟩
  | .hbm, ⟨3, _⟩ => ⟨S2x8192x6144, .f32⟩
  | .hbm, ⟨4, _⟩ => ⟨S2x8192x1024, .f32⟩
  | .hbm, ⟨5, _⟩ => ⟨S_, .f32⟩
  | .hbm, ⟨6, _⟩ => ⟨S2x8192x1024, .f32⟩
  | .hbm, ⟨7, _⟩ => ⟨S2x8192x1024, .f32⟩
  | .hbm, ⟨8, _⟩ => ⟨S16384x1024, .f32⟩
  | .hbm, ⟨9, _⟩ => ⟨S1024x16384, .f32⟩
  | .hbm, ⟨10, _⟩ => ⟨S1024x16384, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S2x8192x2048 : Shape := ⟨3, ![2, 8192, 2048]⟩
abbrev S1x2048x6144 : Shape := ⟨3, ![1, 2048, 6144]⟩
abbrev S16384x2048 : Shape := ⟨2, ![16384, 2048]⟩
abbrev S2048x6144 : Shape := ⟨2, ![2048, 6144]⟩
abbrev S16384x1024 : Shape := ⟨2, ![16384, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x8192x2048, .f32⟩
  | .hbm, ⟨1, _⟩ => ⟨S1x2048x6144, .f32⟩
  | .hbm, ⟨2, _⟩ => ⟨S16384x2048, .f32⟩
  | .hbm, ⟨3, _⟩ => ⟨S16384x2048, .bf16⟩
  | .hbm, ⟨4, _⟩ => ⟨S2048x6144, .f32⟩
  | .hbm, ⟨5, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S1024x1024, .bf16⟩
  | .local _ .vmem, ⟨4, _⟩ => ⟨S1024x1024, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2x8192x2048 : Shape := ⟨3, ![2, 8192, 2048]⟩
abbrev S1x2048x6144 : Shape := ⟨3, ![1, 2048, 6144]⟩
abbrev S2048x6144 : Shape := ⟨2, ![2048, 6144]⟩
abbrev S2x8192x6144 : Shape := ⟨3, ![2, 8192, 6144]⟩
abbrev S2x8192x1024 : Shape := ⟨3, ![2, 8192, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048x6144, .f32⟩
  | .hbm, ⟨2, _⟩ => ⟨S2048x6144, .f32⟩
  | .hbm, ⟨3, _⟩ => ⟨S2x8192x6144, .f32⟩
  | .hbm, ⟨4, _⟩ => ⟨S2x8192x1024, .f32⟩
  | .hbm, ⟨5, _⟩ => ⟨S16384x1024, .f32⟩
  | .hbm, ⟨6, _⟩ => ⟨S16384x1024, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S2x8192x2048 : Shape := ⟨3, ![2, 8192, 2048]⟩
abbrev S1x2048x6144 : Shape := ⟨3, ![1, 2048, 6144]⟩
abbrev S16384x2048 : Shape := ⟨2, ![16384, 2048]⟩
abbrev S2048x6144 : Shape := ⟨2, ![2048, 6144]⟩
abbrev S1024x16384 : Shape := ⟨2, ![1024, 16384]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x8192x2048, .f32⟩
  | .hbm, ⟨1, _⟩ => ⟨S1x2048x6144, .f32⟩
  | .hbm, ⟨2, _⟩ => ⟨S16384x2048, .f32⟩
  | .hbm, ⟨3, _⟩ => ⟨S16384x2048, .bf16⟩
  | .hbm, ⟨4, _⟩ => ⟨S2048x6144, .f32⟩
  | .hbm, ⟨5, _⟩ => ⟨S1024x16384, .bf16⟩
  | .local _ .vmem, ⟨0, _⟩ => ⟨S2048x1024, .f32⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2x8192x2048 : Shape := ⟨3, ![2, 8192, 2048]⟩
abbrev S1x2048x6144 : Shape := ⟨3, ![1, 2048, 6144]⟩
abbrev S2048x6144 : Shape := ⟨2, ![2048, 6144]⟩
abbrev S2x8192x6144 : Shape := ⟨3, ![2, 8192, 6144]⟩
abbrev S2x8192x1024 : Shape := ⟨3, ![2, 8192, 1024]⟩
abbrev S16384x1024 : Shape := ⟨2, ![16384, 1024]⟩
abbrev S1024x16384 : Shape := ⟨2, ![1024, 16384]⟩

abbrev nBuf : Space → Nat
  | .hbm => 8
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048x6144, .f32⟩
  | .hbm, ⟨2, _⟩ => ⟨S2048x6144, .f32⟩
  | .hbm, ⟨3, _⟩ => ⟨S2x8192x6144, .f32⟩
  | .hbm, ⟨4, _⟩ => ⟨S2x8192x1024, .f32⟩
  | .hbm, ⟨5, _⟩ => ⟨S16384x1024, .f32⟩
  | .hbm, ⟨6, _⟩ => ⟨S1024x16384, .f32⟩
  | .hbm, ⟨7, _⟩ => ⟨S1024x16384, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S2x8192x1024 : Shape := ⟨3, ![2, 8192, 1024]⟩
abbrev S1x2048x2048 : Shape := ⟨3, ![1, 2048, 2048]⟩
abbrev S2x8192x2048 : Shape := ⟨3, ![2, 8192, 2048]⟩
abbrev S2x2048 : Shape := ⟨2, ![2, 2048]⟩
abbrev S16384x1024 : Shape := ⟨2, ![16384, 1024]⟩
abbrev S1024x16384 : Shape := ⟨2, ![1024, 16384]⟩
abbrev S2048x2048 : Shape := ⟨2, ![2048, 2048]⟩
abbrev S16384x2048 : Shape := ⟨2, ![16384, 2048]⟩
abbrev S1x2048 : Shape := ⟨2, ![1, 2048]⟩
abbrev S2048 : Shape := ⟨1, ![2048]⟩
abbrev S1024x2048 : Shape := ⟨2, ![1024, 2048]⟩
abbrev S1024x512 : Shape := ⟨2, ![1024, 512]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 24
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S1x2048x2048, .f32⟩
  | .hbm, ⟨3, _⟩ => ⟨S2x8192x2048, .f32⟩
  | .hbm, ⟨4, _⟩ => ⟨S2x2048, .f32⟩
  | .hbm, ⟨5, _⟩ => ⟨S2x2048, .f32⟩
  | .hbm, ⟨6, _⟩ => ⟨S16384x1024, .f32⟩
  | .hbm, ⟨7, _⟩ => ⟨S1024x16384, .f32⟩
  | .hbm, ⟨8, _⟩ => ⟨S1024x16384, .bf16⟩
  | .hbm, ⟨9, _⟩ => ⟨S16384x1024, .f32⟩
  | .hbm, ⟨10, _⟩ => ⟨S16384x1024, .bf16⟩
  | .hbm, ⟨11, _⟩ => ⟨S2048x2048, .f32⟩
  | .hbm, ⟨12, _⟩ => ⟨S2048x2048, .bf16⟩
  | .hbm, ⟨13, _⟩ => ⟨S16384x2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S2048, .f32⟩
  | .hbm, ⟨18, _⟩ => ⟨S1024x2048, .bf16⟩
  | .hbm, ⟨19, _⟩ => ⟨S1024x2048, .bf16⟩
  | .hbm, ⟨20, _⟩ => ⟨S1x2048, .f32⟩
  | .hbm, ⟨21, _⟩ => ⟨S1x2048, .f32⟩
  | .hbm, ⟨22, _⟩ => ⟨S16384x2048, .f32⟩
  | .hbm, ⟨23, _⟩ => ⟨S16384x1024, .i32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x1024, .i32⟩
  | .local _ .vmem, ⟨13, _⟩ => ⟨S512x1024, .i32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel7Ideal.lean ====
abbrev S2x8192x1024 : Shape := ⟨3, ![2, 8192, 1024]⟩
abbrev S1x2048x2048 : Shape := ⟨3, ![1, 2048, 2048]⟩
abbrev S2x8192x2048 : Shape := ⟨3, ![2, 8192, 2048]⟩
abbrev S2x2048 : Shape := ⟨2, ![2, 2048]⟩
abbrev S16384x1024 : Shape := ⟨2, ![16384, 1024]⟩
abbrev S1024x16384 : Shape := ⟨2, ![1024, 16384]⟩
abbrev S2048x2048 : Shape := ⟨2, ![2048, 2048]⟩
abbrev S16384x2048 : Shape := ⟨2, ![16384, 2048]⟩
abbrev S1x2048 : Shape := ⟨2, ![1, 2048]⟩
abbrev S2048 : Shape := ⟨1, ![2048]⟩
abbrev S1024x2048 : Shape := ⟨2, ![1024, 2048]⟩
abbrev S16384x2x1024 : Shape := ⟨3, ![16384, 2, 1024]⟩
abbrev S16384x1x1024 : Shape := ⟨3, ![16384, 1, 1024]⟩
abbrev S1024x512 : Shape := ⟨2, ![1024, 512]⟩
abbrev S512x1024 : Shape := ⟨2, ![512, 1024]⟩
abbrev S512x2048 : Shape := ⟨2, ![512, 2048]⟩
abbrev S512x2x1024 : Shape := ⟨3, ![512, 2, 1024]⟩
abbrev S512x1x1024 : Shape := ⟨3, ![512, 1, 1024]⟩
abbrev S512 : Shape := ⟨1, ![512]⟩
abbrev S512x1 : Shape := ⟨2, ![512, 1]⟩

abbrev nBuf : Space → Nat
  | .hbm => 24
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S1x2048x2048, .f32⟩
  | .hbm, ⟨3, _⟩ => ⟨S2x8192x2048, .f32⟩
  | .hbm, ⟨4, _⟩ => ⟨S2x2048, .f32⟩
  | .hbm, ⟨5, _⟩ => ⟨S2x2048, .f32⟩
  | .hbm, ⟨6, _⟩ => ⟨S16384x1024, .f32⟩
  | .hbm, ⟨7, _⟩ => ⟨S1024x16384, .f32⟩
  | .hbm, ⟨8, _⟩ => ⟨S1024x16384, .bf16⟩
  | .hbm, ⟨9, _⟩ => ⟨S16384x1024, .f32⟩
  | .hbm, ⟨10, _⟩ => ⟨S16384x1024, .bf16⟩
  | .hbm, ⟨11, _⟩ => ⟨S2048x2048, .f32⟩
  | .hbm, ⟨12, _⟩ => ⟨S2048x2048, .bf16⟩
  | .hbm, ⟨13, _⟩ => ⟨S16384x2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S2048, .f32⟩
  | .hbm, ⟨18, _⟩ => ⟨S1024x2048, .bf16⟩
  | .hbm, ⟨19, _⟩ => ⟨S1024x2048, .bf16⟩
  | .hbm, ⟨20, _⟩ => ⟨S1x2048, .f32⟩
  | .hbm, ⟨21, _⟩ => ⟨S1x2048, .f32⟩
  | .hbm, ⟨22, _⟩ => ⟨S16384x2048, .f32⟩
  | .hbm, ⟨23, _⟩ => ⟨S16384x2x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2x1024, .bf16⟩
  | .local _ .vmem, ⟨13, _⟩ => ⟨S512x2x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S2x8192x1024 : Shape := ⟨3, ![2, 8192, 1024]⟩
abbrev S1x2048x2048 : Shape := ⟨3, ![1, 2048, 2048]⟩
abbrev S2x8192x2048 : Shape := ⟨3, ![2, 8192, 2048]⟩
abbrev S2x2048 : Shape := ⟨2, ![2, 2048]⟩
abbrev S2048x2048 : Shape := ⟨2, ![2048, 2048]⟩
abbrev S_ : Shape := ⟨0, ![]⟩
abbrev S1x2048 : Shape := ⟨2, ![1, 2048]⟩
abbrev S2048 : Shape := ⟨1, ![2048]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S1x2048x2048, .f32⟩
  | .hbm, ⟨3, _⟩ => ⟨S2x8192x2048, .f32⟩
  | .hbm, ⟨4, _⟩ => ⟨S2x2048, .f32⟩
  | .hbm, ⟨5, _⟩ => ⟨S2x2048, .f32⟩
  | .hbm, ⟨6, _⟩ => ⟨S2x8192x2048, .f32⟩
  | .hbm, ⟨7, _⟩ => ⟨S2048x2048, .f32⟩
  | .hbm, ⟨8, _⟩ => ⟨S2x8192x2048, .f32⟩
  | .hbm, ⟨9, _⟩ => ⟨S_, .f32⟩
  | .hbm, ⟨10, _⟩ => ⟨S2x8192x2048, .f32⟩
  | .hbm, ⟨11, _⟩ => ⟨S2x8192x2048, .f32⟩
  | .hbm, ⟨12, _⟩ => ⟨S2x8192x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x2048, .f32⟩
  | .hbm, ⟨24, _⟩ => ⟨S2x8192x2048, .f32⟩
  | .hbm, ⟨25, _⟩ => ⟨S2x8192x2048, .f32⟩
  | .hbm, ⟨26, _⟩ => ⟨S_, .f32⟩
  | .hbm, ⟨27, _⟩ => ⟨S2x8192, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S2x8192x2048, .f32⟩
  | .hbm, ⟨33, _⟩ => ⟨S2x8192x2048, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S2x8192x1, .f32⟩
  | .hbm, ⟨38, _⟩ => ⟨S2x8192x2048, .f32⟩
  | .hbm, ⟨39, _⟩ => ⟨S2x8192x2048, .f32⟩
  | .hbm, ⟨40, _⟩ => ⟨S1x1x2048, .f32⟩
  | .hbm, ⟨41, _⟩ => ⟨S2x8192x2048, .f32⟩
  | .hbm, ⟨42, _⟩ => ⟨S2x8192x2048, .f32⟩
  | .hbm, ⟨43, _⟩ => ⟨S1x1x2048, .f32⟩
  | .hbm, ⟨44, _⟩ => ⟨S2x8192x2048, .f32⟩
  | .hbm, ⟨45, _⟩ => ⟨S2x8192x2048, .f32⟩
  | .hbm, ⟨46, _⟩ => ⟨S16384x2048, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel8.lean ====
abbrev S2x8192x4096 : Shape := ⟨3, ![2, 8192, 4096]⟩
abbrev S2x2x8192x2048 : Shape := ⟨4, ![2, 2, 8192, 2048]⟩
abbrev S1x2048x2048 : Shape := ⟨3, ![1, 2048, 2048]⟩
abbrev S2x8192x2048 : Shape := ⟨3, ![2, 8192, 2048]⟩
abbrev S2x2048 : Shape := ⟨2, ![2, 2048]⟩
abbrev S16384x4096 : Shape := ⟨2, ![16384, 4096]⟩
abbrev S2x16384x2048 : Shape := ⟨3, ![2, 16384, 2048]⟩
abbrev S2048x2048 : Shape := ⟨2, ![2048, 2048]⟩
abbrev S16384x2048 : Shape := ⟨2, ![16384, 2048]⟩
abbrev S1x2048 : Shape := ⟨2, ![1, 2048]⟩
abbrev S2048 : Shape := ⟨1, ![2048]⟩
abbrev S16384x1024 : Shape := ⟨2, ![16384, 1024]⟩
abbrev S512x2048 : Shape := ⟨2, ![512, 2048]⟩
abbrev S1x512x2048 : Shape := ⟨3, ![1, 512, 2048]⟩
abbrev S512x1024 : Shape := ⟨2, ![512, 1024]⟩
abbrev S512 : Shape := ⟨1, ![512]⟩
abbrev S512x1 : Shape := ⟨2, ![512, 1]⟩

abbrev nBuf : Space → Nat
  | .hbm => 21
  | .vmem => 15
  | .smem => 0
  | _ => 0

abbrev bufTy : (tb : Table) → Fin (tcTables nBuf tb) → BufTy
  | .hbm, ⟨0, _⟩ => ⟨S2x8192x4096, .f32⟩
  | .hbm, ⟨1, _⟩ => ⟨S2x2x8192x2048, .f32⟩
  | .hbm, ⟨2, _⟩ => ⟨S1x2048x2048, .f32⟩
  | .hbm, ⟨3, _⟩ => ⟨S2x8192x2048, .f32⟩
  | .hbm, ⟨4, _⟩ => ⟨S2x2048, .f32⟩
  | .hbm, ⟨5, _⟩ => ⟨S2x2048, .f32⟩
  | .hbm, ⟨6, _⟩ => ⟨S16384x4096, .f32⟩
  | .hbm, ⟨7, _⟩ => ⟨S16384x4096, .bf16⟩
  | .hbm, ⟨8, _⟩ => ⟨S2x16384x2048, .f32⟩
  | .hbm, ⟨9, _⟩ => ⟨S2x16384x2048, .bf16⟩
  | .hbm, ⟨10, _⟩ => ⟨S2048x2048, .f32⟩
  | .hbm, ⟨11, _⟩ => ⟨S2048x2048, .bf16⟩
  | .hbm, ⟨12, _⟩ => ⟨S16384x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S1x2048, .f32⟩
  | .hbm, ⟨19, _⟩ => ⟨S16384x2048, .f32⟩
  | .hbm, ⟨20, _⟩ => ⟨S16384x1024, .i32⟩
  | .local _ .vmem, ⟨0, _⟩ => ⟨S512x2048, .bf16⟩
  | .local _ .vmem, ⟨1, _⟩ => ⟨S512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x1024, .i32⟩
  | .local _ .vmem, ⟨14, _⟩ => ⟨S512x1024, .i32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel8Ideal.lean ====
abbrev S2x8192x4096 : Shape := ⟨3, ![2, 8192, 4096]⟩
abbrev S2x2x8192x2048 : Shape := ⟨4, ![2, 2, 8192, 2048]⟩
abbrev S1x2048x2048 : Shape := ⟨3, ![1, 2048, 2048]⟩
abbrev S2x8192x2048 : Shape := ⟨3, ![2, 8192, 2048]⟩
abbrev S2x2048 : Shape := ⟨2, ![2, 2048]⟩
abbrev S16384x4096 : Shape := ⟨2, ![16384, 4096]⟩
abbrev S2x16384x2048 : Shape := ⟨3, ![2, 16384, 2048]⟩
abbrev S2048x2048 : Shape := ⟨2, ![2048, 2048]⟩
abbrev S16384x2048 : Shape := ⟨2, ![16384, 2048]⟩
abbrev S1x2048 : Shape := ⟨2, ![1, 2048]⟩
abbrev S2048 : Shape := ⟨1, ![2048]⟩
abbrev S16384x2x1024 : Shape := ⟨3, ![16384, 2, 1024]⟩
abbrev S16384x1x1024 : Shape := ⟨3, ![16384, 1, 1024]⟩
abbrev S16384x1024 : Shape := ⟨2, ![16384, 1024]⟩
abbrev S512x2048 : Shape := ⟨2, ![512, 2048]⟩
abbrev S1x512x2048 : Shape := ⟨3, ![1, 512, 2048]⟩
abbrev S512x1024 : Shape := ⟨2, ![512, 1024]⟩
abbrev S512x2x1024 : Shape := ⟨3, ![512, 2, 1024]⟩
abbrev S512x1x1024 : Shape := ⟨3, ![512, 1, 1024]⟩
abbrev S512 : Shape := ⟨1, ![512]⟩
abbrev S512x1 : Shape := ⟨2, ![512, 1]⟩

abbrev nBuf : Space → Nat
  | .hbm => 21
  | .vmem => 15
  | .smem => 0
  | _ => 0

abbrev bufTy : (tb : Table) → Fin (tcTables nBuf tb) → BufTy
  | .hbm, ⟨0, _⟩ => ⟨S2x8192x4096, .f32⟩
  | .hbm, ⟨1, _⟩ => ⟨S2x2x8192x2048, .f32⟩
  | .hbm, ⟨2, _⟩ => ⟨S1x2048x2048, .f32⟩
  | .hbm, ⟨3, _⟩ => ⟨S2x8192x2048, .f32⟩
  | .hbm, ⟨4, _⟩ => ⟨S2x2048, .f32⟩
  | .hbm, ⟨5, _⟩ => ⟨S2x2048, .f32⟩
  | .hbm, ⟨6, _⟩ => ⟨S16384x4096, .f32⟩
  | .hbm, ⟨7, _⟩ => ⟨S16384x4096, .bf16⟩
  | .hbm, ⟨8, _⟩ => ⟨S2x16384x2048, .f32⟩
  | .hbm, ⟨9, _⟩ => ⟨S2x16384x2048, .bf16⟩
  | .hbm, ⟨10, _⟩ => ⟨S2048x2048, .f32⟩
  | .hbm, ⟨11, _⟩ => ⟨S2048x2048, .bf16⟩
  | .hbm, ⟨12, _⟩ => ⟨S16384x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S1x2048, .f32⟩
  | .hbm, ⟨19, _⟩ => ⟨S16384x2048, .f32⟩
  | .hbm, ⟨20, _⟩ => ⟨S16384x2x1024, .bf16⟩
  | .local _ .vmem, ⟨0, _⟩ => ⟨S512x2048, .bf16⟩
  | .local _ .vmem, ⟨1, _⟩ => ⟨S512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2x1024, .bf16⟩
  | .local _ .vmem, ⟨14, _⟩ => ⟨S512x2x1024, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S2x8192x4096 : Shape := ⟨3, ![2, 8192, 4096]⟩
abbrev S2x2x8192x2048 : Shape := ⟨4, ![2, 2, 8192, 2048]⟩
abbrev S1x2048x2048 : Shape := ⟨3, ![1, 2048, 2048]⟩
abbrev S2x8192x2048 : Shape := ⟨3, ![2, 8192, 2048]⟩
abbrev S2x2048 : Shape := ⟨2, ![2, 2048]⟩
abbrev S1x2x8192x2048 : Shape := ⟨4, ![1, 2, 8192, 2048]⟩
abbrev S_ : Shape := ⟨0, ![]⟩
abbrev S2048x2048 : Shape := ⟨2, ![2048, 2048]⟩
abbrev S1x2048 : Shape := ⟨2, ![1, 2048]⟩
abbrev S2048 : Shape := ⟨1, ![2048]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 71
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x2x8192x2048, .f32⟩
  | .hbm, ⟨2, _⟩ => ⟨S1x2048x2048, .f32⟩
  | .hbm, ⟨3, _⟩ => ⟨S2x8192x2048, .f32⟩
  | .hbm, ⟨4, _⟩ => ⟨S2x2048, .f32⟩
  | .hbm, ⟨5, _⟩ => ⟨S2x2048, .f32⟩
  | .hbm, ⟨6, _⟩ => ⟨S2x8192x2048, .f32⟩
  | .hbm, ⟨7, _⟩ => ⟨S2x8192x2048, .f32⟩
  | .hbm, ⟨8, _⟩ => ⟨S1x2x8192x2048, .f32⟩
  | .hbm, ⟨9, _⟩ => ⟨S2x8192x2048, .f32⟩
  | .hbm, ⟨10, _⟩ => ⟨S1x2x8192x2048, .f32⟩
  | .hbm, ⟨11, _⟩ => ⟨S2x8192x2048, .f32⟩
  | .hbm, ⟨12, _⟩ => ⟨S2x8192x2048, .f32⟩
  | .hbm, ⟨13, _⟩ => ⟨S2x8192x2048, .f32⟩
  | .hbm, ⟨14, _⟩ => ⟨S2x8192x2048, .f32⟩
  | .hbm, ⟨15, _⟩ => ⟨S_, .f32⟩
  | .hbm, ⟨16, _⟩ => ⟨S2x8192x2048, .f32⟩
  | .hbm, ⟨17, _⟩ => ⟨S2x8192x2048, .f32⟩
  | .hbm, ⟨18, _⟩ => ⟨S2x8192x2048, .f32⟩
  | .hbm, ⟨19, _⟩ => ⟨S_, .f32⟩
  | .hbm, ⟨20, _⟩ => ⟨S2x8192x2048, .f32⟩
  | .hbm, ⟨21, _⟩ => ⟨S2x8192x2048, .f32⟩
  | .hbm, ⟨22, _⟩ => ⟨S2x8192x2048, .f32⟩
  | .hbm, ⟨23, _⟩ => ⟨S_, .f32⟩
  | .hbm, ⟨24, _⟩ => ⟨S2x8192x2048, .f32⟩
  | .hbm, ⟨25, _⟩ => ⟨S2x8192x2048, .f32⟩
  | .hbm, ⟨26, _⟩ => ⟨S_, .f32⟩
  | .hbm, ⟨27, _⟩ => ⟨S2x8192x2048, .f32⟩
  | .hbm, ⟨28, _⟩ => ⟨S2x8192x2048, .f32⟩
  | .hbm, ⟨29, _⟩ => ⟨S2x8192x2048, .f32⟩
  | .hbm, ⟨30, _⟩ => ⟨S2x8192x2048, .f32⟩
  | .hbm, ⟨31, _⟩ => ⟨S2048x2048, .f32⟩
  | .hbm, ⟨32, _⟩ => ⟨S2x8192x2048, .f32⟩
  | .hbm, ⟨33, _⟩ => ⟨S_, .f32⟩
  | .hbm, ⟨34, _⟩ => ⟨S2x8192x2048, .f32⟩
  | .hbm, ⟨35, _⟩ => ⟨S2x8192x2048, .f32⟩
  | .hbm, ⟨36, _⟩ => ⟨S2x8192x2048, .f32⟩
  | .hbm, ⟨37, _⟩ => ⟨S1x2048, .f32⟩
  | .hbm, ⟨38, _⟩ => ⟨S2048, .f32⟩
  | .hbm, ⟨39, _⟩ => ⟨S1x2048, .f32⟩
  | .hbm, ⟨40, _⟩ => ⟨S2048, .f32⟩
  | .hbm, ⟨41, _⟩ => ⟨S_, .f32⟩
  | .hbm, ⟨42, _⟩ => ⟨S2x8192, .f32⟩
  | .hbm, ⟨43, _⟩ => ⟨S2x8192x1, .f32⟩
  | .hbm, ⟨44, _⟩ => ⟨S_, .f32⟩
  | .hbm, ⟨45, _⟩ => ⟨S2x8192x1, .f32⟩
  | .hbm, ⟨46, _⟩ => ⟨S2x8192x1, .f32⟩
  | .hbm, ⟨47, _⟩ => ⟨S2x8192x2048, .f32⟩
  | .hbm, ⟨48, _⟩ => ⟨S2x8192x2048, .f32⟩
  | .hbm, ⟨49, _⟩ => ⟨S2x8192x2048, .f32⟩
  | .hbm, ⟨50, _⟩ => ⟨S_, .f32⟩
  | .hbm, ⟨51, _⟩ => ⟨S2x8192, .f32⟩
  | .hbm, ⟨52, _⟩ => ⟨S2x8192x1, .f32⟩
  | .hbm, ⟨53, _⟩ => ⟨S_, .f32⟩
  | .hbm, ⟨54, _⟩ => ⟨S2x8192x1, .f32⟩
  | .hbm, ⟨55, _⟩ => ⟨S2x8192x1, .f32⟩
  | .hbm, ⟨56, _⟩ => ⟨S2x8192x2048, .f32⟩
  | .hbm, ⟨57, _⟩ => ⟨S2x8192x2048, .f32⟩
  | .hbm, ⟨58, _⟩ => ⟨S_, .f32⟩
  | .hbm, ⟨59, _⟩ => ⟨S2x8192x1, .f32⟩
  | .hbm, ⟨60, _⟩ => ⟨S2x8192x1, .f32⟩
  | .hbm, ⟨61, _⟩ => ⟨S2x8192x1, .f32⟩
  | .hbm, ⟨62, _⟩ => ⟨S2x8192x2048, .f32⟩
  | .hbm, ⟨63, _⟩ => ⟨S2x8192x2048, .f32⟩
  | .hbm, ⟨64, _⟩ => ⟨S1x1x2048, .f32⟩
  | .hbm, ⟨65, _⟩ => ⟨S2x8192x2048, .f32⟩
  | .hbm, ⟨66, _⟩ => ⟨S2x8192x2048, .f32⟩
  | .hbm, ⟨67, _⟩ => ⟨S1x1x2048, .f32⟩
  | .hbm, ⟨68, _⟩ => ⟨S2x8192x2048, .f32⟩
  | .hbm, ⟨69, _⟩ => ⟨S2x8192x2048, .f32⟩
  | .hbm, ⟨70, _⟩ => ⟨S16384x2048, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩

abbrev nD : Nat := 1
abbrev τ : Topo := Topo.v7x

variable {F : FTy → Type} [FloatOps F]
-- ==== Kernel9.lean ====
abbrev S2x8192x2048 : Shape := ⟨3, ![2, 8192, 2048]⟩
abbrev S2x2x8192x2048 : Shape := ⟨4, ![2, 2, 8192, 2048]⟩
abbrev S2x2x8192 : Shape := ⟨3, ![2, 2, 8192]⟩
abbrev S2x2048 : Shape := ⟨2, ![2, 2048]⟩
abbrev S16384x2048 : Shape := ⟨2, ![16384, 2048]⟩
abbrev S32768x2048 : Shape := ⟨2, ![32768, 2048]⟩
abbrev S2x16384 : Shape := ⟨2, ![2, 16384]⟩
abbrev S16384x2 : Shape := ⟨2, ![16384, 2]⟩
abbrev S1x2048 : Shape := ⟨2, ![1, 2048]⟩
abbrev S2048 : Shape := ⟨1, ![2048]⟩
abbrev S512x2048 : Shape := ⟨2, ![512, 2048]⟩
abbrev S512x2 : Shape := ⟨2, ![512, 2]⟩
abbrev S512x1 : Shape := ⟨2, ![512, 1]⟩
abbrev S512 : Shape := ⟨1, ![512]⟩

abbrev nBuf : Space → Nat
  | .hbm => 17
  | .vmem => 12
  | .smem => 0
  | _ => 0

abbrev bufTy : (tb : Table) → Fin (tcTables nBuf tb) → BufTy
  | .hbm, ⟨0, _⟩ => ⟨S2x8192x2048, .f32⟩
  | .hbm, ⟨1, _⟩ => ⟨S2x2x8192x2048, .f32⟩
  | .hbm, ⟨2, _⟩ => ⟨S2x2x8192, .f32⟩
  | .hbm, ⟨3, _⟩ => ⟨S2x2048, .f32⟩
  | .hbm, ⟨4, _⟩ => ⟨S2x2048, .f32⟩
  | .hbm, ⟨5, _⟩ => ⟨S16384x2048, .f32⟩
  | .hbm, ⟨6, _⟩ => ⟨S32768x2048, .f32⟩
  | .hbm, ⟨7, _⟩ => ⟨S32768x2048, .bf16⟩
  | .hbm, ⟨8, _⟩ => ⟨S2x16384, .f32⟩
  | .hbm, ⟨9, _⟩ => ⟨S16384x2, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S1x2048, .f32⟩
  | .hbm, ⟨16, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2, .f32⟩
  | .local _ .vmem, ⟨7, _⟩ => ⟨S512x2, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S2x8192x2048 : Shape := ⟨3, ![2, 8192, 2048]⟩
abbrev S2x2x8192x2048 : Shape := ⟨4, ![2, 2, 8192, 2048]⟩
abbrev S2x2x8192 : Shape := ⟨3, ![2, 2, 8192]⟩
abbrev S2x2048 : Shape := ⟨2, ![2, 2048]⟩
abbrev S2x2x8192x1 : Shape := ⟨4, ![2, 2, 8192, 1]⟩
abbrev S_ : Shape := ⟨0, ![]⟩
abbrev S1x2048 : Shape := ⟨2, ![1, 2048]⟩
abbrev S2048 : Shape := ⟨1, ![2048]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 48
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x2x8192x2048, .f32⟩
  | .hbm, ⟨2, _⟩ => ⟨S2x2x8192, .f32⟩
  | .hbm, ⟨3, _⟩ => ⟨S2x2048, .f32⟩
  | .hbm, ⟨4, _⟩ => ⟨S2x2048, .f32⟩
  | .hbm, ⟨5, _⟩ => ⟨S2x2x8192x1, .f32⟩
  | .hbm, ⟨6, _⟩ => ⟨S2x2x8192x2048, .f32⟩
  | .hbm, ⟨7, _⟩ => ⟨S2x2x8192x2048, .f32⟩
  | .hbm, ⟨8, _⟩ => ⟨S_, .f32⟩
  | .hbm, ⟨9, _⟩ => ⟨S2x8192x2048, .f32⟩
  | .hbm, ⟨10, _⟩ => ⟨S_, .f32⟩
  | .hbm, ⟨11, _⟩ => ⟨S2x8192x2048, .f32⟩
  | .hbm, ⟨12, _⟩ => ⟨S2x8192x2048, .f32⟩
  | .hbm, ⟨13, _⟩ => ⟨S2x8192x2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S2048, .f32⟩
  | .hbm, ⟨18, _⟩ => ⟨S_, .f32⟩
  | .hbm, ⟨19, _⟩ => ⟨S2x8192, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x2048, .f32⟩
  | .hbm, ⟨25, _⟩ => ⟨S2x8192x2048, .f32⟩
  | .hbm, ⟨26, _⟩ => ⟨S2x8192x2048, .f32⟩
  | .hbm, ⟨27, _⟩ => ⟨S_, .f32⟩
  | .hbm, ⟨28, _⟩ => ⟨S2x8192, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S2x8192x2048, .f32⟩
  | .hbm, ⟨34, _⟩ => ⟨S2x8192x2048, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S2x8192x1, .f32⟩
  | .hbm, ⟨39, _⟩ => ⟨S2x8192x2048, .f32⟩
  | .hbm, ⟨40, _⟩ => ⟨S2x8192x2048, .f32⟩
  | .hbm, ⟨41, _⟩ => ⟨S1x1x2048, .f32⟩
  | .hbm, ⟨42, _⟩ => ⟨S2x8192x2048, .f32⟩
  | .hbm, ⟨43, _⟩ => ⟨S2x8192x2048, .f32⟩
  | .hbm, ⟨44, _⟩ => ⟨S1x1x2048, .f32⟩
  | .hbm, ⟨45, _⟩ => ⟨S2x8192x2048, .f32⟩
  | .hbm, ⟨46, _⟩ => ⟨S2x8192x2048, .f32⟩
  | .hbm, ⟨47, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel10.lean ====
abbrev S2x8192x2048 : Shape := ⟨3, ![2, 8192, 2048]⟩
abbrev S2048x32 : Shape := ⟨2, ![2048, 32]⟩
abbrev S32 : Shape := ⟨1, ![32]⟩
abbrev S16384x2048 : Shape := ⟨2, ![16384, 2048]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S32x2048 : Shape := ⟨2, ![32, 2048]⟩
abbrev S1x32x2048 : Shape := ⟨3, ![1, 32, 2048]⟩
abbrev S2x32x2048 : Shape := ⟨3, ![2, 32, 2048]⟩
abbrev S4x8x1 : Shape := ⟨3, ![4, 8, 1]⟩
abbrev S2x16384 : Shape := ⟨2, ![2, 16384]⟩
abbrev S32x1 : Shape := ⟨2, ![32, 1]⟩
abbrev S1024x2048 : Shape := ⟨2, ![1024, 2048]⟩
abbrev S2x1024 : Shape := ⟨2, ![2, 1024]⟩
abbrev S32x1024 : Shape := ⟨2, ![32, 1024]⟩
abbrev S4x8x1024 : Shape := ⟨3, ![4, 8, 1024]⟩
abbrev S4x1024 : Shape := ⟨2, ![4, 1024]⟩
abbrev S4x1x1024 : Shape := ⟨3, ![4, 1, 1024]⟩
abbrev S1x1x1024 : Shape := ⟨3, ![1, 1, 1024]⟩
abbrev S8x1024 : Shape := ⟨2, ![8, 1024]⟩

abbrev nBuf : Space → Nat
  | .hbm => 25
  | .vmem => 13
  | .smem => 0
  | _ => 0

abbrev bufTy : (tb : Table) → Fin (tcTables nBuf tb) → BufTy
  | .hbm, ⟨0, _⟩ => ⟨S2x8192x2048, .f32⟩
  | .hbm, ⟨1, _⟩ => ⟨S2048x32, .f32⟩
  | .hbm, ⟨2, _⟩ => ⟨S32, .f32⟩
  | .hbm, ⟨3, _⟩ => ⟨S16384x2048, .f32⟩
  | .hbm, ⟨4, _⟩ => ⟨S1024, .i32⟩
  | .hbm, ⟨5, _⟩ => ⟨S1024x1, .i32⟩
  | .hbm, ⟨6, _⟩ => ⟨S1024, .i32⟩
  | .hbm, ⟨7, _⟩ => ⟨S1x1024, .i32⟩
  | .hbm, ⟨8, _⟩ => ⟨S1024x1024, .i32⟩
  | .hbm, ⟨9, _⟩ => ⟨S1024x1024, .i32⟩
  | .hbm, ⟨10, _⟩ => ⟨S1024x1024, .i1⟩
  | .hbm, ⟨11, _⟩ => ⟨S1024x1024, .bf16⟩
  | .hbm, ⟨12, _⟩ => ⟨S32x2048, .f32⟩
  | .hbm, ⟨13, _⟩ => ⟨S32x2048, .bf16⟩
  | .hbm, ⟨14, _⟩ => ⟨S32x2048, .f32⟩
  | .hbm, ⟨15, _⟩ => ⟨S32x2048, .f32⟩
  | .hbm, ⟨16, _⟩ => ⟨S32x2048, .bf16⟩
  | .hbm, ⟨17, _⟩ => ⟨S1x32x2048, .bf16⟩
  | .hbm, ⟨18, _⟩ => ⟨S1x32x2048, .bf16⟩
  | .hbm, ⟨19, _⟩ => ⟨S2x32x2048, .bf16⟩
  | .hbm, ⟨20, _⟩ => ⟨S4x8x1, .f32⟩
  | .hbm, ⟨21, _⟩ => ⟨S2x16384, .i32⟩
  | .hbm, ⟨22, _⟩ => ⟨S2x16384, .f32⟩
  | .hbm, ⟨23, _⟩ => ⟨S2x16384, .i32⟩
  | .hbm, ⟨24, _⟩ => ⟨S32x1, .i32⟩
  | .local _ .vmem, ⟨0, _⟩ => ⟨S1024x2048, .f32⟩
  | .local _ .vmem, ⟨1, _⟩ => ⟨S1024x2048, .f32⟩
  | .local _ .vmem, ⟨2, _⟩ => ⟨S2x32x2048, .bf16⟩
  | .local _ .vmem, ⟨3, _⟩ => ⟨S4x8x1, .f32⟩
  | .local _ .vmem, ⟨4, _⟩ => ⟨S1024x1024, .bf16⟩
  | .local _ .vmem, ⟨5, _⟩ => ⟨S2x1024, .i32⟩
  | .local _ .vmem, ⟨6, _⟩ => ⟨S2x1024, .i32⟩
  | .local _ .vmem, ⟨7, _⟩ => ⟨S2x1024, .f32⟩
  | .local _ .vmem, ⟨8, _⟩ => ⟨S2x1024, .f32⟩
  | .local _ .vmem, ⟨9, _⟩ => ⟨S2x1024, .i32⟩
  | .local _ .vmem, ⟨10, _⟩ => ⟨S2x1024, .i32⟩
  | .local _ .vmem, ⟨11, _⟩ => ⟨S32x1, .i32⟩
  | .local _ .vmem, ⟨12, _⟩ => ⟨S32x1, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18_0 : Ref sig .tc := ⟨.hbm, 21, rfl⟩
abbrev main_v18_1 : Ref sig .tc := ⟨.hbm, 22, rfl⟩
abbrev main_v18_2 : Ref sig .tc := ⟨.hbm, 23, rfl⟩
abbrev main_v18_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x32x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1024 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference10Ideal.lean ====
abbrev S2x8192x2048 : Shape := ⟨3, ![2, 8192, 2048]⟩
abbrev S2048x32 : Shape := ⟨2, ![2048, 32]⟩
abbrev S32 : Shape := ⟨1, ![32]⟩
abbrev S16384x2048 : Shape := ⟨2, ![16384, 2048]⟩
abbrev S16384x32 : Shape := ⟨2, ![16384, 32]⟩
abbrev S_ : Shape := ⟨0, ![]⟩
abbrev S1x32 : Shape := ⟨2, ![1, 32]⟩
abbrev S16384x4x8 : Shape := ⟨3, ![16384, 4, 8]⟩
abbrev S16384x4x2 : Shape := ⟨3, ![16384, 4, 2]⟩
abbrev S16384x4 : Shape := ⟨2, ![16384, 4]⟩
abbrev S16384x1 : Shape := ⟨2, ![16384, 1]⟩
abbrev S16384 : Shape := ⟨1, ![16384]⟩
abbrev S16384x1x1 : Shape := ⟨3, ![16384, 1, 1]⟩
abbrev S16384x1x8 : Shape := ⟨3, ![16384, 1, 8]⟩
abbrev S16384x8 : Shape := ⟨2, ![16384, 8]⟩
abbrev S16384x2 : Shape := ⟨2, ![16384, 2]⟩
abbrev S16384x2x1 : Shape := ⟨3, ![16384, 2, 1]⟩
abbrev S32768 : Shape := ⟨1, ![32768]⟩
abbrev S32768x1 : Shape := ⟨2, ![32768, 1]⟩
abbrev S32768x32 : Shape := ⟨2, ![32768, 32]⟩
abbrev S2x16384 : Shape := ⟨2, ![2, 16384]⟩
abbrev S32x1 : Shape := ⟨2, ![32, 1]⟩

abbrev nBuf : Space → Nat
  | .hbm => 80
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x32, .f32⟩
  | .hbm, ⟨2, _⟩ => ⟨S32, .f32⟩
  | .hbm, ⟨3, _⟩ => ⟨S16384x2048, .f32⟩
  | .hbm, ⟨4, _⟩ => ⟨S16384x32, .f32⟩
  | .hbm, ⟨5, _⟩ => ⟨S16384x32, .f32⟩
  | .hbm, ⟨6, _⟩ => ⟨S16384x32, .f32⟩
  | .hbm, ⟨7, _⟩ => ⟨S_, .f32⟩
  | .hbm, ⟨8, _⟩ => ⟨S16384x32, .f32⟩
  | .hbm, ⟨9, _⟩ => ⟨S16384x32, .f32⟩
  | .hbm, ⟨10, _⟩ => ⟨S_, .f32⟩
  | .hbm, ⟨11, _⟩ => ⟨S16384x32, .f32⟩
  | .hbm, ⟨12, _⟩ => ⟨S16384x32, .f32⟩
  | .hbm, ⟨13, _⟩ => ⟨S1x32, .f32⟩
  | .hbm, ⟨14, _⟩ => ⟨S16384x32, .f32⟩
  | .hbm, ⟨15, _⟩ => ⟨S16384x32, .f32⟩
  | .hbm, ⟨16, _⟩ => ⟨S16384x4x8, .f32⟩
  | .hbm, ⟨17, _⟩ => ⟨S16384x4x2, .f32⟩
  | .hbm, ⟨18, _⟩ => ⟨S16384x4x2, .i32⟩
  | .hbm, ⟨19, _⟩ => ⟨S_, .f32⟩
  | .hbm, ⟨20, _⟩ => ⟨S16384x4, .f32⟩
  | .hbm, ⟨21, _⟩ => ⟨S16384x1, .f32⟩
  | .hbm, ⟨22, _⟩ => ⟨S16384x1, .i32⟩
  | .hbm, ⟨23, _⟩ => ⟨S16384, .i32⟩
  | .hbm, ⟨24, _⟩ => ⟨S16384x1x1, .i32⟩
  | .hbm, ⟨25, _⟩ => ⟨S_, .i32⟩
  | .hbm, ⟨26, _⟩ => ⟨S16384x1x1, .i32⟩
  | .hbm, ⟨27, _⟩ => ⟨S16384x1x1, .i1⟩
  | .hbm, ⟨28, _⟩ => ⟨S_, .i32⟩
  | .hbm, ⟨29, _⟩ => ⟨S16384x1x1, .i32⟩
  | .hbm, ⟨30, _⟩ => ⟨S16384x1x1, .i32⟩
  | .hbm, ⟨31, _⟩ => ⟨S16384x1x1, .i32⟩
  | .hbm, ⟨32, _⟩ => ⟨S16384x1x8, .f32⟩
  | .hbm, ⟨33, _⟩ => ⟨S16384x8, .f32⟩
  | .hbm, ⟨34, _⟩ => ⟨S16384x2, .f32⟩
  | .hbm, ⟨35, _⟩ => ⟨S16384x2, .i32⟩
  | .hbm, ⟨36, _⟩ => ⟨S16384x4x8, .f32⟩
  | .hbm, ⟨37, _⟩ => ⟨S16384x1x1, .i32⟩
  | .hbm, ⟨38, _⟩ => ⟨S_, .i32⟩
  | .hbm, ⟨39, _⟩ => ⟨S16384x1x1, .i32⟩
  | .hbm, ⟨40, _⟩ => ⟨S16384x1x1, .i1⟩
  | .hbm, ⟨41, _⟩ => ⟨S_, .i32⟩
  | .hbm, ⟨42, _⟩ => ⟨S16384x1x1, .i32⟩
  | .hbm, ⟨43, _⟩ => ⟨S16384x1x1, .i32⟩
  | .hbm, ⟨44, _⟩ => ⟨S16384x1x1, .i32⟩
  | .hbm, ⟨45, _⟩ => ⟨S16384x1x8, .f32⟩
  | .hbm, ⟨46, _⟩ => ⟨S16384x8, .f32⟩
  | .hbm, ⟨47, _⟩ => ⟨S_, .i32⟩
  | .hbm, ⟨48, _⟩ => ⟨S16384x2, .i32⟩
  | .hbm, ⟨49, _⟩ => ⟨S16384x2, .i1⟩
  | .hbm, ⟨50, _⟩ => ⟨S_, .i32⟩
  | .hbm, ⟨51, _⟩ => ⟨S16384x2, .i32⟩
  | .hbm, ⟨52, _⟩ => ⟨S16384x2, .i32⟩
  | .hbm, ⟨53, _⟩ => ⟨S16384x2, .i32⟩
  | .hbm, ⟨54, _⟩ => ⟨S16384x2x1, .i32⟩
  | .hbm, ⟨55, _⟩ => ⟨S16384x2, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S16384x2, .f32⟩
  | .hbm, ⟨60, _⟩ => ⟨S16384x2, .f32⟩
  | .hbm, ⟨61, _⟩ => ⟨S16384x1, .i32⟩
  | .hbm, ⟨62, _⟩ => ⟨S_, .i32⟩
  | .hbm, ⟨63, _⟩ => ⟨S16384x1, .i32⟩
  | .hbm, ⟨64, _⟩ => ⟨S16384x1, .i32⟩
  | .hbm, ⟨65, _⟩ => ⟨S16384x2, .i32⟩
  | .hbm, ⟨66, _⟩ => ⟨S16384x2, .i32⟩
  | .hbm, ⟨67, _⟩ => ⟨S32768, .i32⟩
  | .hbm, ⟨68, _⟩ => ⟨S32768x1, .i32⟩
  | .hbm, ⟨69, _⟩ => ⟨S32, .i32⟩
  | .hbm, ⟨70, _⟩ => ⟨S1x32, .i32⟩
  | .hbm, ⟨71, _⟩ => ⟨S32768x32, .i32⟩
  | .hbm, ⟨72, _⟩ => ⟨S32768x32, .i32⟩
  | .hbm, ⟨73, _⟩ => ⟨S32768x32, .i1⟩
  | .hbm, ⟨74, _⟩ => ⟨S32768x32, .i32⟩
  | .hbm, ⟨75, _⟩ => ⟨S_, .i32⟩
  | .hbm, ⟨76, _⟩ => ⟨S32, .i32⟩
  | .hbm, ⟨77, _⟩ => ⟨S2x16384, .i32⟩
  | .hbm, ⟨78, _⟩ => ⟨S2x16384, .f32⟩
  | .hbm, ⟨79, _⟩ => ⟨S32x1, .i32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_values : Ref sig .tc := ⟨.hbm, 17, rfl⟩
abbrev main_indices : Ref sig .tc := ⟨.hbm, 18, rfl⟩
abbrev main_cst_1 : Ref sig .tc := ⟨.hbm, 19, rfl⟩
abbrev main_v12 : Ref sig .tc := ⟨.hbm, 20, rfl⟩
abbrev main_values_2 : Ref sig .tc := ⟨.hbm, 21, rfl⟩
abbrev main_indices_3 : Ref sig .tc := ⟨.hbm, 22, rfl⟩
abbrev main_v13 : Ref sig .tc := ⟨.hbm, 23, rfl⟩
abbrev main_v14 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v15 : Ref sig .tc := ⟨.hbm, 32, rfl⟩
abbrev main_v16 : Ref sig .tc := ⟨.hbm, 33, rfl⟩
abbrev main_values_4 : Ref sig .tc := ⟨.hbm, 34, rfl⟩
abbrev main_indices_5 : Ref sig .tc := ⟨.hbm, 35, rfl⟩
abbrev main_v17 : Ref sig .tc := ⟨.hbm, 36, rfl⟩
abbrev main_v18 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v19 : Ref sig .tc := ⟨.hbm, 45, rfl⟩
abbrev main_v20 : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_v21 : Ref sig .tc := ⟨.hbm, 55, rfl⟩
abbrev main_cst_6 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_c : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_c_7 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩

abbrev nD : Nat := 1
abbrev τ : Topo := Topo.v7x

variable {F : FTy → Type} [FloatOps F]
-- ==== Kernel11.lean ====
abbrev S2x8192x2048 : Shape := ⟨3, ![2, 8192, 2048]⟩
abbrev S2x2x8192x2048 : Shape := ⟨4, ![2, 2, 8192, 2048]⟩
abbrev S2x2x8192 : Shape := ⟨3, ![2, 2, 8192]⟩
abbrev S2x2048 : Shape := ⟨2, ![2, 2048]⟩
abbrev S16384x2048 : Shape := ⟨2, ![16384, 2048]⟩
abbrev S32768x2048 : Shape := ⟨2, ![32768, 2048]⟩
abbrev S2x16384 : Shape := ⟨2, ![2, 16384]⟩
abbrev S16384x2 : Shape := ⟨2, ![16384, 2]⟩
abbrev S1x2048 : Shape := ⟨2, ![1, 2048]⟩
abbrev S2048 : Shape := ⟨1, ![2048]⟩
abbrev S512x2048 : Shape := ⟨2, ![512, 2048]⟩
abbrev S512x2 : Shape := ⟨2, ![512, 2]⟩
abbrev S512x1 : Shape := ⟨2, ![512, 1]⟩
abbrev S512 : Shape := ⟨1, ![512]⟩

abbrev nBuf : Space → Nat
  | .hbm => 18
  | .vmem => 14
  | .smem => 0
  | _ => 0

abbrev bufTy : (tb : Table) → Fin (tcTables nBuf tb) → BufTy
  | .hbm, ⟨0, _⟩ => ⟨S2x8192x2048, .f32⟩
  | .hbm, ⟨1, _⟩ => ⟨S2x2x8192x2048, .f32⟩
  | .hbm, ⟨2, _⟩ => ⟨S2x2x8192, .f32⟩
  | .hbm, ⟨3, _⟩ => ⟨S2x2048, .f32⟩
  | .hbm, ⟨4, _⟩ => ⟨S2x2048, .f32⟩
  | .hbm, ⟨5, _⟩ => ⟨S16384x2048, .f32⟩
  | .hbm, ⟨6, _⟩ => ⟨S32768x2048, .f32⟩
  | .hbm, ⟨7, _⟩ => ⟨S32768x2048, .bf16⟩
  | .hbm, ⟨8, _⟩ => ⟨S2x16384, .f32⟩
  | .hbm, ⟨9, _⟩ => ⟨S16384x2, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S1x2048, .f32⟩
  | .hbm, ⟨16, _⟩ => ⟨S16384x2048, .f32⟩
  | .hbm, ⟨17, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2, .f32⟩
  | .local _ .vmem, ⟨7, _⟩ => ⟨S512x2, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S2x8192x2048 : Shape := ⟨3, ![2, 8192, 2048]⟩
abbrev S2x2x8192x2048 : Shape := ⟨4, ![2, 2, 8192, 2048]⟩
abbrev S2x2x8192 : Shape := ⟨3, ![2, 2, 8192]⟩
abbrev S2x2048 : Shape := ⟨2, ![2, 2048]⟩
abbrev S2x2x8192x1 : Shape := ⟨4, ![2, 2, 8192, 1]⟩
abbrev S_ : Shape := ⟨0, ![]⟩
abbrev S1x2048 : Shape := ⟨2, ![1, 2048]⟩
abbrev S2048 : Shape := ⟨1, ![2048]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 49
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x2x8192x2048, .f32⟩
  | .hbm, ⟨2, _⟩ => ⟨S2x2x8192, .f32⟩
  | .hbm, ⟨3, _⟩ => ⟨S2x2048, .f32⟩
  | .hbm, ⟨4, _⟩ => ⟨S2x2048, .f32⟩
  | .hbm, ⟨5, _⟩ => ⟨S2x2x8192x1, .f32⟩
  | .hbm, ⟨6, _⟩ => ⟨S2x2x8192x2048, .f32⟩
  | .hbm, ⟨7, _⟩ => ⟨S2x2x8192x2048, .f32⟩
  | .hbm, ⟨8, _⟩ => ⟨S_, .f32⟩
  | .hbm, ⟨9, _⟩ => ⟨S2x8192x2048, .f32⟩
  | .hbm, ⟨10, _⟩ => ⟨S_, .f32⟩
  | .hbm, ⟨11, _⟩ => ⟨S2x8192x2048, .f32⟩
  | .hbm, ⟨12, _⟩ => ⟨S2x8192x2048, .f32⟩
  | .hbm, ⟨13, _⟩ => ⟨S2x8192x2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S2048, .f32⟩
  | .hbm, ⟨18, _⟩ => ⟨S_, .f32⟩
  | .hbm, ⟨19, _⟩ => ⟨S2x8192, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x2048, .f32⟩
  | .hbm, ⟨25, _⟩ => ⟨S2x8192x2048, .f32⟩
  | .hbm, ⟨26, _⟩ => ⟨S2x8192x2048, .f32⟩
  | .hbm, ⟨27, _⟩ => ⟨S_, .f32⟩
  | .hbm, ⟨28, _⟩ => ⟨S2x8192, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S2x8192x2048, .f32⟩
  | .hbm, ⟨34, _⟩ => ⟨S2x8192x2048, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S2x8192x1, .f32⟩
  | .hbm, ⟨39, _⟩ => ⟨S2x8192x2048, .f32⟩
  | .hbm, ⟨40, _⟩ => ⟨S2x8192x2048, .f32⟩
  | .hbm, ⟨41, _⟩ => ⟨S1x1x2048, .f32⟩
  | .hbm, ⟨42, _⟩ => ⟨S2x8192x2048, .f32⟩
  | .hbm, ⟨43, _⟩ => ⟨S2x8192x2048, .f32⟩
  | .hbm, ⟨44, _⟩ => ⟨S1x1x2048, .f32⟩
  | .hbm, ⟨45, _⟩ => ⟨S2x8192x2048, .f32⟩
  | .hbm, ⟨46, _⟩ => ⟨S2x8192x2048, .f32⟩
  | .hbm, ⟨47, _⟩ => ⟨S16384x2048, .f32⟩
  | .hbm, ⟨48, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.Finite.lean ====
/- What the precondition says: every element of the first seven arguments is a real number. -/
module

public import proofs.«01_k».proof.Defs
public import Idealize.ShloMosaic.Lib.ReduceAll
public import Idealize.ShloMosaic.Lib.Pointwise
public import Idealize.ShloMosaic.Lib.ValueIdx

@[expose] public section

set_option maxRecDepth 16384

noncomputable section

namespace Cert.Proof.Finite

open Idealize.ShloMosaic Cert.Pre_finite_inputs
open Cert.Pre_finite_inputs.Facts

/-- The shape facts the precondition's operations take. -/
theorem shapes : Cert.Pre_finite_inputs.Facts where
  bcast_S_S2x8192x1024 := by decide
  reducesTo_S2x8192x1024_S_d0_1_2 := by decide
  h_S_ := by decide
  bcast_S_S64 := by decide
  reducesTo_S64_S_d0 := by decide

/-- An extended real of absolute value less than infinity is a real number. -/
theorem real_of_lt (x : EReal) (h : max x (-x) < ⊤) : ∃ r : ℝ, x = (r : EReal) := by
  induction x with
  | bot => simp at h
  | top => simp at h
  | coe r => exact ⟨r, rfl⟩

/-- The comparison the precondition makes of one element, which came out true. -/
theorem real_of_cmp (x : EReal) (h : Ideal.cmp .olt (max x (-x)) (Ideal.ofBits .f32 0x7F800000#32) = 1#1) :
    ∃ r : ℝ, x = (r : EReal) := by
  have e : Ideal.ofBits .f32 0x7F800000#32 = ⊤ := by simp [Ideal.ofBits, Ideal.ieee]
  rw [e] at h
  refine real_of_lt x ?_
  by_contra hn
  simp [Ideal.cmp, hn] at h

/-- If "all absolute values are less than infinity" came out true of an array, each of its elements is a real number. -/
theorem real_of_all {s : Shape} {axes : List (Fin s.rank)} (x : FVec Ideal s .f32) (b : S_.BroadcastsInDim s (![] : Fin 0 → Fin s.rank))
    (r : s.ReducesTo axes S_) (h : 0 < S_.numel) (j : S_.Idx)
    (e : Host.reduce IntOp.andi (cmpf .olt (Host.absf x) (broadcastInDim s ![] b (constant (F := Ideal) S_ .f32 0x7F800000#32)))
      (constantI S_ 1 1#1) r h j = 1#1) (i : s.Idx) : ∃ r : ℝ, x i = (r : EReal) := by
  haveI : Subsingleton S_.Idx := ⟨fun a b => funext fun k => k.elim0⟩
  exact real_of_cmp _ (Host.reduce_andi_all _ _ r h j e i)

variable [Cert.Pre_finite_inputs.Facts]

/-- The two sides of a conjunction of `i1` arrays that is true. -/
theorem and_true (a b : IVec S_ 1) (j : S_.Idx) (h : andi a b j = 1#1) : a j = 1#1 ∧ b j = 1#1 :=
  IntOp.andi_eq_one.1 h

/-- The precondition, read element by element. -/
theorem reals_of_pre (x0 x1 x2 : FVec Ideal S2x8192x1024 .f32) (x3 x4 x5 x6 : FVec Ideal S64 .f32) (x7 : FVec Ideal S128 .f32)
    (h : Cert.Pre_finite_inputs.fn (F := Ideal) x0 x1 x2 x3 x4 x5 x6 x7 = fun _ => 1#1) :
    (∀ i, ∃ r : ℝ, x0 i = (r : EReal)) ∧ (∀ i, ∃ r : ℝ, x1 i = (r : EReal)) ∧ (∀ i, ∃ r : ℝ, x2 i = (r : EReal))
    ∧ (∀ i, ∃ r : ℝ, x3 i = (r : EReal)) ∧ (∀ i, ∃ r : ℝ, x4 i = (r : EReal)) ∧ (∀ i, ∃ r : ℝ, x5 i = (r : EReal))
    ∧ (∀ i, ∃ r : ℝ, x6 i = (r : EReal)) := by
  let j : S_.Idx := fun k => k.elim0
  have h' := congrFun h j
  unfold fn fn_part1 at h'
  obtain ⟨h', h6⟩ := and_true _ _ j h'
  obtain ⟨h', h5⟩ := and_true _ _ j h'
  obtain ⟨h', h4⟩ := and_true _ _ j h'
  obtain ⟨h', h3⟩ := and_true _ _ j h'
  obtain ⟨h', h2⟩ := and_true _ _ j h'
  obtain ⟨h0, h1⟩ := and_true _ _ j h'
  exact ⟨real_of_all x0 _ _ _ j h0, real_of_all x1 _ _ _ j h1, real_of_all x2 _ _ _ j h2, real_of_all x3 _ _ _ j h3,
    real_of_all x4 _ _ _ j h4, real_of_all x5 _ _ _ j h5, real_of_all x6 _ _ _ j h6⟩

end Cert.Proof.Finite

end
-- ==== Proof.ScatterRow.lean ====
/- A scatter that writes one row of each matrix of a stack: what it leaves at an index. -/
module

public import proofs.«01_k».proof.Proof.Gen.KernelIdeal.Launch
public import Idealize.ShloMosaic.Lib.Pointwise
public import Idealize.ShloMosaic.Lib.Routing.OpsSet

@[expose] public section

set_option maxRecDepth 16384

noncomputable section

namespace Cert.Proof

open Cert.KernelIdeal Cert.KernelIdeal.Gen Idealize.ShloMosaic Idealize.ShloMosaic.Pointwise

theorem midRow_lands (idx : IVec S1 32) (h : Fin 8) (t : Fin 512) (n : Fin 128) (hn : (idx (ix1 0)).toInt = (n.val : Int)) :
    scatter_S8x128x512_S1_S8x512_01_1_1_0.resultIdx? (ix2 h t) idx = some (ix3 h n t) := by
  have s0 : scatter_S8x128x512_S1_S8x512_01_1_1_0.start (ix2 h t) idx 0 = 0 := rfl
  have w0 : scatter_S8x128x512_S1_S8x512_01_1_1_0.window (ix2 h t) 0 = h.val := rfl
  have s1 : scatter_S8x128x512_S1_S8x512_01_1_1_0.start (ix2 h t) idx 1 = n.val := by
    rw [← hn]
    show (idx _).toInt = _
    congr 2
    exact ValueIdx.eq_ix1 _ |>.trans (congrArg ix1 (Subsingleton.elim (α := Fin 1) _ _))
  have w1 : scatter_S8x128x512_S1_S8x512_01_1_1_0.window (ix2 h t) 1 = 0 := rfl
  have s2 : scatter_S8x128x512_S1_S8x512_01_1_1_0.start (ix2 h t) idx 2 = 0 := rfl
  have w2 : scatter_S8x128x512_S1_S8x512_01_1_1_0.window (ix2 h t) 2 = t.val := rfl
  have tot : ∀ a : Fin 3, scatter_S8x128x512_S1_S8x512_01_1_1_0.start (ix2 h t) idx a + scatter_S8x128x512_S1_S8x512_01_1_1_0.window (ix2 h t) a
      = ((ix3 h n t : S8x128x512.Idx) a).val := fun a =>
    match a with
    | ⟨0, _⟩ => (congrArg₂ (· + ·) s0 (congrArg (Nat.cast : ℕ → ℤ) w0)).trans (zero_add _)
    | ⟨1, _⟩ => (congrArg₂ (· + ·) s1 (congrArg (Nat.cast : ℕ → ℤ) w1)).trans (add_zero _)
    | ⟨2, _⟩ => (congrArg₂ (· + ·) s2 (congrArg (Nat.cast : ℕ → ℤ) w2)).trans (zero_add _)
  unfold ScatterDims.resultIdx?
  rw [dif_pos]
  · congr 1
    funext a
    exact Fin.ext ((congrArg Int.toNat (tot a)).trans (Int.toNat_natCast _))
  · intro a
    have e := tot a
    have l := ((ix3 h n t : S8x128x512.Idx) a).isLt
    exact ⟨by rw [e]; exact Int.natCast_nonneg _, by rw [e]; exact Int.ofNat_lt.2 l⟩

theorem lastRow_lands (idx : IVec S1 32) (h : Fin 8) (t : Fin 512) (n : Fin 128) (hn : (idx (ix1 0)).toInt = (n.val : Int)) :
    scatter_S8x512x128_S1_S8x512_01_2_2_0.resultIdx? (ix2 h t) idx = some (ix3 h t n) := by
  have s0 : scatter_S8x512x128_S1_S8x512_01_2_2_0.start (ix2 h t) idx 0 = 0 := rfl
  have w0 : scatter_S8x512x128_S1_S8x512_01_2_2_0.window (ix2 h t) 0 = h.val := rfl
  have s1 : scatter_S8x512x128_S1_S8x512_01_2_2_0.start (ix2 h t) idx 1 = 0 := rfl
  have w1 : scatter_S8x512x128_S1_S8x512_01_2_2_0.window (ix2 h t) 1 = t.val := rfl
  have s2 : scatter_S8x512x128_S1_S8x512_01_2_2_0.start (ix2 h t) idx 2 = n.val := by
    rw [← hn]
    show (idx _).toInt = _
    congr 2
    exact ValueIdx.eq_ix1 _ |>.trans (congrArg ix1 (Subsingleton.elim (α := Fin 1) _ _))
  have w2 : scatter_S8x512x128_S1_S8x512_01_2_2_0.window (ix2 h t) 2 = 0 := rfl
  have tot : ∀ a : Fin 3, scatter_S8x512x128_S1_S8x512_01_2_2_0.start (ix2 h t) idx a + scatter_S8x512x128_S1_S8x512_01_2_2_0.window (ix2 h t) a
      = ((ix3 h t n : S8x512x128.Idx) a).val := fun a =>
    match a with
    | ⟨0, _⟩ => (congrArg₂ (· + ·) s0 (congrArg (Nat.cast : ℕ → ℤ) w0)).trans (zero_add _)
    | ⟨1, _⟩ => (congrArg₂ (· + ·) s1 (congrArg (Nat.cast : ℕ → ℤ) w1)).trans (zero_add _)
    | ⟨2, _⟩ => (congrArg₂ (· + ·) s2 (congrArg (Nat.cast : ℕ → ℤ) w2)).trans (add_zero _)
  unfold ScatterDims.resultIdx?
  rw [dif_pos]
  · congr 1
    funext a
    exact Fin.ext ((congrArg Int.toNat (tot a)).trans (Int.toNat_natCast _))
  · intro a
    have e := tot a
    have l := ((ix3 h t n : S8x512x128.Idx) a).isLt
    exact ⟨by rw [e]; exact Int.natCast_nonneg _, by rw [e]; exact Int.ofNat_lt.2 l⟩

/-- Row `n` of every matrix is written; every other row stays. -/
theorem midRow_apply {α : Type} (x : S8x128x512.Idx → α) (idx : IVec S1 32) (u : S8x512.Idx → α) (n : Fin 128)
    (hn : (idx (ix1 0)).toInt = (n.val : Int)) (h : Fin 8) (k : Fin 128) (t : Fin 512) :
    Host.scatter scatter_S8x128x512_S1_S8x512_01_1_1_0 (fun _ b => b) x idx u (ix3 h k t)
      = if k = n then u (ix2 h t) else x (ix3 h k t) := by
  have lands : ∀ j : S8x512.Idx, scatter_S8x128x512_S1_S8x512_01_1_1_0.resultIdx? j idx = some (ix3 h k t) →
      k = n ∧ j = ix2 h t := fun j hj => by
    have hj' := (congrArg (fun j => scatter_S8x128x512_S1_S8x512_01_1_1_0.resultIdx? j idx) (ValueIdx.eq_ix2 j)).symm.trans hj
    have e := Option.some.inj ((midRow_lands idx _ _ n hn).symm.trans hj')
    have e0 : j 0 = h := congrFun e 0
    have e2 : j 1 = t := congrFun e 2
    exact ⟨(congrFun e 1).symm, (ValueIdx.eq_ix2 j).trans (congrArg₂ ix2 e0 e2)⟩
  by_cases hk : k = n
  · rw [if_pos hk]
    exact Routing.scatter_set_hit _ x idx u _ _ (fun j hj => by rw [(lands j hj).2]) (ix2 h t) (by rw [hk]; exact midRow_lands idx h t n hn)
  · rw [if_neg hk]
    exact Routing.scatter_set_miss _ x idx u _ fun j hj => hk (lands j hj).1

/-- Column `n` of every matrix is written; every other column stays. -/
theorem lastRow_apply {α : Type} (x : S8x512x128.Idx → α) (idx : IVec S1 32) (u : S8x512.Idx → α) (n : Fin 128)
    (hn : (idx (ix1 0)).toInt = (n.val : Int)) (h : Fin 8) (t : Fin 512) (k : Fin 128) :
    Host.scatter scatter_S8x512x128_S1_S8x512_01_2_2_0 (fun _ b => b) x idx u (ix3 h t k)
      = if k = n then u (ix2 h t) else x (ix3 h t k) := by
  have lands : ∀ j : S8x512.Idx, scatter_S8x512x128_S1_S8x512_01_2_2_0.resultIdx? j idx = some (ix3 h t k) →
      k = n ∧ j = ix2 h t := fun j hj => by
    have hj' := (congrArg (fun j => scatter_S8x512x128_S1_S8x512_01_2_2_0.resultIdx? j idx) (ValueIdx.eq_ix2 j)).symm.trans hj
    have e := Option.some.inj ((lastRow_lands idx _ _ n hn).symm.trans hj')
    have e0 : j 0 = h := congrFun e 0
    have e2 : j 1 = t := congrFun e 1
    exact ⟨(congrFun e 2).symm, (ValueIdx.eq_ix2 j).trans (congrArg₂ ix2 e0 e2)⟩
  by_cases hk : k = n
  · rw [if_pos hk]
    exact Routing.scatter_set_hit _ x idx u _ _ (fun j hj => by rw [(lands j hj).2]) (ix2 h t) (by rw [hk]; exact lastRow_lands idx h t n hn)
  · rw [if_neg hk]
    exact Routing.scatter_set_miss _ x idx u _ fun j hj => hk (lands j hj).1

end Cert.Proof
-- ==== Proof.Ref.lean ====
/- The reference's differential attention at the extended reals: its softmax written as real quotients. -/
module

public import proofs.«01_k».proof.Proof.Gen.ReferenceIdeal.Read
public import Idealize.ShloMosaic.Lib.Pointwise
public import Idealize.ShloMosaic.Lib.WordCmp

@[expose] public section

set_option maxRecDepth 16384

noncomputable section

namespace Cert.Proof.Ref

open Cert.ReferenceIdeal Cert.ReferenceIdeal.Read Idealize.ShloMosaic Idealize.ShloMosaic.Pointwise

theorem sum_coe {ι : Type} (s : Finset ι) (f : ι → ℝ) : ∑ t ∈ s, (f t : EReal) = ((∑ t ∈ s, f t : ℝ) : EReal) := by
  classical
  induction s using Finset.induction_on with
  | empty => simp
  | insert x s hx ih => rw [Finset.sum_insert hx, Finset.sum_insert hx, ih, EReal.coe_add]

/-- The greatest of finitely many real numbers is a real number. -/
theorem fold_max_real {n : ℕ} [NeZero n] (f : Fin n → ℝ) :
    ∃ R : ℝ, (Finset.univ : Finset (Fin n)).fold max (⊥ : EReal) (fun t => (f t : EReal)) = (R : EReal) := by
  have key : ∀ s : Finset (Fin n), s.fold max (⊥ : EReal) (fun t => (f t : EReal)) = ⊥ ∧ s = ∅ ∨
      ∃ R : ℝ, s.fold max (⊥ : EReal) (fun t => (f t : EReal)) = (R : EReal) := by
    intro s
    induction s using Finset.induction_on with
    | empty => exact .inl ⟨rfl, rfl⟩
    | insert x s hx ih =>
      right
      rw [Finset.fold_insert hx]
      rcases ih with ⟨e, -⟩ | ⟨R, e⟩
      · exact ⟨f x, by rw [e]; simp⟩
      · exact ⟨max (f x) R, by rw [e]; exact (EReal.coe_strictMono.monotone.map_max).symm⟩
  rcases key Finset.univ with ⟨-, e⟩ | h
  · exact absurd e (Finset.univ_nonempty.ne_empty)
  · exact h

/-- A maximum over one axis of real numbers is a real number. -/
theorem reduce_max_real {s t u : Shape} {a : Fin s.rank} [NeZero (s.size a)] (v : FVec Ideal s .f32) (w : FVec Ideal u .f32)
    (h' : s.ReducesTo [a] t) (h : s.Reduces [a] t) (hu : 0 < u.numel) (j : t.Idx) (f : Fin (s.size a) → ℝ)
    (hf : ∀ k, v (h.lift j k) = (f k : EReal)) (hw : w (Shape.Idx.first hu) = (⊥ : EReal)) :
    ∃ M : ℝ, Host.reduce FloatOps.maximumf v w h' hu j = (M : EReal) := by
  obtain ⟨M, hM⟩ := fold_max_real f
  refine ⟨M, ?_⟩
  rw [← hM, ← hw]
  refine (Host.reduce_eq_fold_single (α := EReal) max v w h' h hu j).trans ?_
  congr 1
  funext k
  exact hf k

/-- A softmax does not depend on what is taken off every score. -/
theorem softmax_shift {n : ℕ} [NeZero n] (f : Fin n → ℝ) (M : ℝ) (k : Fin n) :
    Ideal.div ((Real.exp (f k - M) : ℝ) : EReal) (∑ k', ((Real.exp (f k' - M) : ℝ) : EReal))
      = ((Real.exp (f k) / ∑ k', Real.exp (f k') : ℝ) : EReal) := by
  rw [sum_coe]
  have hpos : (0 : ℝ) < ∑ k', Real.exp (f k' - M) :=
    Finset.sum_pos (fun _ _ => Real.exp_pos _) Finset.univ_nonempty
  rw [Ideal.div_coe hpos.ne', ← EReal.coe_mul]
  congr 1
  have e1 : ∀ x : ℝ, Real.exp (x - M) = Real.exp x * Real.exp (-M) := fun x => by rw [← Real.exp_add, sub_eq_add_neg]
  simp only [e1, ← Finset.sum_mul]
  have h2 : (0 : ℝ) < ∑ k', Real.exp (f k') :=
    Finset.sum_pos (fun _ _ => Real.exp_pos _) Finset.univ_nonempty
  have h3 := Real.exp_pos (-M)
  field_simp

variable (x0 x1 x2 : FVec Ideal S2x8192x1024 .f32) (x3 x4 x5 x6 : FVec Ideal S64 .f32) (x7 : FVec Ideal S128 .f32)

/-! ### The slopes, the distances and the mixing weight -/

theorem slopes_real : ∃ sl : Fin 8 → ℝ, ∀ h, val_main_v22 (F := Ideal) (ix1 h) = (sl h : EReal) := by
  refine ⟨fun h => Real.rpow 2 (-1 * (1 + ((BitVec.ofNat 32 h.val).toInt : ℝ))), fun h => ?_⟩
  have e2 : Ideal.ofBits .f32 0x40000000#32 = ((2 : ℝ) : EReal) := by
    simp [Ideal.ofBits, Ideal.ieee, -EReal.coe_mul]; norm_num
  have e1 : Ideal.ofBits .f32 0x3F800000#32 = ((1 : ℝ) : EReal) := by
    simp [Ideal.ofBits, Ideal.ieee, -EReal.coe_mul]; norm_num
  have em : Ideal.ofBits .f32 0xBF800000#32 = ((-1 : ℝ) : EReal) := by
    simp [Ideal.ofBits, Ideal.ieee, -EReal.coe_mul]; norm_num
  have ei : FloatOps.sitofp (F := Ideal) .f32 (BitVec.ofNat 32 h.val) = (((BitVec.ofNat 32 h.val).toInt : ℝ) : EReal) := rfl
  pointwise [val_main_v22, val_main_v21, val_main_v20, val_main_v19, val_main_v18, val_main_v17, val_main_v16,
    val_main_cst_5, val_main_cst_4, val_main_cst_3]
  rw [e2, ei, em, ← EReal.coe_one, ← EReal.coe_add, ← EReal.coe_mul]
  rfl

theorem abs_toInt (q k : Fin 8192) :
    (IntOp.absi (IntOp.subi (BitVec.ofNat 32 q.val) (BitVec.ofNat 32 k.val))).toInt = |((q.val : ℤ) - (k.val : ℤ))| := by
  have hq := q.isLt
  have hk := k.isLt
  have e : (IntOp.subi (BitVec.ofNat 32 q.val) (BitVec.ofNat 32 k.val)).toInt = (q.val : ℤ) - (k.val : ℤ) := by
    show (BitVec.ofNat 32 q.val - BitVec.ofNat 32 k.val).toInt = _
    rw [BitVec.toInt_sub, WordCmp.toInt_ofNat_of_lt (by omega), WordCmp.toInt_ofNat_of_lt (by omega)]
    exact Int.bmod_eq_of_le (by norm_num; omega) (by norm_num; omega)
  generalize IntOp.subi (BitVec.ofNat 32 q.val) (BitVec.ofNat 32 k.val) = x at e
  rw [← e]
  unfold IntOp.absi
  split
  · next h =>
    have h0 : x.toInt < 0 := of_decide_eq_true (BitVec.msb_eq_toInt.symm.trans h)
    rw [abs_of_neg h0, BitVec.toInt_neg]
    exact Int.bmod_eq_of_le (by norm_num; omega) (by norm_num; omega)
  · next h =>
    have h0 : ¬ x.toInt < 0 := fun c => h (by rw [BitVec.msb_eq_toInt]; exact decide_eq_true c)
    rw [abs_of_nonneg (by omega)]

theorem dist_apply (q k : Fin 8192) :
    val_main_v31 (F := Ideal) (ix2 q k) = ((|(q.val : ℝ) - (k.val : ℝ)| : ℝ) : EReal) := by
  pointwise [val_main_v31, val_main_v30, val_main_v29, val_main_v28, val_main_v27, val_main_v26, val_main_v25, val_main_v23]
  show (((IntOp.absi (IntOp.subi (BitVec.ofNat 32 q.val) (BitVec.ofNat 32 k.val))).toInt : ℝ) : EReal) = _
  rw [abs_toInt]
  push_cast; rfl

theorem lam_real (a3 a4 a5 a6 : Fin 64 → ℝ) (h3 : ∀ k, x3 (ix1 k) = (a3 k : EReal)) (h4 : ∀ k, x4 (ix1 k) = (a4 k : EReal))
    (h5 : ∀ k, x5 (ix1 k) = (a5 k : EReal)) (h6 : ∀ k, x6 (ix1 k) = (a6 k : EReal)) :
    ∃ l : ℝ, ∀ j, val_main_v7 (F := Ideal) x3 x4 x5 x6 j = (l : EReal) := by
  obtain ⟨c, hc⟩ : ∃ c : ℝ, Ideal.ofBits .f32 0x3E4CCCCD#32 = (c : EReal) :=
    ⟨_, by simp [Ideal.ofBits, Ideal.ieee, -EReal.coe_mul]; rfl⟩
  refine ⟨Real.exp (∑ k, a3 k * a4 k) - Real.exp (∑ k, a5 k * a6 k) + c, fun j => ?_⟩
  pointwise [val_main_v7, val_main_v6, val_main_v5, val_main_v4, val_main_v3, val_main_v2, val_main_v1, val_main_v0,
    val_main_cst, val_main_cst_0, val_main_cst_1]
  simp only [h3, h4, h5, h6, ← EReal.coe_mul]
  rw [sum_coe, sum_coe, hc, Ideal.exp_coe, Ideal.exp_coe, ← EReal.coe_sub, ← EReal.coe_add]

/-! ### The scores and their softmax -/

/-- The feature of half `e` of head `h`. -/
def feat (h : Fin 8) (e : Fin 2) (d : Fin 64) : Fin 1024 := ⟨h.val * 128 + e.val * 64 + d.val, by omega⟩

/-- The score of query `q` with key `k`. -/
def score (sl : Fin 8 → ℝ) (Q K : Fin 2 → Fin 8192 → Fin 1024 → ℝ) (b : Fin 2) (h : Fin 8) (e : Fin 2) (q k : Fin 8192) : ℝ :=
  (∑ d : Fin 64, Q b q (feat h e d) * (1 / 8) * K b k (feat h e d)) - sl h * |(q.val : ℝ) - (k.val : ℝ)|

theorem eighth : Ideal.ofBits .f32 0x3E000000#32 = ((1 / 8 : ℝ) : EReal) := by
  simp [Ideal.ofBits, Ideal.ieee, -EReal.coe_mul]; norm_num

theorem q_apply (b : Fin 2) (h : Fin 8) (e : Fin 2) (q : Fin 8192) (d : Fin 64) :
    val_main_v11 (F := Ideal) x0 (ix5 b h e q d) = x0 (ix3 b q (feat h e d)) * ((1 / 8 : ℝ) : EReal) := by
  pointwise [val_main_v11, val_main_v10, val_main_v9, val_main_v8, val_main_cst_2]
  rw [eighth]; rfl

theorem k_apply (b : Fin 2) (h : Fin 8) (e : Fin 2) (q : Fin 8192) (d : Fin 64) :
    val_main_v13 (F := Ideal) x1 (ix5 b h e q d) = x1 (ix3 b q (feat h e d)) := by
  pointwise [val_main_v13, val_main_v12]
  rfl

theorem bias_apply (b : Fin 2) (h : Fin 8) (e : Fin 2) (q k : Fin 8192) :
    val_main_v38 (F := Ideal) (ix5 b h e q k) = val_main_v22 (F := Ideal) (ix1 h) * val_main_v31 (F := Ideal) (ix2 q k) := by
  unfold val_main_v38 val_main_v37 val_main_v36 val_main_v35 val_main_v34 val_main_v33 val_main_v32
  generalize val_main_v22 (F := Ideal) = u
  generalize val_main_v31 (F := Ideal) = v
  pointwise []

section Real

variable {x0 x1 x2} {sl : Fin 8 → ℝ} {Q K V : Fin 2 → Fin 8192 → Fin 1024 → ℝ}
  (hsl : ∀ h, val_main_v22 (F := Ideal) (ix1 h) = (sl h : EReal))
  (hQ : ∀ b q k, x0 (ix3 b q k) = (Q b q k : EReal)) (hK : ∀ b q k, x1 (ix3 b q k) = (K b q k : EReal))
  (hV : ∀ b q k, x2 (ix3 b q k) = (V b q k : EReal))

include hsl hQ hK

theorem score_apply (b : Fin 2) (h : Fin 8) (e : Fin 2) (q k : Fin 8192) :
    val_main_v39 (F := Ideal) x0 x1 (ix5 b h e q k) = (score sl Q K b h e q k : EReal) := by
  show val_main_v24 (F := Ideal) x0 x1 (ix5 b h e q k) - val_main_v38 (F := Ideal) (ix5 b h e q k) = _
  rw [bias_apply, hsl, dist_apply, val_main_v24_apply]
  have el : ∀ d, lidx_main_v24 (ix5 b h e q k) d = ix5 b h e q d := fun d => by
    funext a; match a with | ⟨0, _⟩ => rfl | ⟨1, _⟩ => rfl | ⟨2, _⟩ => rfl | ⟨3, _⟩ => rfl | ⟨4, _⟩ => rfl
  have er : ∀ d, ridx_main_v24 (ix5 b h e q k) d = ix5 b h e k d := fun d => by
    funext a; match a with | ⟨0, _⟩ => rfl | ⟨1, _⟩ => rfl | ⟨2, _⟩ => rfl | ⟨3, _⟩ => rfl | ⟨4, _⟩ => rfl
  simp only [el, er, q_apply, k_apply, hQ, hK, ← EReal.coe_mul]
  rw [sum_coe, ← EReal.coe_sub]
  rfl

omit hsl hQ hK in
theorem red : S2x8x2x8192x8192.Reduces [4] S2x8x2x8192 := by decide

omit hsl hQ hK in
theorem lift_eq (b : Fin 2) (h : Fin 8) (e : Fin 2) (q k : Fin 8192) : red.lift (ix4 b h e q) k = ix5 b h e q k := by
  funext a; match a with | ⟨0, _⟩ => rfl | ⟨1, _⟩ => rfl | ⟨2, _⟩ => rfl | ⟨3, _⟩ => rfl | ⟨4, _⟩ => rfl

theorem max_real (b : Fin 2) (h : Fin 8) (e : Fin 2) (q : Fin 8192) :
    ∃ M : ℝ, val_main_v42 (F := Ideal) x0 x1 (ix4 b h e q) = (M : EReal) := by
  have ebot : Ideal.ofBits .f32 0xFF800000#32 = (⊥ : EReal) := by simp [Ideal.ofBits, Ideal.ieee, -EReal.coe_mul]
  have : NeZero (S2x8x2x8192x8192.size 4) := ⟨by decide⟩
  obtain ⟨M, hM⟩ := reduce_max_real (val_main_v39 (F := Ideal) x0 x1) (val_main_cst_6 (F := Ideal))
    Gen.reducesTo_S2x8x2x8192x8192_S2x8x2x8192_d4 red Gen.h_S_ (ix4 b h e q) (fun k => score sl Q K b h e q k)
    (fun k => (congrArg _ (lift_eq b h e q k)).trans (score_apply hsl hQ hK b h e q k)) ebot
  refine ⟨M, ?_⟩
  refine (val_main_v42_apply (F := Ideal) x0 x1 (ix4 b h e q)).trans ?_
  rw [show val_main_v40 (F := Ideal) x0 x1 (ix4 b h e q) = (M : EReal) from hM,
    show val_main_v41 (F := Ideal) (ix4 b h e q) = (⊥ : EReal) from ebot]
  exact max_eq_right bot_le

/-- The softmax: the exponentials' quotients, whatever the maximum is. -/
theorem softmax_apply (b : Fin 2) (h : Fin 8) (e : Fin 2) (q k : Fin 8192) :
    val_main_v50 (F := Ideal) x0 x1 (ix5 b h e q k)
      = ((Real.exp (score sl Q K b h e q k) / ∑ k', Real.exp (score sl Q K b h e q k') : ℝ) : EReal) := by
  obtain ⟨M, hM⟩ := max_real hsl hQ hK b h e q
  have hs := score_apply hsl hQ hK b h e q
  unfold val_main_v50 val_main_v49 val_main_v48 val_main_v47 val_main_v46 val_main_v45 val_main_v44 val_main_v43
  generalize val_main_v39 (F := Ideal) x0 x1 = v at *
  generalize val_main_v42 (F := Ideal) x0 x1 = w at *
  pointwise [val_main_cst_8]
  simp only [hs, hM, ← EReal.coe_sub, Ideal.exp_coe]
  exact softmax_shift _ M _

omit hsl hQ hK in
include hV in
theorem v_apply (b : Fin 2) (h : Fin 8) (k : Fin 8192) (d : Fin 128) :
    val_main_v15 (F := Ideal) x2 (ix4 b h k d) = (V b k ⟨h.val * 128 + d.val, by omega⟩ : EReal) := by
  pointwise [val_main_v15, val_main_v14]
  exact hV _ _ _

omit hsl hQ hK in
theorem first_half (b : Fin 2) (h : Fin 8) (q k : Fin 8192) :
    val_main_v52 (F := Ideal) x0 x1 (ix4 b h q k) = val_main_v50 (F := Ideal) x0 x1 (ix5 b h 0 q k) := by
  rw [val_main_v52_apply, val_main_v51_apply]
  refine congrArg _ (funext fun a => Fin.ext ?_)
  have hb := b.isLt; have hh := h.isLt; have hq := q.isLt; have hk := k.isLt
  match a with
  | ⟨0, _⟩ => show (((b.val * 8 + h.val) * 8192 + q.val) * 8192 + k.val) / 536870912 = b.val; omega
  | ⟨1, _⟩ => show (((b.val * 8 + h.val) * 8192 + q.val) * 8192 + k.val) / 67108864 % 8 = h.val; omega
  | ⟨2, _⟩ => rfl
  | ⟨3, _⟩ => show (((b.val * 8 + h.val) * 8192 + q.val) * 8192 + k.val) / 8192 % 8192 = q.val; omega
  | ⟨4, _⟩ => show (((b.val * 8 + h.val) * 8192 + q.val) * 8192 + k.val) % 8192 = k.val; omega

omit hsl hQ hK in
theorem second_half (b : Fin 2) (h : Fin 8) (q k : Fin 8192) :
    val_main_v54 (F := Ideal) x0 x1 (ix4 b h q k) = val_main_v50 (F := Ideal) x0 x1 (ix5 b h 1 q k) := by
  rw [val_main_v54_apply, val_main_v53_apply]
  refine congrArg _ (funext fun a => Fin.ext ?_)
  have hb := b.isLt; have hh := h.isLt; have hq := q.isLt; have hk := k.isLt
  match a with
  | ⟨0, _⟩ => show (((b.val * 8 + h.val) * 8192 + q.val) * 8192 + k.val) / 536870912 = b.val; omega
  | ⟨1, _⟩ => show (((b.val * 8 + h.val) * 8192 + q.val) * 8192 + k.val) / 67108864 % 8 = h.val; omega
  | ⟨2, _⟩ => rfl
  | ⟨3, _⟩ => show (((b.val * 8 + h.val) * 8192 + q.val) * 8192 + k.val) / 8192 % 8192 = q.val; omega
  | ⟨4, _⟩ => show (((b.val * 8 + h.val) * 8192 + q.val) * 8192 + k.val) % 8192 = k.val; omega

/-- The difference of the two softmaxes times the values. -/
def mixed (sl : Fin 8 → ℝ) (Q K V : Fin 2 → Fin 8192 → Fin 1024 → ℝ) (l : ℝ) (b : Fin 2) (h : Fin 8) (q : Fin 8192)
    (d : Fin 128) : ℝ :=
  ∑ k : Fin 8192, (Real.exp (score sl Q K b h 0 q k) / (∑ k', Real.exp (score sl Q K b h 0 q k'))
    - l * (Real.exp (score sl Q K b h 1 q k) / ∑ k', Real.exp (score sl Q K b h 1 q k')))
    * V b k ⟨h.val * 128 + d.val, by omega⟩

include hV in
theorem mixed_apply {l : ℝ} (hl : ∀ j, val_main_v7 (F := Ideal) x3 x4 x5 x6 j = (l : EReal)) (b : Fin 2) (h : Fin 8)
    (q : Fin 8192) (d : Fin 128) :
    val_main_v58 (F := Ideal) x0 x1 x2 x3 x4 x5 x6 (ix4 b h q d) = (mixed sl Q K V l b h q d : EReal) := by
  rw [val_main_v58_apply]
  have el : ∀ k, lidx_main_v58 (ix4 b h q d) k = ix4 b h q k := fun k => by
    funext a; match a with | ⟨0, _⟩ => rfl | ⟨1, _⟩ => rfl | ⟨2, _⟩ => rfl | ⟨3, _⟩ => rfl
  have er : ∀ k, ridx_main_v58 (ix4 b h q d) k = ix4 b h k d := fun k => by
    funext a; match a with | ⟨0, _⟩ => rfl | ⟨1, _⟩ => rfl | ⟨2, _⟩ => rfl | ⟨3, _⟩ => rfl
  have e57 : ∀ k, val_main_v57 (F := Ideal) x0 x1 x3 x4 x5 x6 (ix4 b h q k)
      = val_main_v52 (F := Ideal) x0 x1 (ix4 b h q k)
        - val_main_v55 (F := Ideal) x3 x4 x5 x6 (ix4 b h q k) * val_main_v54 (F := Ideal) x0 x1 (ix4 b h q k) := fun k => by
    rw [val_main_v57_apply, val_main_v56_apply, Ideal.subf_def, Ideal.mulf_def]
  have e55 : ∀ k, val_main_v55 (F := Ideal) x3 x4 x5 x6 (ix4 b h q k) = (l : EReal) := fun k =>
    (val_main_v55_apply (F := Ideal) x3 x4 x5 x6 (ix4 b h q k)).trans (hl _)
  simp only [el, er, e57, e55, first_half, second_half, softmax_apply hsl hQ hK, v_apply hV]
  simp only [← EReal.coe_mul, ← EReal.coe_sub]
  rw [sum_coe]
  rfl

end Real

/-- A head's output normed by its root mean square, scaled by the gain and by 0.8. -/
def normed (D : Fin 128 → EReal) (g : EReal) (d : Fin 128) : EReal :=
  D d * Ideal.rsqrt (Ideal.div (∑ x : Fin 128, D x * D x) (Ideal.ofBits .f32 0x43000000#32)
    + Ideal.ofBits .f32 0x3727C5AC#32) * g * Ideal.ofBits .f32 0x3F4CCCCD#32

/-- The reference's result. -/
theorem result_apply (b : Fin 2) (q : Fin 8192) (h : Fin 8) (d : Fin 128) :
    val_main_v76 (F := Ideal) x0 x1 x2 x3 x4 x5 x6 x7 (ix3 b q ⟨h.val * 128 + d.val, by omega⟩)
      = normed (fun d => val_main_v58 (F := Ideal) x0 x1 x2 x3 x4 x5 x6 (ix4 b h q d)) (x7 (ix1 d)) d := by
  have e75 : idx_main_v75 (ix3 b q ⟨h.val * 128 + d.val, by omega⟩) = ix4 b q h d := by
    have hb := b.isLt; have hh := h.isLt; have hq := q.isLt; have hd := d.isLt
    refine funext fun a => Fin.ext ?_
    match a with
    | ⟨0, _⟩ => show ((b.val * 8192 + q.val) * 1024 + (h.val * 128 + d.val)) / 8388608 = b.val; omega
    | ⟨1, _⟩ => show ((b.val * 8192 + q.val) * 1024 + (h.val * 128 + d.val)) / 1024 % 8192 = q.val; omega
    | ⟨2, _⟩ => show ((b.val * 8192 + q.val) * 1024 + (h.val * 128 + d.val)) / 128 % 8 = h.val; omega
    | ⟨3, _⟩ => show ((b.val * 8192 + q.val) * 1024 + (h.val * 128 + d.val)) % 128 = d.val; omega
  refine (val_main_v76_apply (F := Ideal) x0 x1 x2 x3 x4 x5 x6 x7 _).trans ?_
  rw [Ideal.truncf_def, val_main_v75_apply, e75]
  have e59 : ∀ d, idx_main_v59 (ix4 b q h d) = ix4 b h q d := fun d => by
    funext a; match a with | ⟨0, _⟩ => rfl | ⟨1, _⟩ => rfl | ⟨2, _⟩ => rfl | ⟨3, _⟩ => rfl
  have e61 : ∀ x, idx_main_v61 (idx_main_v62 (idx_main_v68 (ix4 b q h d))) x = ix4 b q h x := fun x => by
    funext a; match a with | ⟨0, _⟩ => rfl | ⟨1, _⟩ => rfl | ⟨2, _⟩ => rfl | ⟨3, _⟩ => rfl
  have e70 : idx_main_v70 (idx_main_v71 (ix4 b q h d)) = ix1 d := by
    funext a; match a with | ⟨0, _⟩ => rfl
  have c73 : ∀ i, val_main_v73 (F := Ideal) i = Ideal.ofBits .f32 0x3F4CCCCD#32 := fun i => rfl
  have c65 : ∀ i, val_main_v65 (F := Ideal) i = Ideal.ofBits .f32 0x3727C5AC#32 := fun i => rfl
  have c63 : ∀ i, val_main_v63 (F := Ideal) i = Ideal.ofBits .f32 0x43000000#32 := fun i => rfl
  have c9 : ∀ i, val_main_cst_9 (F := Ideal) i = (0 : EReal) := fun i => by
    show Ideal.ofBits .f32 0#32 = 0
    simp [Ideal.ofBits, Ideal.ieee, -EReal.coe_mul]
  have e60 : ∀ x, val_main_v60 (F := Ideal) x0 x1 x2 x3 x4 x5 x6 (idx_main_v61 (idx_main_v62 (idx_main_v68 (ix4 b q h d))) x)
      = val_main_v58 (F := Ideal) x0 x1 x2 x3 x4 x5 x6 (ix4 b h q x)
        * val_main_v58 (F := Ideal) x0 x1 x2 x3 x4 x5 x6 (ix4 b h q x) := fun x => by
    rw [e61, val_main_v60_apply, val_main_v59_apply, e59, Ideal.mulf_def]
  rw [val_main_v74_apply, val_main_v72_apply, val_main_v69_apply, val_main_v71_apply, val_main_v70_apply, e70,
    val_main_v68_apply, val_main_v67_apply, val_main_v66_apply, val_main_v64_apply, val_main_v62_apply, val_main_v61_apply,
    c73, c65, c63, c9, zero_add]
  rw [Finset.sum_congr rfl fun x _ => e60 x, val_main_v59_apply, e59]
  generalize val_main_v58 (F := Ideal) x0 x1 x2 x3 x4 x5 x6 = w
  unfold normed
  simp only [Ideal.mulf_def, Ideal.addf_def, Ideal.hostDivf_def, Ideal.hostUnary_rsqrt_def]

end Cert.Proof.Ref
-- ==== Proof.Host.lean ====
/- The arrays the attention kernel's host prepares before the launch, each read at an index. -/
module

public import proofs.«01_k».proof.Proof.Gen.KernelIdeal.Value
public import proofs.«01_k».proof.Proof.ScatterRow
public import proofs.«01_k».proof.Proof.Ref
public import Idealize.ShloMosaic.Lib.Pointwise
public import Idealize.ShloMosaic.Lib.StableHlo.ReadAt

@[expose] public section

set_option maxRecDepth 16384

noncomputable section

namespace Cert.Proof.Host

open Cert.KernelIdeal Cert.KernelIdeal.Gen Idealize.ShloMosaic Idealize.ShloMosaic.Pointwise
open Cert.ReferenceIdeal.Read (val_main_v22 val_main_v7)

variable (m : (ℓ : Loc nD τ sig) → Buf (Elt Ideal) ℓ) (c : Dev nD)

/-! ### The arguments -/

abbrev arg0 : FVec Ideal S2x8192x1024 .f32 := m ((c.tc : Thread nD τ).loc main_arg0)
abbrev arg1 : FVec Ideal S2x8192x1024 .f32 := m ((c.tc : Thread nD τ).loc main_arg1)
abbrev arg2 : FVec Ideal S2x8192x1024 .f32 := m ((c.tc : Thread nD τ).loc main_arg2)
abbrev arg3 : FVec Ideal S64 .f32 := m ((c.tc : Thread nD τ).loc main_arg3)
abbrev arg4 : FVec Ideal S64 .f32 := m ((c.tc : Thread nD τ).loc main_arg4)
abbrev arg5 : FVec Ideal S64 .f32 := m ((c.tc : Thread nD τ).loc main_arg5)
abbrev arg6 : FVec Ideal S64 .f32 := m ((c.tc : Thread nD τ).loc main_arg6)
abbrev arg7 : FVec Ideal S128 .f32 := m ((c.tc : Thread nD τ).loc main_arg7)

/-! ### Whole numbers -/

/-- The multiple of sixteen below a word, as the host finds it. -/
def hiWord (x : BitVec 32) : BitVec 32 :=
  IntOp.muli
    (Scalar.select
      (IntOp.andi
        (IntOp.cmpi CmpIPredicate.ne (if x = 0 then (0 : BitVec 32) else if x.msb = true then -1 else 1)
          (if 16#32 = 0 then (0 : BitVec 32) else if BitVec.msb 16#32 = true then -1 else 1))
        (IntOp.cmpi CmpIPredicate.ne (IntOp.remsi ArithUnit.host x 16#32) 0#32))
      (IntOp.subi (IntOp.divsi ArithUnit.host x 16#32) 1#32)
      (IntOp.divsi ArithUnit.host x 16#32))
    16#32

/-- The divisor of the host's remainder. -/
def sixteen : BitVec 32 := Scalar.select (IntOp.cmpi CmpIPredicate.eq 16#32 0#32) (1#32) 16#32

/-- A word's remainder by sixteen, as the host finds it. -/
def loWord (x : BitVec 32) : BitVec 32 :=
  Scalar.select
    (IntOp.andi
      (IntOp.cmpi CmpIPredicate.ne
        (IntOp.cmpi CmpIPredicate.slt (IntOp.remsi ArithUnit.host x sixteen) 0#32)
        (IntOp.cmpi CmpIPredicate.slt sixteen 0#32))
      (IntOp.cmpi CmpIPredicate.ne (IntOp.remsi ArithUnit.host x sixteen) 0#32))
    (IntOp.addi (IntOp.remsi ArithUnit.host x sixteen) sixteen)
    (IntOp.remsi ArithUnit.host x sixteen)

theorem hiWord_eq : ∀ t : Fin 512, (hiWord (BitVec.ofNat 32 t.val)).toInt = 16 * (t.val / 16 : ℕ) := by decide +kernel
theorem loWord_eq : ∀ t : Fin 512, (loWord (BitVec.ofNat 32 t.val)).toInt = (t.val % 16 : ℕ) := by decide +kernel

theorem dist_toInt (r t : Fin 512) :
    (IntOp.absi (IntOp.subi (BitVec.ofNat 32 r.val) (BitVec.ofNat 32 t.val))).toInt = |(r.val : ℤ) - t.val| :=
  Ref.abs_toInt ⟨r.val, by omega⟩ ⟨t.val, by omega⟩

/-! ### The slopes -/

theorem slope_eq (h : Fin 8) :
    Ideal.pow (Ideal.ofBits FTy.f32 1073741824#32)
      (Ideal.ofBits FTy.f32 3212836864#32 * (1 + FloatOps.sitofp (F := Ideal) FTy.f32 (BitVec.ofNat 32 h.val)))
      = val_main_v22 (F := Ideal) (ix1 h) := by
  pointwise [val_main_v22, Cert.ReferenceIdeal.Read.val_main_v21, Cert.ReferenceIdeal.Read.val_main_v20,
    Cert.ReferenceIdeal.Read.val_main_v19, Cert.ReferenceIdeal.Read.val_main_v18, Cert.ReferenceIdeal.Read.val_main_v17,
    Cert.ReferenceIdeal.Read.val_main_v16,
    Cert.ReferenceIdeal.Read.val_main_cst_5, Cert.ReferenceIdeal.Read.val_main_cst_4, Cert.ReferenceIdeal.Read.val_main_cst_3]

set_option maxHeartbeats 4000000 in
theorem slopes_apply (h : Fin 8) :
    (V (F := Ideal) m c main_v23 : FVec Ideal S8 .f32) (ix1 h) = val_main_v22 (F := Ideal) (ix1 h) := by
  rw [← slope_eq]
  unfold V
  after_reads_at

/-! ### Queries, keys, values -/

set_option maxHeartbeats 4000000 in
theorem queries_apply (f : Fin 1024) (r : Fin 16384) :
    (V (F := Ideal) m c main_v4 : FVec Ideal S1024x16384 .bf16) (ix2 f r)
      = arg0 m c (ix3 ⟨r.val / 8192, by omega⟩ ⟨r.val % 8192, by omega⟩ f) * Ideal.ofBits .f32 0x3E000000#32 := by
  unfold V
  after_reads_at

set_option maxHeartbeats 4000000 in
theorem values_apply (f : Fin 1024) (r : Fin 16384) :
    (V (F := Ideal) m c main_v7 : FVec Ideal S1024x16384 .bf16) (ix2 f r)
      = arg2 m c (ix3 ⟨r.val / 8192, by omega⟩ ⟨r.val % 8192, by omega⟩ f) := by
  unfold V
  after_reads_at

set_option maxHeartbeats 4000000 in
theorem keys_apply (b : Fin 2) (r : Fin 8192) (f : Fin 1024) :
    (V (F := Ideal) m c main_v16 : FVec Ideal S2x8192x1024 .bf16) (ix3 b r f) = arg1 m c (ix3 b r f) := by
  unfold V
  after_reads_at

set_option maxHeartbeats 4000000 in
theorem gain_apply (d : Fin 128) (z : Fin 1) :
    (V (F := Ideal) m c main_v95 : FVec Ideal S128x1 .f32) (ix2 d z) = arg7 m c (ix1 d) := by
  unfold V
  after_reads_at

set_option maxHeartbeats 4000000 in
theorem lam_apply (z : Fin 1) :
    (V (F := Ideal) m c main_v92 : FVec Ideal S1 .f32) (ix1 z)
      = val_main_v7 (F := Ideal) (arg3 m c) (arg4 m c) (arg5 m c) (arg6 m c) ix0 := by
  trans Ideal.exp (∑ x, arg3 m c (ix1 x) * arg4 m c (ix1 x)) - Ideal.exp (∑ x, arg5 m c (ix1 x) * arg6 m c (ix1 x))
    + Ideal.ofBits FTy.f32 1045220557#32
  · unfold V
    after_reads_at
  · pointwise [val_main_v7, Cert.ReferenceIdeal.Read.val_main_v6, Cert.ReferenceIdeal.Read.val_main_v5,
      Cert.ReferenceIdeal.Read.val_main_v4, Cert.ReferenceIdeal.Read.val_main_v3, Cert.ReferenceIdeal.Read.val_main_v2,
      Cert.ReferenceIdeal.Read.val_main_v1, Cert.ReferenceIdeal.Read.val_main_v0,
      Cert.ReferenceIdeal.Read.val_main_cst, Cert.ReferenceIdeal.Read.val_main_cst_0, Cert.ReferenceIdeal.Read.val_main_cst_1]

/-! ### The bias of a chunk on the diagonal and the feature rows of the other chunks -/

set_option maxHeartbeats 4000000 in
theorem bias_apply (h : Fin 8) (r t : Fin 512) (s : ℝ) (hs : val_main_v22 (F := Ideal) (ix1 h) = (s : EReal)) :
    (V (F := Ideal) m c main_v91 : FVec Ideal S8x512x512 .f32) (ix3 h r t)
      = ((s * |(r.val : ℝ) - (t.val : ℝ)| : ℝ) : EReal) := by
  have e : FloatOps.sitofp (F := Ideal) .f32 (IntOp.absi (IntOp.subi (BitVec.ofNat 32 r.val) (BitVec.ofNat 32 t.val)))
      = ((|(r.val : ℝ) - (t.val : ℝ)| : ℝ) : EReal) := by
    show (((IntOp.absi (IntOp.subi (BitVec.ofNat 32 r.val) (BitVec.ofNat 32 t.val))).toInt : ℝ) : EReal) = _
    rw [dist_toInt]
    push_cast
    rfl
  rw [EReal.coe_mul, ← e, ← hs, ← slope_eq]
  unfold V
  after_reads_at

/-- The feature rows of the queries. -/
def featQ (s : ℝ) (k : Fin 128) (t : Fin 512) : ℝ :=
  if k = 3 then -s * ((t.val % 16 : ℕ) : ℝ)
  else if k = 2 then -s * ((16 * (t.val / 16) : ℕ) : ℝ)
  else if k = 1 then 1 else if k = 0 then 1 else 0

/-- The feature columns of the keys. -/
def featK (s : ℝ) (t : Fin 512) (k : Fin 128) : ℝ :=
  if k = 3 then 1 else if k = 2 then 1
  else if k = 1 then s * ((t.val % 16 : ℕ) : ℝ)
  else if k = 0 then s * ((16 * (t.val / 16) : ℕ) : ℝ) else 0

theorem hi_coe (t : Fin 512) :
    FloatOps.sitofp (F := Ideal) .f32 (hiWord (BitVec.ofNat 32 t.val)) = (((16 * (t.val / 16) : ℕ) : ℝ) : EReal) := by
  show (((hiWord (BitVec.ofNat 32 t.val)).toInt : ℝ) : EReal) = _
  rw [hiWord_eq]; push_cast; rfl

theorem lo_coe (t : Fin 512) :
    FloatOps.sitofp (F := Ideal) .f32 (loWord (BitVec.ofNat 32 t.val)) = (((t.val % 16 : ℕ) : ℝ) : EReal) := by
  show (((loWord (BitVec.ofNat 32 t.val)).toInt : ℝ) : EReal) = _
  rw [loWord_eq]; push_cast; rfl

set_option maxHeartbeats 4000000 in
theorem featQ_apply (h : Fin 8) (k : Fin 128) (t : Fin 512) (s : ℝ) (hs : val_main_v22 (F := Ideal) (ix1 h) = (s : EReal)) :
    (V (F := Ideal) m c main_v93 : FVec Ideal S8x128x512 .bf16) (ix3 h k t) = ((featQ s k t : ℝ) : EReal) := by
  trans (if k = 3 then -val_main_v22 (F := Ideal) (ix1 h) * FloatOps.sitofp (F := Ideal) .f32 (loWord (BitVec.ofNat 32 t.val))
    else if k = 2 then -val_main_v22 (F := Ideal) (ix1 h) * FloatOps.sitofp (F := Ideal) .f32 (hiWord (BitVec.ofNat 32 t.val))
    else if k = 1 then (1 : EReal) else if k = 0 then (1 : EReal) else (0 : EReal))
  · rw [← slope_eq]
    unfold V
    after_reads_simp
    simp -implicitDefEqProofs only [StableHlo.TRef.toBuf, StableHlo.TRef.ofBuf, cast_cast, cast_eq]
    clean_types
    refine (truncf_apply _ _ _ _).trans ?_
    rw [midRow_apply _ _ _ 3 rfl, midRow_apply _ _ _ 2 rfl, midRow_apply _ _ _ 1 rfl, midRow_apply _ _ _ 0 rfl]
    pointwise
    rfl
  · rw [hi_coe, lo_coe, hs, ← EReal.coe_neg, ← EReal.coe_mul, ← EReal.coe_mul, featQ]
    split_ifs <;> simp

set_option maxHeartbeats 4000000 in
theorem featK_apply (h : Fin 8) (t : Fin 512) (k : Fin 128) (s : ℝ) (hs : val_main_v22 (F := Ideal) (ix1 h) = (s : EReal)) :
    (V (F := Ideal) m c main_v94 : FVec Ideal S8x512x128 .bf16) (ix3 h t k) = ((featK s t k : ℝ) : EReal) := by
  trans (if k = 3 then (1 : EReal) else if k = 2 then (1 : EReal)
    else if k = 1 then val_main_v22 (F := Ideal) (ix1 h) * FloatOps.sitofp (F := Ideal) .f32 (loWord (BitVec.ofNat 32 t.val))
    else if k = 0 then val_main_v22 (F := Ideal) (ix1 h) * FloatOps.sitofp (F := Ideal) .f32 (hiWord (BitVec.ofNat 32 t.val))
    else (0 : EReal))
  · rw [← slope_eq]
    unfold V
    after_reads_simp
    simp -implicitDefEqProofs only [StableHlo.TRef.toBuf, StableHlo.TRef.ofBuf, cast_cast, cast_eq]
    clean_types
    refine (truncf_apply _ _ _ _).trans ?_
    rw [lastRow_apply _ _ _ 3 rfl, lastRow_apply _ _ _ 2 rfl, lastRow_apply _ _ _ 1 rfl, lastRow_apply _ _ _ 0 rfl]
    pointwise
    rfl
  · rw [hi_coe, lo_coe, hs, ← EReal.coe_mul, ← EReal.coe_mul, featK]
    split_ifs <;> simp

/-- The feature rows' products add up to the slope times the difference of the places. -/
theorem feat_sum (s : ℝ) (t c : Fin 512) : ∑ k : Fin 128, featK s t k * featQ s k c = s * ((t.val : ℝ) - (c.val : ℝ)) := by
  have ht : (t.val : ℝ) = ((16 * (t.val / 16) : ℕ) : ℝ) + ((t.val % 16 : ℕ) : ℝ) := by
    rw [← Nat.cast_add]; congr 1; omega
  have hc : (c.val : ℝ) = ((16 * (c.val / 16) : ℕ) : ℝ) + ((c.val % 16 : ℕ) : ℝ) := by
    rw [← Nat.cast_add]; congr 1; omega
  have z : ∀ k ∈ (Finset.univ : Finset (Fin 128)), k ∉ ({0, 1, 2, 3} : Finset (Fin 128)) → featK s t k * featQ s k c = 0 := by
    intro k _ hk
    simp only [Finset.mem_insert, Finset.mem_singleton, not_or] at hk
    obtain ⟨h0, h1, h2, h3⟩ := hk
    simp [featK, h0, h1, h2, h3]
  rw [← Finset.sum_subset (Finset.subset_univ ({0, 1, 2, 3} : Finset (Fin 128))) z]
  rw [Finset.sum_insert (by decide), Finset.sum_insert (by decide), Finset.sum_insert (by decide), Finset.sum_singleton]
  rw [show featK s t 0 = s * ((16 * (t.val / 16) : ℕ) : ℝ) from rfl, show featK s t 1 = s * ((t.val % 16 : ℕ) : ℝ) from rfl,
    show featK s t 2 = 1 from rfl, show featK s t 3 = 1 from rfl,
    show featQ s 0 c = 1 from rfl, show featQ s 1 c = 1 from rfl,
    show featQ s 2 c = -s * ((16 * (c.val / 16) : ℕ) : ℝ) from rfl, show featQ s 3 c = -s * ((c.val % 16 : ℕ) : ℝ) from rfl,
    ht, hc]
  ring

end Cert.Proof.Host
-- ==== Proof.Body.lean ====
/- What one grid point of the attention kernel leaves in its output block, as one composed function of the
   blocks it reads: the running maximum and the running weighted sums are carried through the chunks of keys
   together with the two score tiles, one of which is always computed a chunk ahead. -/
module

public import proofs.«01_k».proof.Proof.Gen.KernelIdeal.Frame
public import Idealize.ShloMosaic.Lib.Pipeline.Value
public import Idealize.ShloMosaic.Lib.VecWindow

@[expose] public section

set_option maxRecDepth 16384

noncomputable section

namespace Cert.Proof

open Cert.KernelIdeal Cert.KernelIdeal.Gen Idealize.ShloMosaic Idealize.ShloMosaic.TcCoe Idealize.ShloMosaic.Tactic
open Idealize.SL.Sem

variable {F : FTy → Type} [FloatOps F]

/-- What the kernel carries from chunk to chunk: the maximum, the weighted sums, and the two score tiles. -/
structure St (F : FTy → Type) where
  /-- the running maximum of every column -/
  m : Vec F S1x1024 .f32
  /-- the running weighted sums of every column -/
  a : Vec F S144x1024 .f32
  /-- the first score tile -/
  p : Vec F S512x1024 .f32
  /-- the second score tile -/
  q : Vec F S512x1024 .f32

/-- The words and vectors a grid point computes once and uses in every chunk. -/
structure Pt (F : FTy → Type) where
  v0 : BitVec 32
  v2 : Elt F .f32
  v18 : FVec F S256x1024 .bf16
  v20 : FVec F S512x128 .bf16
  v22 : FVec F S512x128 .bf16
  v23 : FVec F S16x512 .bf16
  v48 : BitVec 32

/-- The number of the chunk the second half of trip `k` consumes. -/
def oddWord (v48 : BitVec 32) (k : Fin k0_t1_loop.trips) : BitVec 32 :=
  Scalar.addi (Scalar.addi (Scalar.muli 2#32 (Scf.iv 0#32 1#32 k)) 1#32)
    (Scalar.extui (Scalar.cmpi .sge (Scalar.addi (Scalar.muli 2#32 (Scf.iv 0#32 1#32 k)) 1#32) v48))

/-- The state in the middle of trip `k`: the second tile consumed, both tiles computed anew. -/
def half (i : grid0.Coords) (w : Pt F) (x3 : Vec F S1x8192x128 .bf16) (x4 : Vec F S128x8192 .bf16)
    (k : Fin k0_t1_loop.trips) (s : St F) : St F where
  m := k0_pay9 (k0_pay6 w.v0 w.v2 w.v48 0#32 1#32 k s.q s.m)
  a := k0_pay8 s.q (k0_pay5 w.v23 (View.ld x4 (Rect.unit (k0_off6 i k) S128x512.size (k0_off6_inb i k)))) s.m
    (k0_pay6 w.v0 w.v2 w.v48 0#32 1#32 k s.q s.m) (k0_pay7 w.v0 w.v2 w.v48 0#32 1#32 k s.q s.m) s.a
  p := k0_pay3 w.v18 w.v20 w.v22 w.v48 0#32 1#32 k
    (View.ld x3 (Rect.unit (k0_off5 i k 1#32) S1x512x128.size (k0_off5_inb i k 0)))
  q := k0_pay10 w.v18 w.v20 w.v22 w.v48 (Scf.iv 0#32 1#32 k)
    (View.ld x3 (Rect.unit (k0_off5 i k 2#32) S1x512x128.size (k0_off5_inb i k 1)))

/-- The state after trip `k`: the first tile consumed too. -/
def trip (i : grid0.Coords) (w : Pt F) (x3 : Vec F S1x8192x128 .bf16) (x4 : Vec F S128x8192 .bf16)
    (k : Fin k0_t1_loop.trips) (s : St F) : St F where
  m := k0_pay28 w.v0 w.v2 (oddWord w.v48 k) (half i w x3 x4 k s).p (half i w x3 x4 k s).m
  a := k0_pay27 w.v0 w.v2 w.v23 (oddWord w.v48 k) (half i w x3 x4 k s).p
    (View.ld x4 (Rect.unit (k0_off7 i k) S128x512.size (k0_off7_inb i k))) (half i w x3 x4 k s).m (half i w x3 x4 k s).a
  p := (half i w x3 x4 k s).p
  q := (half i w x3 x4 k s).q

/-- The state before trip `n`. -/
def before (i : grid0.Coords) (w : Pt F) (x3 : Vec F S1x8192x128 .bf16) (x4 : Vec F S128x8192 .bf16) (s : St F) : ℕ → St F
  | 0 => s
  | n + 1 => if h : n < k0_t1_loop.trips then trip i w x3 x4 ⟨n, h⟩ (before i w x3 x4 s n) else before i w x3 x4 s n

/-- The state when the loop is entered: the diagonal chunk consumed from the first tile, the second tile computed. -/
def entry (i : grid0.Coords) (w : Pt F) (v14 : FVec F S128x1024 .bf16) (v69 v71 : FVec F S512x128 .bf16)
    (x3 : Vec F S1x8192x128 .bf16) (x4 : Vec F S128x8192 .bf16) (x7 : Vec F S1x512x512 .f32) : St F where
  m := k0_pay24 (k0_pay18 v14 x7 (View.ld x3 (Rect.unit (k0_off2 i) S1x512x128.size (k0_off2_inb i)))) k0_pay16
  a := k0_pay23 k0_pay15 (k0_pay18 v14 x7 (View.ld x3 (Rect.unit (k0_off2 i) S1x512x128.size (k0_off2_inb i))))
    (View.ld x4 (Rect.unit (k0_off4 i) S128x512.size (k0_off4_inb i))) k0_pay16 k0_pay17
  p := k0_pay18 v14 x7 (View.ld x3 (Rect.unit (k0_off2 i) S1x512x128.size (k0_off2_inb i)))
  q := k0_pay21 w.v18 v69 v71

/-- The weighted sums at the end: the last chunk consumed from the second tile. -/
def sums (i : grid0.Coords) (w : Pt F) (x4 : Vec F S128x8192 .bf16) (s : St F) : Vec F S144x1024 .f32 :=
  k0_pay31 w.v0 w.v2 w.v23 w.v48 s.q (View.ld x4 (Rect.unit (k0_off8 i) S128x512.size (k0_off8_inb i))) s.m s.a

/-- The word of the block of queries: its first position. -/
def w0 (i : grid0.Coords) : BitVec 32 := Scalar.muli (BitVec.ofNat 32 (i 2).val) 512#32

/-- The number of the block of queries, as the kernel computes it by a floor division. -/
def w48 (i : grid0.Coords) : BitVec 32 :=
  Scalar.select
    (Scalar.andi
      (Scalar.cmpi .ne (Scalar.subi (Scalar.extui (Scalar.cmpi .sgt (w0 i) 0#32)) (Scalar.extui (Scalar.cmpi .slt (w0 i) 0#32)))
        (Scalar.subi (Scalar.extui (Scalar.cmpi .sgt 512#32 0#32)) (Scalar.extui (Scalar.cmpi .slt 512#32 0#32))))
      (Scalar.cmpi .ne (Scalar.remsi (w0 i) 512#32) 0#32))
    (Scalar.subi (Scalar.divsi (w0 i) 512#32) 1#32) (Scalar.divsi (w0 i) 512#32)

/-- The words and vectors of a grid point, from its blocks. -/
def pt (i : grid0.Coords) (x0 : Vec F S8 .f32) (x2 : Vec F S128x512 .bf16) (x5 : Vec F S1x128x512 .bf16)
    (x6 : Vec F S1x512x128 .bf16) : Pt F where
  v0 := w0 i
  v2 := View.ld x0 (Rect.unit (k0_off1 i) S1.size (k0_off1_inb i)) (Shape.Idx.first (s := S1) (by decide))
  v18 := k0_pay12 x2 x5
  v20 := k0_pay13 x6
  v22 := k0_pay14 x6
  v23 := k0_pay15
  v48 := w48 i

/-- The state at loop entry, from the blocks. -/
def enter (i : grid0.Coords) (x0 : Vec F S8 .f32) (x2 : Vec F S128x512 .bf16) (x3 : Vec F S1x8192x128 .bf16)
    (x4 : Vec F S128x8192 .bf16) (x5 : Vec F S1x128x512 .bf16) (x6 : Vec F S1x512x128 .bf16) (x7 : Vec F S1x512x512 .f32) : St F :=
  entry i (pt i x0 x2 x5 x6) (k0_pay11 x2)
    (k0_pay19 (View.ld x3 (Rect.unit (k0_off3 i) S1x512x128.size (k0_off3_inb i))))
    (k0_pay20 (w0 i) (k0_pay13 x6) (k0_pay14 x6) 512#32 (Scalar.divsi (w0 i) 512#32)) x3 x4 x7

/-- The output block of a grid point, from the blocks it reads. -/
def outBlock (i : grid0.Coords) (x0 : Vec F S8 .f32) (x1 : Vec F S1 .f32) (x2 : Vec F S128x512 .bf16)
    (x3 : Vec F S1x8192x128 .bf16) (x4 : Vec F S128x8192 .bf16) (x5 : Vec F S1x128x512 .bf16) (x6 : Vec F S1x512x128 .bf16)
    (x7 : Vec F S1x512x512 .f32) (x8 : Vec F S128x1 .f32) : Vec F S1x512x128 .bf16 :=
  k0_pay2 (x1 (Shape.Idx.first (s := S1) (by decide)))
    (sums i (pt i x0 x2 x5 x6) x4
      (before i (pt i x0 x2 x5 x6) x3 x4 (enter i x0 x2 x3 x4 x5 x6 x7) k0_t1_loop.trips)) x8

theorem z2 : (![0, 0] : Fin 2 → ℕ) = fun _ => 0 := by funext a; fin_cases a <;> rfl
theorem z3 : (![0, 0, 0] : Fin 3 → ℕ) = fun _ => 0 := by funext a; fin_cases a <;> rfl
theorem z1 : (![0] : Fin 1 → ℕ) = fun _ => 0 := by funext a; fin_cases a; rfl

section
variable (𝒱 : Variants) (c : Dev nD) (bd : Option 𝒱.V) (i : grid0.Coords)
  (arg3 : Memref sig .tc .smem S8 .f32) (harg3 : arg3.IsWhole)
  (arg4 : Memref sig .tc .smem S1 .f32) (harg4 : arg4.IsWhole)
  (arg5 : Memref sig .tc .vmem S128x512 .bf16) (harg5 : arg5.IsWhole)
  (arg6 : Memref sig .tc .vmem S1x8192x128 .bf16) (harg6 : arg6.IsWhole)
  (arg7 : Memref sig .tc .vmem S128x8192 .bf16) (harg7 : arg7.IsWhole)
  (arg8 : Memref sig .tc .vmem S1x128x512 .bf16) (harg8 : arg8.IsWhole)
  (arg9 : Memref sig .tc .vmem S1x512x128 .bf16) (harg9 : arg9.IsWhole)
  (arg10 : Memref sig .tc .vmem S1x512x512 .f32) (harg10 : arg10.IsWhole)
  (arg11 : Memref sig .tc .vmem S128x1 .f32) (harg11 : arg11.IsWhole)
  (arg12 : Memref sig .tc .vmem S1x512x128 .bf16) (harg12 : arg12.IsWhole)
  (arg13 : Memref sig .tc .vmem S1x1024 .f32) (harg13 : arg13.IsWhole)
  (arg14 : Memref sig .tc .vmem S144x1024 .f32) (harg14 : arg14.IsWhole)
  (arg15 : Memref sig .tc .vmem S512x1024 .f32) (harg15 : arg15.IsWhole)
  (arg16 : Memref sig .tc .vmem S512x1024 .f32) (harg16 : arg16.IsWhole)

/-- What the four scratch buffers hold, as a state. -/
def readSt (f13 : BufTy.Contents (Elt F) arg13.view.ty) (f14 : BufTy.Contents (Elt F) arg14.view.ty)
    (f15 : BufTy.Contents (Elt F) arg15.view.ty) (f16 : BufTy.Contents (Elt F) arg16.view.ty) : St F where
  m := arg13.view.read (Elt F) f13
  a := arg14.view.read (Elt F) f14
  p := arg15.view.read (Elt F) f15
  q := arg16.view.read (Elt F) f16

set_option maxHeartbeats 4000000 in
/-- One trip takes the state the scratch buffers hold to the next. -/
theorem trip_read (w : Pt F) (x3 : Vec F S1x8192x128 .bf16) (x4 : Vec F S128x8192 .bf16) (k : Fin k0_t1_loop.trips)
    (f13 g13 : BufTy.Contents (Elt F) arg13.view.ty) (f14 g14 : BufTy.Contents (Elt F) arg14.view.ty)
    (f15 g15 : BufTy.Contents (Elt F) arg15.view.ty) (f16 g16 : BufTy.Contents (Elt F) arg16.view.ty) :
    readSt arg13 arg14 arg15 arg16
      (arg13.view.writes (Elt F) g13 (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 w.v0 w.v2 w.v18 w.v20 w.v22 w.v23 w.v48 0#32 (harg6.unread x3) (harg7.unread x4) k f13 f14 f15 f16).1)
      (arg14.view.writes (Elt F) g14 (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 w.v0 w.v2 w.v18 w.v20 w.v22 w.v23 w.v48 0#32 (harg6.unread x3) (harg7.unread x4) k f13 f14 f15 f16).2.1)
      (arg15.view.writes (Elt F) g15 (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 w.v0 w.v2 w.v18 w.v20 w.v22 w.v23 w.v48 0#32 (harg6.unread x3) (harg7.unread x4) k f13 f14 f15 f16).2.2.1)
      (arg16.view.writes (Elt F) g16 (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 w.v0 w.v2 w.v18 w.v20 w.v22 w.v23 w.v48 0#32 (harg6.unread x3) (harg7.unread x4) k f13 f14 f15 f16).2.2.2)
      = trip i w x3 x4 k (readSt arg13 arg14 arg15 arg16 f13 f14 f15 f16) := by
  unfold tripL_k0_t1 trip_k0_t1
  dsimp only
  sl_unfold_words
  have r13 : ∀ g u L, arg13.view.read (Elt F) (arg13.view.writes (Elt F) g
      (⟨Rect.unit ![0, 0] ![1, 1024] inb_S1x1024_S1x1024_0_0, u⟩ :: L)) = u :=
    fun g u L => View.read_writes_full arg13.view g inb_S1x1024_S1x1024_0_0 u L
  have r14 : ∀ g u L, arg14.view.read (Elt F) (arg14.view.writes (Elt F) g
      (⟨Rect.unit ![0, 0] ![144, 1024] inb_S144x1024_S144x1024_0_0, u⟩ :: L)) = u :=
    fun g u L => View.read_writes_full arg14.view g inb_S144x1024_S144x1024_0_0 u L
  have r15 : ∀ g u L, arg15.view.read (Elt F) (arg15.view.writes (Elt F) g
      (⟨Rect.unit ![0, 0] ![512, 1024] inb_S512x1024_S512x1024_0_0, u⟩ :: L)) = u :=
    fun g u L => View.read_writes_full arg15.view g inb_S512x1024_S512x1024_0_0 u L
  have r16 : ∀ g u L, arg16.view.read (Elt F) (arg16.view.writes (Elt F) g
      (⟨Rect.unit ![0, 0] ![512, 1024] inb_S512x1024_S512x1024_0_0, u⟩ :: L)) = u :=
    fun g u L => View.read_writes_full arg16.view g inb_S512x1024_S512x1024_0_0 u L
  have c13 : ∀ u L, arg13.view.readCov (Val := Elt F) (⟨Rect.unit ![0, 0] ![1, 1024] inb_S1x1024_S1x1024_0_0, u⟩ :: L)
      (Rect.unit ![0, 0] ![1, 1024] inb_S1x1024_S1x1024_0_0).toLoadRect = u :=
    fun u L => View.readAt_writes_full arg13.view _ inb_S1x1024_S1x1024_0_0 inb_S1x1024_S1x1024_0_0 u L
  have c14 : ∀ u L, arg14.view.readCov (Val := Elt F) (⟨Rect.unit ![0, 0] ![144, 1024] inb_S144x1024_S144x1024_0_0, u⟩ :: L)
      (Rect.unit ![0, 0] ![144, 1024] inb_S144x1024_S144x1024_0_0).toLoadRect = u :=
    fun u L => View.readAt_writes_full arg14.view _ inb_S144x1024_S144x1024_0_0 inb_S144x1024_S144x1024_0_0 u L
  have c15 : ∀ u L, arg15.view.readCov (Val := Elt F) (⟨Rect.unit ![0, 0] ![512, 1024] inb_S512x1024_S512x1024_0_0, u⟩ :: L)
      (Rect.unit ![0, 0] ![512, 1024] inb_S512x1024_S512x1024_0_0).toLoadRect = u :=
    fun u L => View.readAt_writes_full arg15.view _ inb_S512x1024_S512x1024_0_0 inb_S512x1024_S512x1024_0_0 u L
  have l13 : ∀ X, View.ld (Val := Elt F) (e' := .f32) X (Rect.unit (s := S1x1024) ![0, 0] ![1, 1024] inb_S1x1024_S1x1024_0_0) = X :=
    fun X => View.ld_unit_zero (S := S1x1024) z2 inb_S1x1024_S1x1024_0_0 X
  have l14 : ∀ X, View.ld (Val := Elt F) (e' := .f32) X (Rect.unit (s := S144x1024) ![0, 0] ![144, 1024] inb_S144x1024_S144x1024_0_0) = X :=
    fun X => View.ld_unit_zero (S := S144x1024) z2 inb_S144x1024_S144x1024_0_0 X
  have l16 : ∀ X, View.ld (Val := Elt F) (e' := .f32) X (Rect.unit (s := S512x1024) ![0, 0] ![512, 1024] inb_S512x1024_S512x1024_0_0) = X :=
    fun X => View.ld_unit_zero (S := S512x1024) z2 inb_S512x1024_S512x1024_0_0 X
  simp only [View.readAt_eq_ld, harg6.read_unread, harg7.read_unread, readSt, r13, r14, r15, r16, c13, c14, c15, l13, l14, l16]
  rfl

/-- The scratch buffers before trip `n` hold the state before trip `n`. -/
theorem pb_read (v0 : BitVec 32) (v2 : Elt F .f32) (v18 : FVec F S256x1024 .bf16) (v20 v22 : FVec F S512x128 .bf16)
    (v23 : FVec F S16x512 .bf16) (v48 : BitVec 32) (x3 : Vec F S1x8192x128 .bf16) (x4 : Vec F S128x8192 .bf16)
    (g13 : BufTy.Contents (Elt F) arg13.view.ty) (g14 : BufTy.Contents (Elt F) arg14.view.ty)
    (g15 : BufTy.Contents (Elt F) arg15.view.ty) (g16 : BufTy.Contents (Elt F) arg16.view.ty) (n : ℕ)
    (hn : n ≤ k0_t1_loop.trips) :
    readSt arg13 arg14 arg15 arg16
      (arg13.view.writes (Elt F) g13 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v2 v18 v20 v22 v23 v48 0#32 (harg6.unread x3) (harg7.unread x4) g13 g14 g15 g16 n).1)
      (arg14.view.writes (Elt F) g14 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v2 v18 v20 v22 v23 v48 0#32 (harg6.unread x3) (harg7.unread x4) g13 g14 g15 g16 n).2.1)
      (arg15.view.writes (Elt F) g15 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v2 v18 v20 v22 v23 v48 0#32 (harg6.unread x3) (harg7.unread x4) g13 g14 g15 g16 n).2.2.1)
      (arg16.view.writes (Elt F) g16 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v2 v18 v20 v22 v23 v48 0#32 (harg6.unread x3) (harg7.unread x4) g13 g14 g15 g16 n).2.2.2)
      = before i ⟨v0, v2, v18, v20, v22, v23, v48⟩ x3 x4 (readSt arg13 arg14 arg15 arg16 g13 g14 g15 g16) n := by
  induction n with
  | zero => rfl
  | succ n ih =>
    have e := pb_k0_t1_succ (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v2 v18 v20 v22 v23 v48 0#32 (harg6.unread x3) (harg7.unread x4) g13 g14 g15 g16 ⟨n, hn⟩
    dsimp only at e
    rw [e]
    simp only [View.writes_append]
    refine (trip_read 𝒱 c bd i arg3 harg3 arg4 harg4 arg5 harg5 arg6 harg6 arg7 harg7 arg8 harg8 arg9 harg9 arg10 harg10 arg11 harg11 arg12 harg12 arg13 harg13 arg14 harg14 arg15 harg15 arg16 harg16 ⟨v0, v2, v18, v20, v22, v23, v48⟩ x3 x4 ⟨n, hn⟩ _ _ _ _ _ _ _ _).trans ?_
    rw [ih (Nat.le_of_succ_le hn)]
    rw [before, dif_pos (show n < k0_t1_loop.trips from hn)]

/-- The loop's end, component `m`. -/
theorem pb_m (v0 : BitVec 32) (v2 : Elt F .f32) (v18 : FVec F S256x1024 .bf16) (v20 v22 : FVec F S512x128 .bf16)
    (v23 : FVec F S16x512 .bf16) (v48 : BitVec 32) (x3 : Vec F S1x8192x128 .bf16) (x4 : Vec F S128x8192 .bf16)
    (g13 : BufTy.Contents (Elt F) arg13.view.ty) (g14 : BufTy.Contents (Elt F) arg14.view.ty)
    (g15 : BufTy.Contents (Elt F) arg15.view.ty) (g16 : BufTy.Contents (Elt F) arg16.view.ty) :
    arg13.view.read (Elt F) (arg13.view.writes (Elt F) g13 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v2 v18 v20 v22 v23 v48 0#32 (harg6.unread x3) (harg7.unread x4) g13 g14 g15 g16 (Scf.trips k0_t1_loop.lb k0_t1_loop.ub k0_t1_loop.st)).1)
      = (before i ⟨v0, v2, v18, v20, v22, v23, v48⟩ x3 x4 (readSt arg13 arg14 arg15 arg16 g13 g14 g15 g16) k0_t1_loop.trips).m :=
  congrArg St.m (pb_read 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v2 v18 v20 v22 v23 v48 x3 x4 g13 g14 g15 g16 _ le_rfl)

/-- The loop's end, component `a`. -/
theorem pb_a (v0 : BitVec 32) (v2 : Elt F .f32) (v18 : FVec F S256x1024 .bf16) (v20 v22 : FVec F S512x128 .bf16)
    (v23 : FVec F S16x512 .bf16) (v48 : BitVec 32) (x3 : Vec F S1x8192x128 .bf16) (x4 : Vec F S128x8192 .bf16)
    (g13 : BufTy.Contents (Elt F) arg13.view.ty) (g14 : BufTy.Contents (Elt F) arg14.view.ty)
    (g15 : BufTy.Contents (Elt F) arg15.view.ty) (g16 : BufTy.Contents (Elt F) arg16.view.ty) :
    arg14.view.read (Elt F) (arg14.view.writes (Elt F) g14 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v2 v18 v20 v22 v23 v48 0#32 (harg6.unread x3) (harg7.unread x4) g13 g14 g15 g16 (Scf.trips k0_t1_loop.lb k0_t1_loop.ub k0_t1_loop.st)).2.1)
      = (before i ⟨v0, v2, v18, v20, v22, v23, v48⟩ x3 x4 (readSt arg13 arg14 arg15 arg16 g13 g14 g15 g16) k0_t1_loop.trips).a :=
  congrArg St.a (pb_read 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v2 v18 v20 v22 v23 v48 x3 x4 g13 g14 g15 g16 _ le_rfl)

/-- The loop's end, component `q`. -/
theorem pb_q (v0 : BitVec 32) (v2 : Elt F .f32) (v18 : FVec F S256x1024 .bf16) (v20 v22 : FVec F S512x128 .bf16)
    (v23 : FVec F S16x512 .bf16) (v48 : BitVec 32) (x3 : Vec F S1x8192x128 .bf16) (x4 : Vec F S128x8192 .bf16)
    (g13 : BufTy.Contents (Elt F) arg13.view.ty) (g14 : BufTy.Contents (Elt F) arg14.view.ty)
    (g15 : BufTy.Contents (Elt F) arg15.view.ty) (g16 : BufTy.Contents (Elt F) arg16.view.ty) :
    arg16.view.read (Elt F) (arg16.view.writes (Elt F) g16 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v2 v18 v20 v22 v23 v48 0#32 (harg6.unread x3) (harg7.unread x4) g13 g14 g15 g16 (Scf.trips k0_t1_loop.lb k0_t1_loop.ub k0_t1_loop.st)).2.2.2)
      = (before i ⟨v0, v2, v18, v20, v22, v23, v48⟩ x3 x4 (readSt arg13 arg14 arg15 arg16 g13 g14 g15 g16) k0_t1_loop.trips).q :=
  congrArg St.q (pb_read 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v2 v18 v20 v22 v23 v48 x3 x4 g13 g14 g15 g16 _ le_rfl)

end

set_option maxHeartbeats 4000000 in
/-- The output block of a grid point is `outBlock` of the blocks it reads. -/
theorem out_eq (c : Dev nD) (i : grid0.Coords)
  (arg3 : Memref sig .tc .smem S8 .f32) (harg3 : arg3.IsWhole)
  (arg4 : Memref sig .tc .smem S1 .f32) (harg4 : arg4.IsWhole)
  (arg5 : Memref sig .tc .vmem S128x512 .bf16) (harg5 : arg5.IsWhole)
  (arg6 : Memref sig .tc .vmem S1x8192x128 .bf16) (harg6 : arg6.IsWhole)
  (arg7 : Memref sig .tc .vmem S128x8192 .bf16) (harg7 : arg7.IsWhole)
  (arg8 : Memref sig .tc .vmem S1x128x512 .bf16) (harg8 : arg8.IsWhole)
  (arg9 : Memref sig .tc .vmem S1x512x128 .bf16) (harg9 : arg9.IsWhole)
  (arg10 : Memref sig .tc .vmem S1x512x512 .f32) (harg10 : arg10.IsWhole)
  (arg11 : Memref sig .tc .vmem S128x1 .f32) (harg11 : arg11.IsWhole)
  (arg12 : Memref sig .tc .vmem S1x512x128 .bf16) (harg12 : arg12.IsWhole)
  (arg13 : Memref sig .tc .vmem S1x1024 .f32) (harg13 : arg13.IsWhole)
  (arg14 : Memref sig .tc .vmem S144x1024 .f32) (harg14 : arg14.IsWhole)
  (arg15 : Memref sig .tc .vmem S512x1024 .f32) (harg15 : arg15.IsWhole)
  (arg16 : Memref sig .tc .vmem S512x1024 .f32) (harg16 : arg16.IsWhole)
    (x0 : Vec F S8 .f32) (x1 : Vec F S1 .f32) (x2 : Vec F S128x512 .bf16)
    (x3 : Vec F S1x8192x128 .bf16) (x4 : Vec F S128x8192 .bf16) (x5 : Vec F S1x128x512 .bf16) (x6 : Vec F S1x512x128 .bf16)
    (x7 : Vec F S1x512x512 .f32) (x8 : Vec F S128x1 .f32) :
    out0_A_9 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 = outBlock i x0 x1 x2 x3 x4 x5 x6 x7 x8 := by
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8)]
  unfold kernelRun0_A
  dsimp only
  refine (View.canon_unit_zero (S := S1x512x128) z3 inb_S1x512x128_S1x512x128_0_0_0 _).trans ?_
  unfold outBlock
  refine congr (congr (congrArg k0_pay2 ?_) ?_) ?_
  · exact congrFun ((View.readAt_eq_ld arg4.view _ _).trans
      ((congrArg (fun X => View.ld X (Rect.unit (s := S1) ![0] S1.size inb_S1_S1_0)) (harg4.read_unread x1)).trans
        (View.ld_unit_zero (S := S1) z1 inb_S1_S1_0 x1))) _
  · refine (View.readAt_writes_full arg14.view _ inb_S144x1024_S144x1024_0_0 inb_S144x1024_S144x1024_0_0 _ _).trans ?_
    unfold sums
    have hE : ∀ (v0 : BitVec 32) (v2 : Elt F .f32) (v18 : FVec F S256x1024 .bf16) (v20 v22 : FVec F S512x128 .bf16)
        (v23 : FVec F S16x512 .bf16) (v48 : BitVec 32) (s : St F),
        (⟨v0, v2, v18, v20, v22, v23, v48⟩ : Pt F) = pt i x0 x2 x5 x6 → s = enter i x0 x2 x3 x4 x5 x6 x7 →
        before i ⟨v0, v2, v18, v20, v22, v23, v48⟩ x3 x4 s k0_t1_loop.trips
          = before i (pt i x0 x2 x5 x6) x3 x4 (enter i x0 x2 x3 x4 x5 x6 x7) k0_t1_loop.trips := by
      rintro _ _ _ _ _ _ _ _ h rfl; rw [h]
    have q13 : ∀ L L', arg13.view.readCov (Val := Elt F) (L ++ L') (Rect.unit (s := S1x1024) ![0, 0] S1x1024.size inb_S1x1024_S1x1024_0_0).toLoadRect
        = arg13.view.read (Elt F) (arg13.view.writes (Elt F) (arg13.view.writes (Elt F) arg13.view.junk L') L) := by
      intro L L'
      rw [View.readCov, View.readAt_eq_ld, View.writes_append]
      exact View.ld_unit_zero (S := S1x1024) z2 inb_S1x1024_S1x1024_0_0 _
    have q14 : ∀ L L', arg14.view.readCov (Val := Elt F) (L ++ L') (Rect.unit (s := S144x1024) ![0, 0] S144x1024.size inb_S144x1024_S144x1024_0_0).toLoadRect
        = arg14.view.read (Elt F) (arg14.view.writes (Elt F) (arg14.view.writes (Elt F) arg14.view.junk L') L) := by
      intro L L'
      rw [View.readCov, View.readAt_eq_ld, View.writes_append]
      exact View.ld_unit_zero (S := S144x1024) z2 inb_S144x1024_S144x1024_0_0 _
    have q16 : ∀ L L', arg16.view.readCov (Val := Elt F) (L ++ L') (Rect.unit (s := S512x1024) ![0, 0] S512x1024.size inb_S512x1024_S512x1024_0_0).toLoadRect
        = arg16.view.read (Elt F) (arg16.view.writes (Elt F) (arg16.view.writes (Elt F) arg16.view.junk L') L) := by
      intro L L'
      rw [View.readCov, View.readAt_eq_ld, View.writes_append]
      exact View.ld_unit_zero (S := S512x1024) z2 inb_S512x1024_S512x1024_0_0 _
    have hv2 : View.readAt (Elt F) arg3.view (Rect.unit (s := S8) (k0_off1 i) S1.size (k0_off1_inb i)).toLoadRect (harg3.unread x0)
        (Shape.Idx.first (s := S1) (by decide)) = (pt i x0 x2 x5 x6).v2 := by
      rw [View.readAt_eq_ld, harg3.read_unread]; rfl
    have h5 : View.readAt (Elt F) arg5.view (Rect.unit ![0, 0] S128x512.size inb_S128x512_S128x512_0_0).toLoadRect (harg5.unread x2) = x2 := by
      rw [View.readAt_eq_ld, harg5.read_unread]; exact View.ld_unit_zero (S := S128x512) z2 inb_S128x512_S128x512_0_0 x2
    have h8 : View.readAt (Elt F) arg8.view (Rect.unit ![0, 0, 0] S1x128x512.size inb_S1x128x512_S1x128x512_0_0_0).toLoadRect (harg8.unread x5) = x5 := by
      rw [View.readAt_eq_ld, harg8.read_unread]; exact View.ld_unit_zero (S := S1x128x512) z3 inb_S1x128x512_S1x128x512_0_0_0 x5
    have h9 : View.readAt (Elt F) arg9.view (Rect.unit ![0, 0, 0] S1x512x128.size inb_S1x512x128_S1x512x128_0_0_0).toLoadRect (harg9.unread x6) = x6 := by
      rw [View.readAt_eq_ld, harg9.read_unread]; exact View.ld_unit_zero (S := S1x512x128) z3 inb_S1x512x128_S1x512x128_0_0_0 x6
    have h10 : View.readAt (Elt F) arg10.view (Rect.unit ![0, 0, 0] S1x512x512.size inb_S1x512x512_S1x512x512_0_0_0).toLoadRect (harg10.unread x7) = x7 := by
      rw [View.readAt_eq_ld, harg10.read_unread]; exact View.ld_unit_zero (S := S1x512x512) z3 inb_S1x512x512_S1x512x512_0_0_0 x7
    have h6 : ∀ r : Rect S1x8192x128, View.readAt (Elt F) arg6.view r.toLoadRect (harg6.unread x3) = View.ld x3 r := by
      intro r; rw [View.readAt_eq_ld, harg6.read_unread]
    have h7 : ∀ r : Rect S128x8192, View.readAt (Elt F) arg7.view r.toLoadRect (harg7.unread x4) = View.ld x4 r := by
      intro r; rw [View.readAt_eq_ld, harg7.read_unread]
    have c13 : ∀ u L, arg13.view.readCov (Val := Elt F) (⟨Rect.unit ![0, 0] S1x1024.size inb_S1x1024_S1x1024_0_0, u⟩ :: L)
        (Rect.unit ![0, 0] S1x1024.size inb_S1x1024_S1x1024_0_0).toLoadRect = u :=
      fun u L => View.readAt_writes_full arg13.view _ inb_S1x1024_S1x1024_0_0 inb_S1x1024_S1x1024_0_0 u L
    have c14 : ∀ u L, arg14.view.readCov (Val := Elt F) (⟨Rect.unit ![0, 0] S144x1024.size inb_S144x1024_S144x1024_0_0, u⟩ :: L)
        (Rect.unit ![0, 0] S144x1024.size inb_S144x1024_S144x1024_0_0).toLoadRect = u :=
      fun u L => View.readAt_writes_full arg14.view _ inb_S144x1024_S144x1024_0_0 inb_S144x1024_S144x1024_0_0 u L
    have c15 : ∀ u L, arg15.view.readCov (Val := Elt F) (⟨Rect.unit ![0, 0] S512x1024.size inb_S512x1024_S512x1024_0_0, u⟩ :: L)
        (Rect.unit ![0, 0] S512x1024.size inb_S512x1024_S512x1024_0_0).toLoadRect = u :=
      fun u L => View.readAt_writes_full arg15.view _ inb_S512x1024_S512x1024_0_0 inb_S512x1024_S512x1024_0_0 u L
    have hW : (⟨w0 i, View.readAt (Elt F) arg3.view (Rect.unit (s := S8) (k0_off1 i) S1.size (k0_off1_inb i)).toLoadRect (harg3.unread x0)
          (Shape.Idx.first (s := S1) (by decide)),
        k0_pay12 (View.readAt (Elt F) arg5.view (Rect.unit ![0, 0] S128x512.size inb_S128x512_S128x512_0_0).toLoadRect (harg5.unread x2))
          (View.readAt (Elt F) arg8.view (Rect.unit ![0, 0, 0] S1x128x512.size inb_S1x128x512_S1x128x512_0_0_0).toLoadRect (harg8.unread x5)),
        k0_pay13 (View.readAt (Elt F) arg9.view (Rect.unit ![0, 0, 0] S1x512x128.size inb_S1x512x128_S1x512x128_0_0_0).toLoadRect (harg9.unread x6)),
        k0_pay14 (View.readAt (Elt F) arg9.view (Rect.unit ![0, 0, 0] S1x512x128.size inb_S1x512x128_S1x512x128_0_0_0).toLoadRect (harg9.unread x6)),
        k0_pay15, w48 i⟩ : Pt F) = pt i x0 x2 x5 x6 := by
      rw [hv2, h5, h8, h9]; rfl
    have hS : ∀ (G13 : List (View.Piece (Elt F) S1x1024 .f32)) (G14 : List (View.Piece (Elt F) S144x1024 .f32))
        (G15 G16 : List (View.Piece (Elt F) S512x1024 .f32)),
        arg13.view.read (Elt F) (arg13.view.writes (Elt F) arg13.view.junk G13) = (enter i x0 x2 x3 x4 x5 x6 x7).m →
        arg14.view.read (Elt F) (arg14.view.writes (Elt F) arg14.view.junk G14) = (enter i x0 x2 x3 x4 x5 x6 x7).a →
        arg15.view.read (Elt F) (arg15.view.writes (Elt F) arg15.view.junk G15) = (enter i x0 x2 x3 x4 x5 x6 x7).p →
        arg16.view.read (Elt F) (arg16.view.writes (Elt F) arg16.view.junk G16) = (enter i x0 x2 x3 x4 x5 x6 x7).q →
        readSt arg13 arg14 arg15 arg16 (arg13.view.writes (Elt F) arg13.view.junk G13) (arg14.view.writes (Elt F) arg14.view.junk G14)
          (arg15.view.writes (Elt F) arg15.view.junk G15) (arg16.view.writes (Elt F) arg16.view.junk G16)
          = enter i x0 x2 x3 x4 x5 x6 x7 := by
      intro _ _ _ _ a b c d; unfold readSt; rw [a, b, c, d]
    have j13 : ∀ u L, arg13.view.read (Elt F) (arg13.view.writes (Elt F) arg13.view.junk (⟨Rect.unit ![0, 0] S1x1024.size inb_S1x1024_S1x1024_0_0, u⟩ :: L)) = u :=
      fun u L => View.read_writes_full arg13.view _ inb_S1x1024_S1x1024_0_0 u L
    have j14 : ∀ u L, arg14.view.read (Elt F) (arg14.view.writes (Elt F) arg14.view.junk (⟨Rect.unit ![0, 0] S144x1024.size inb_S144x1024_S144x1024_0_0, u⟩ :: L)) = u :=
      fun u L => View.read_writes_full arg14.view _ inb_S144x1024_S144x1024_0_0 u L
    have j15 : ∀ u L, arg15.view.read (Elt F) (arg15.view.writes (Elt F) arg15.view.junk (⟨Rect.unit ![0, 0] S512x1024.size inb_S512x1024_S512x1024_0_0, u⟩ :: L)) = u :=
      fun u L => View.read_writes_full arg15.view _ inb_S512x1024_S512x1024_0_0 u L
    have j16 : ∀ u L, arg16.view.read (Elt F) (arg16.view.writes (Elt F) arg16.view.junk (⟨Rect.unit ![0, 0] S512x1024.size inb_S512x1024_S512x1024_0_0, u⟩ :: L)) = u :=
      fun u L => View.read_writes_full arg16.view _ inb_S512x1024_S512x1024_0_0 u L
    have hB : ∀ (v0 : BitVec 32) (v2 : Elt F .f32) (v18 : FVec F S256x1024 .bf16) (v20 v22 : FVec F S512x128 .bf16)
        (v23 : FVec F S16x512 .bf16) (v48 : BitVec 32) G13 G14 G15 G16,
        (⟨v0, v2, v18, v20, v22, v23, v48⟩ : Pt F) = pt i x0 x2 x5 x6 →
        arg13.view.read (Elt F) (arg13.view.writes (Elt F) arg13.view.junk G13) = (enter i x0 x2 x3 x4 x5 x6 x7).m →
        arg14.view.read (Elt F) (arg14.view.writes (Elt F) arg14.view.junk G14) = (enter i x0 x2 x3 x4 x5 x6 x7).a →
        arg15.view.read (Elt F) (arg15.view.writes (Elt F) arg15.view.junk G15) = (enter i x0 x2 x3 x4 x5 x6 x7).p →
        arg16.view.read (Elt F) (arg16.view.writes (Elt F) arg16.view.junk G16) = (enter i x0 x2 x3 x4 x5 x6 x7).q →
        before i ⟨v0, v2, v18, v20, v22, v23, v48⟩ x3 x4
          (readSt arg13 arg14 arg15 arg16 (arg13.view.writes (Elt F) arg13.view.junk G13) (arg14.view.writes (Elt F) arg14.view.junk G14)
          (arg15.view.writes (Elt F) arg15.view.junk G15) (arg16.view.writes (Elt F) arg16.view.junk G16)) k0_t1_loop.trips
          = before i (pt i x0 x2 x5 x6) x3 x4 (enter i x0 x2 x3 x4 x5 x6 x7) k0_t1_loop.trips :=
      fun v0 v2 v18 v20 v22 v23 v48 G13 G14 G15 G16 h a b c d => hE v0 v2 v18 v20 v22 v23 v48 _ h (hS G13 G14 G15 G16 a b c d)
    have g15 : arg15.view.read (Elt F) (arg15.view.writes (Elt F) arg15.view.junk
        (kernelRun0_A.sl.HS2_1 c i arg5 harg5 arg6 harg6 arg10 harg10 x2 x3 x7)) = (enter i x0 x2 x3 x4 x5 x6 x7).p := by
      sl_unfold_words
      rw [h5, h10]
      refine (j15 _ _).trans ?_
      rw [h6]; rfl
    have g16 : arg16.view.read (Elt F) (arg16.view.writes (Elt F) arg16.view.junk
        (kernelRun0_A.sl.HS3_1 c i arg5 harg5 arg6 harg6 arg8 harg8 arg9 harg9 x2 x3 x5 x6)) = (enter i x0 x2 x3 x4 x5 x6 x7).q := by
      sl_unfold_words
      refine (j16 _ _).trans ?_
      rw [h5, h8, h9, h6]; rfl
    have g13 : arg13.view.read (Elt F) (arg13.view.writes (Elt F) arg13.view.junk
        (kernelRun0_A.sl.HS0_2 c i arg5 harg5 arg6 harg6 arg10 harg10 arg13 arg15 x2 x3 x7)) = (enter i x0 x2 x3 x4 x5 x6 x7).m := by
      sl_unfold_words
      refine (j13 _ _).trans ?_
      rw [c13, c15, h5, h10, h6]; rfl
    have g14 : arg14.view.read (Elt F) (arg14.view.writes (Elt F) arg14.view.junk
        (kernelRun0_A.sl.HS1_2 c i arg5 harg5 arg6 harg6 arg7 harg7 arg10 harg10 arg13 arg14 arg15 x2 x3 x4 x7)) = (enter i x0 x2 x3 x4 x5 x6 x7).a := by
      sl_unfold_words
      refine (j14 _ _).trans ?_
      rw [c13, c14, c15, h5, h10, h6, h7]; rfl
    refine congr (congr (congr (congr (congr (congr (congr (congrArg k0_pay31 ?_) ?_) ?_) ?_) ?_) ?_) ?_) ?_
    · rfl
    · exact hv2
    · rfl
    · rfl
    · refine (q16 _ _).trans ((pb_q Variants.none c none i arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ x3 x4 _ _ _ _).trans (congrArg St.q ?_))
      exact hB _ _ _ _ _ _ _ _ _ _ _ hW g13 g14 g15 g16
    · exact h7 _
    · refine (q13 _ _).trans ((pb_m Variants.none c none i arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ x3 x4 _ _ _ _).trans (congrArg St.m ?_))
      exact hB _ _ _ _ _ _ _ _ _ _ _ hW g13 g14 g15 g16
    · refine (q14 _ _).trans ((pb_a Variants.none c none i arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ x3 x4 _ _ _ _).trans (congrArg St.a ?_))
      exact hB _ _ _ _ _ _ _ _ _ _ _ hW g13 g14 g15 g16
  · exact (View.readAt_eq_ld arg11.view _ _).trans
      ((congrArg (fun X => View.ld X (Rect.unit (s := S128x1) ![0, 0] S128x1.size inb_S128x1_S128x1_0_0)) (harg11.read_unread x8)).trans
        (View.ld_unit_zero (S := S128x1) z2 inb_S128x1_S128x1_0_0 x8))

end Cert.Proof

end
-- ==== Proof.Chunk.lean ====
/- One chunk of keys taken into the running maximum and the running weighted sums of the online softmax,
   read as real numbers: whatever the maximum is, the sums stay the sums of `exp (score - maximum)`. -/
module

public import proofs.«01_k».proof.Proof.Body
public import Idealize.ShloMosaic.Lib.Pointwise

@[expose] public section

set_option maxRecDepth 16384

noncomputable section

namespace Cert.Proof

open Cert.KernelIdeal Cert.KernelIdeal.Gen Idealize.ShloMosaic Idealize.ShloMosaic.Pointwise

section Generic

variable {F : FTy → Type} [FloatOps F]

/-- The maximum after a chunk with scores `p`, shifted down by `sh`. -/
def newMax (sh : F .f32) (p : FVec F S512x1024 .f32) (m : FVec F S1x1024 .f32) : FVec F S1x1024 .f32 :=
  maximumf m (subf (shapeCast S1x1024
    (multiReduction .maximumf [0] S1024 p 0xFF800000#32 reduces_S512x1024_S1024 (.inl rfl) rfl)
    shapeCasts_S1024_S1x1024) (broadcast S1x1024 sh))

/-- The values of a chunk with sixteen rows of ones below them. -/
def withOnes (x : FVec F S128x512 .bf16) : FVec F S144x512 .bf16 :=
  concatenate S144x512 0 [⟨S128x512, shapeCast S128x512 x shapeCasts_S128x512_S128x512⟩, ⟨S16x512, k0_pay15⟩]
    concatenates_S128x512_S16x512_S144x512_d0

/-- The weighted sums after a chunk with scores `p`, shifted down by `sh`, and values `va`. -/
def newSum (sh : F .f32) (p : FVec F S512x1024 .f32) (va : FVec F S144x512 .bf16) (m : FVec F S1x1024 .f32)
    (a : FVec F S144x1024 .f32) : FVec F S144x1024 .f32 :=
  addf (mulf (broadcastTo S144x1024 (exp (subf m (newMax sh p m))) broadcasts_S1x1024_S144x1024) a)
    (matmul dot_S144x512_S512x1024_S144x1024_1_0_0_1_n_n none va
      (truncf .bf16 (exp (subf p (broadcastTo S512x1024 (addf (newMax sh p m) (broadcast S1x1024 sh))
        broadcasts_S1x1024_S512x1024))) bitsLt_bf16_f32)
      (constant S144x1024 .f32 0x00000000#32))

/-- The shift of a chunk: the slope times the distance of the block of queries from the chunk. -/
def shiftOf (v0 : BitVec 32) (v2 : F .f32) (n : BitVec 32) : F .f32 :=
  Scalar.mulf v2 (Scalar.sitofp .f32 (Scalar.absi (Scalar.subi v0 (Scalar.muli n 512#32))))

/-- The chunk that step `n` takes: the diagonal chunk is left out of the count. -/
def stepWord (v48 n : BitVec 32) : BitVec 32 := Scalar.addi n (Scalar.extui (Scalar.cmpi .sge n v48))

theorem pay24_eq (p : FVec F S512x1024 .f32) (m : FVec F S1x1024 .f32) :
    k0_pay24 p m = newMax (Scalar.ofBits .f32 0x00000000#32) p m := by
  unfold k0_pay24; rw [shapeCast_self]; rfl

theorem pay23_eq (p : FVec F S512x1024 .f32) (x : FVec F S128x512 .bf16) (m : FVec F S1x1024 .f32)
    (a : FVec F S144x1024 .f32) :
    k0_pay23 k0_pay15 p x m a = newSum (Scalar.ofBits .f32 0x00000000#32) p (withOnes x) m a := by
  unfold k0_pay23; simp only [shapeCast_self]; rfl

theorem pay9_eq (v0 : BitVec 32) (v2 : F .f32) (v48 : BitVec 32) (k : Fin k0_t1_loop.trips)
    (p : FVec F S512x1024 .f32) (m : FVec F S1x1024 .f32) :
    k0_pay9 (k0_pay6 v0 v2 v48 0#32 1#32 k p m)
      = newMax (shiftOf v0 v2 (stepWord v48 (Scalar.muli 2#32 (Scf.iv 0#32 1#32 k)))) p m := by
  unfold k0_pay9; rw [shapeCast_self]; rfl

theorem pay8_eq (v0 : BitVec 32) (v2 : F .f32) (v48 : BitVec 32) (k : Fin k0_t1_loop.trips)
    (p : FVec F S512x1024 .f32) (x : FVec F S128x512 .bf16) (m : FVec F S1x1024 .f32) (a : FVec F S144x1024 .f32) :
    k0_pay8 p (k0_pay5 k0_pay15 x) m (k0_pay6 v0 v2 v48 0#32 1#32 k p m) (k0_pay7 v0 v2 v48 0#32 1#32 k p m) a
      = newSum (shiftOf v0 v2 (stepWord v48 (Scalar.muli 2#32 (Scf.iv 0#32 1#32 k)))) p (withOnes x) m a := by
  unfold k0_pay8 k0_pay5; simp only [shapeCast_self]; rfl

theorem pay28_eq (v0 : BitVec 32) (v2 : F .f32) (n : BitVec 32)
    (p : FVec F S512x1024 .f32) (m : FVec F S1x1024 .f32) :
    k0_pay28 v0 v2 n p m = newMax (shiftOf v0 v2 n) p m := by
  unfold k0_pay28; rw [shapeCast_self]; rfl

theorem pay27_eq (v0 : BitVec 32) (v2 : F .f32) (n : BitVec 32) (p : FVec F S512x1024 .f32)
    (x : FVec F S128x512 .bf16) (m : FVec F S1x1024 .f32) (a : FVec F S144x1024 .f32) :
    k0_pay27 v0 v2 k0_pay15 n p x m a = newSum (shiftOf v0 v2 n) p (withOnes x) m a := by
  unfold k0_pay27; simp only [shapeCast_self]; rfl

theorem pay31_eq (v0 : BitVec 32) (v2 : F .f32) (v48 : BitVec 32) (p : FVec F S512x1024 .f32)
    (x : FVec F S128x512 .bf16) (m : FVec F S1x1024 .f32) (a : FVec F S144x1024 .f32) :
    k0_pay31 v0 v2 k0_pay15 v48 p x m a = newSum (shiftOf v0 v2 (stepWord v48 14#32)) p (withOnes x) m a := by
  unfold k0_pay31; simp only [shapeCast_self]; rfl

end Generic

/-! ### At the extended reals -/

theorem newMax_apply (sh : Ideal .f32) (p : FVec Ideal S512x1024 .f32) (m : FVec Ideal S1x1024 .f32) (c : Fin 1024) :
    newMax sh p m (ix2 0 c)
      = max (m (ix2 0 c)) ((Finset.univ : Finset (Fin 512)).fold max (⊥ : EReal) (fun t => p (ix2 t c)) - sh) := by
  pointwise [newMax]
  simp [Ideal.ofBits, Ideal.ieee, -EReal.coe_mul]

theorem newSum_apply (sh : Ideal .f32) (p : FVec Ideal S512x1024 .f32) (va : FVec Ideal S144x512 .bf16)
    (m : FVec Ideal S1x1024 .f32) (a : FVec Ideal S144x1024 .f32) (r : Fin 144) (c : Fin 1024) :
    newSum sh p va m a (ix2 r c)
      = Ideal.exp (m (ix2 0 c) - newMax sh p m (ix2 0 c)) * a (ix2 r c)
        + ∑ t : Fin 512, va (ix2 r t) * Ideal.exp (p (ix2 t c) - (newMax sh p m (ix2 0 c) + sh)) := by
  unfold newSum
  generalize newMax sh p m = m'
  pointwise []

/-- The greatest of finitely many real numbers is a real number. -/
theorem fold_max_real {n : ℕ} [NeZero n] (f : Fin n → ℝ) :
    ∃ R : ℝ, (Finset.univ : Finset (Fin n)).fold max (⊥ : EReal) (fun t => (f t : EReal)) = (R : EReal) := by
  have key : ∀ s : Finset (Fin n), s.fold max (⊥ : EReal) (fun t => (f t : EReal)) = ⊥ ∧ s = ∅ ∨
      ∃ R : ℝ, s.fold max (⊥ : EReal) (fun t => (f t : EReal)) = (R : EReal) := by
    intro s
    induction s using Finset.induction_on with
    | empty => exact .inl ⟨rfl, rfl⟩
    | insert x s hx ih =>
      right
      rw [Finset.fold_insert hx]
      rcases ih with ⟨e, -⟩ | ⟨R, e⟩
      · exact ⟨f x, by rw [e]; simp⟩
      · exact ⟨max (f x) R, by rw [e]; exact (EReal.coe_strictMono.monotone.map_max).symm⟩
  rcases key Finset.univ with ⟨-, e⟩ | h
  · exact absurd e (Finset.univ_nonempty.ne_empty)
  · exact h

theorem sum_coe {ι : Type} (s : Finset ι) (f : ι → ℝ) : ∑ t ∈ s, (f t : EReal) = ((∑ t ∈ s, f t : ℝ) : EReal) := by
  classical
  induction s using Finset.induction_on with
  | empty => simp
  | insert x s hx ih => rw [Finset.sum_insert hx, Finset.sum_insert hx, ih, EReal.coe_add]

/-- The weighted sums of the chunks in `C`, column by column, with the maximum `μ` taken off. -/
def Holds (C : Finset (Fin 16)) (S : Fin 1024 → Fin 16 → Fin 512 → ℝ) (W : Fin 144 → Fin 16 → Fin 512 → ℝ)
    (m : FVec Ideal S1x1024 .f32) (a : FVec Ideal S144x1024 .f32) : Prop :=
  ∃ μ : Fin 1024 → ℝ, (∀ c, m (ix2 0 c) = (μ c : EReal)) ∧
    ∀ r c, a (ix2 r c) = ((∑ j ∈ C, ∑ t : Fin 512, W r j t * Real.exp (S c j t - μ c) : ℝ) : EReal)

variable {S : Fin 1024 → Fin 16 → Fin 512 → ℝ} {W : Fin 144 → Fin 16 → Fin 512 → ℝ}

/-- The first chunk: the maximum is `-∞` before it, and the sums are zero. -/
theorem holds_first (j : Fin 16) (sh : ℝ) {p : FVec Ideal S512x1024 .f32} {va : FVec Ideal S144x512 .bf16}
    {m : FVec Ideal S1x1024 .f32} {a : FVec Ideal S144x1024 .f32}
    (hp : ∀ t c, p (ix2 t c) = ((S c j t + sh : ℝ) : EReal)) (hv : ∀ r t, va (ix2 r t) = (W r j t : EReal))
    (hm : ∀ c, m (ix2 0 c) = (⊥ : EReal)) (ha : ∀ r c, a (ix2 r c) = (0 : EReal)) :
    Holds {j} S W (newMax (sh : EReal) p m) (newSum (sh : EReal) p va m a) := by
  have hR := fun c => fold_max_real (fun t => S c j t + sh)
  choose R hR using hR
  have e : ∀ c, newMax (sh : EReal) p m (ix2 0 c) = ((R c - sh : ℝ) : EReal) := by
    intro c
    rw [newMax_apply, hm]
    simp only [hp]
    rw [hR c, ← EReal.coe_sub]; simp
  refine ⟨fun c => R c - sh, e, fun r c => ?_⟩
  rw [newSum_apply, e, hm, ha, mul_zero, zero_add, Finset.sum_singleton, ← sum_coe]
  refine Finset.sum_congr rfl fun t _ => ?_
  rw [hp, hv, ← EReal.coe_add, ← EReal.coe_sub, Ideal.exp_coe, ← EReal.coe_mul,
    show S c j t + sh - (R c - sh + sh) = S c j t - (R c - sh) by ring]

/-- A further chunk. -/
theorem holds_next {C : Finset (Fin 16)} (j : Fin 16) (hj : j ∉ C) (sh : ℝ) {p : FVec Ideal S512x1024 .f32}
    {va : FVec Ideal S144x512 .bf16} {m : FVec Ideal S1x1024 .f32} {a : FVec Ideal S144x1024 .f32}
    (hp : ∀ t c, p (ix2 t c) = ((S c j t + sh : ℝ) : EReal)) (hv : ∀ r t, va (ix2 r t) = (W r j t : EReal))
    (h : Holds C S W m a) :
    Holds (insert j C) S W (newMax (sh : EReal) p m) (newSum (sh : EReal) p va m a) := by
  obtain ⟨μ, hm, ha⟩ := h
  have hR := fun c => fold_max_real (fun t => S c j t + sh)
  choose R hR using hR
  have e : ∀ c, newMax (sh : EReal) p m (ix2 0 c) = ((max (μ c) (R c - sh) : ℝ) : EReal) := by
    intro c
    rw [newMax_apply, hm]
    simp only [hp]
    rw [hR c, ← EReal.coe_sub]; exact (EReal.coe_strictMono.monotone.map_max).symm
  refine ⟨fun c => max (μ c) (R c - sh), e, fun r c => ?_⟩
  rw [newSum_apply, e, hm, ha, Finset.sum_insert hj, add_comm (∑ t : Fin 512, W r j t * _), EReal.coe_add]
  congr 1
  · rw [← EReal.coe_sub, Ideal.exp_coe, ← EReal.coe_mul, Finset.mul_sum]
    congr 1
    refine Finset.sum_congr rfl fun i _ => ?_
    rw [Finset.mul_sum]
    refine Finset.sum_congr rfl fun t _ => ?_
    rw [mul_left_comm, ← Real.exp_add]; congr 2; ring
  · rw [← sum_coe]
    refine Finset.sum_congr rfl fun t _ => ?_
    rw [hp, hv, ← EReal.coe_add, ← EReal.coe_sub, Ideal.exp_coe, ← EReal.coe_mul,
      show S c j t + sh - (max (μ c) (R c - sh) + sh) = S c j t - max (μ c) (R c - sh) by ring]

end Cert.Proof
-- ==== Proof.Words.lean ====
/- The attention kernel's index words: the number of a block of queries, the number of the chunk a step takes, the
   distance between the two, and the order in which the chunks are taken. -/
module

public import proofs.«01_k».proof.Proof.Chunk

@[expose] public section

set_option maxRecDepth 16384

noncomputable section

namespace Cert.Proof

open Cert.KernelIdeal Cert.KernelIdeal.Gen Idealize.ShloMosaic

/-- The block of queries of a grid point. -/
def blk (i : grid0.Coords) : Fin 16 := ⟨(i 2).val, (i 2).isLt⟩

theorem w0_eq : ∀ i : grid0.Coords, w0 i = BitVec.ofNat 32 (512 * (blk i).val) := by decide +kernel
theorem w48_eq : ∀ i : grid0.Coords, w48 i = BitVec.ofNat 32 (blk i).val := by decide +kernel
theorem even_eq : ∀ k : Fin k0_t1_loop.trips, Scalar.muli 2#32 (Scf.iv 0#32 1#32 k) = BitVec.ofNat 32 (2 * k.val) := by
  decide +kernel
theorem odd_eq : ∀ k : Fin k0_t1_loop.trips,
    Scalar.addi (Scalar.muli 2#32 (Scf.iv 0#32 1#32 k)) 1#32 = BitVec.ofNat 32 (2 * k.val + 1) := by decide +kernel
theorem next_eq : ∀ k : Fin k0_t1_loop.trips,
    Scalar.addi (Scalar.muli 2#32 (Scf.iv 0#32 1#32 k)) 2#32 = BitVec.ofNat 32 (2 * k.val + 2) := by decide +kernel

/-- The chunk of a step: the steps count the chunks other than the diagonal one. -/
theorem succAbove_val : ∀ (a : Fin 16) (n : Fin 15),
    (a.succAbove n).val = n.val + (if n.val ≥ a.val then 1 else 0) := by decide +kernel

theorem step_eq : ∀ (a : Fin 16) (n : Fin 15),
    stepWord (BitVec.ofNat 32 a.val) (BitVec.ofNat 32 n.val) = BitVec.ofNat 32 (a.succAbove n).val := by decide +kernel

theorem isLeft_eq : ∀ a j : Fin 16,
    Scalar.cmpi .slt (BitVec.ofNat 32 j.val) (BitVec.ofNat 32 a.val) = if j < a then 1#1 else 0#1 := by decide +kernel

theorem dist_eq : ∀ a j : Fin 16,
    (Scalar.absi (Scalar.subi (BitVec.ofNat 32 (512 * a.val)) (Scalar.muli (BitVec.ofNat 32 j.val) 512#32))).toInt
      = ((512 * (a.val - j.val + (j.val - a.val)) : ℕ) : ℤ) := by decide +kernel

/-- The chunks taken before step `n`. -/
def taken (a : Fin 16) (n : ℕ) : Finset (Fin 16) :=
  Finset.univ.filter fun j => j = a ∨ ∃ k : Fin 15, k.val < n ∧ a.succAbove k = j

theorem taken_zero : ∀ a : Fin 16, taken a 0 = {a} := by decide +kernel
theorem taken_succ : ∀ (a : Fin 16) (n : Fin 15), taken a (n.val + 1) = insert (a.succAbove n) (taken a n.val) := by
  decide +kernel
theorem not_taken : ∀ (a : Fin 16) (n : Fin 15), a.succAbove n ∉ taken a n.val := by decide +kernel
theorem taken_all : ∀ a : Fin 16, taken a 15 = Finset.univ := by decide +kernel

/-- Key `t` of chunk `j`. -/
def key (j : Fin 16) (t : Fin 512) : Fin 8192 := ⟨512 * j.val + t.val, by have := j.isLt; have := t.isLt; omega⟩

end Cert.Proof
-- ==== Proof.Tiles.lean ====
/- The score tiles of the attention kernel at the extended reals. A tile is the products of a chunk of keys with the
   two masked copies of the queries plus, off the diagonal, the bias's part inside the tile: the tile is the true
   score shifted up by the slope times the distance of the two blocks. -/
module

public import proofs.«01_k».proof.Proof.Words

@[expose] public section

set_option maxRecDepth 16384

noncomputable section

namespace Cert.Proof

open Cert.KernelIdeal Cert.KernelIdeal.Gen Idealize.ShloMosaic Idealize.ShloMosaic.Pointwise

/-- The query of a column: the columns are the queries of a block twice. -/
def col (c : Fin 1024) : Fin 512 := ⟨c.val % 512, Nat.mod_lt _ (by decide)⟩

theorem pay11_apply (x2 : FVec Ideal S128x512 .bf16) (d : Fin 128) (c : Fin 1024) :
    k0_pay11 (F := Ideal) x2 (ix2 d c) = if (d.val < 64 ↔ c.val < 512) then x2 (ix2 d (col c)) else 0 := by
  have e1 : ∀ d : Fin 128, IntOp.cmpi .slt (BitVec.ofNat 32 d.val) 64#32 = if d.val < 64 then 1#1 else 0#1 := by decide
  have e2 : ∀ d : Fin 128, IntOp.cmpi .sge (BitVec.ofNat 32 d.val) 64#32 = if d.val < 64 then 0#1 else 1#1 := by decide
  pointwise [k0_pay11]
  rw [e1, e2]
  have hc := c.isLt
  by_cases h : c.val < 512
  · have : col c = ⟨c.val, h⟩ := Fin.ext (Nat.mod_eq_of_lt h)
    rw [dif_pos h, this]
    by_cases hd : d.val < 64 <;> simp [h, hd, Scalar.select]
  · have : col c = ⟨c.val - 512, by omega⟩ := Fin.ext (by show c.val % 512 = c.val - 512; omega)
    rw [dif_neg h, this]
    by_cases hd : d.val < 64 <;> simp [h, hd, Scalar.select]

theorem pay12_top (x2 : FVec Ideal S128x512 .bf16) (x5 : FVec Ideal S1x128x512 .bf16) (d : Fin 128) (c : Fin 1024) :
    k0_pay12 (F := Ideal) x2 x5 (ix2 ⟨d.val, by omega⟩ c) = k0_pay11 (F := Ideal) x2 (ix2 d c) := by
  unfold k0_pay12
  generalize k0_pay11 (F := Ideal) x2 = v
  pointwise []

theorem pay12_bottom (x2 : FVec Ideal S128x512 .bf16) (x5 : FVec Ideal S1x128x512 .bf16) (d : Fin 128) (c : Fin 1024) :
    k0_pay12 (F := Ideal) x2 x5 (ix2 ⟨128 + d.val, by omega⟩ c) = x5 (ix3 0 d (col c)) := by
  unfold k0_pay12
  generalize k0_pay11 (F := Ideal) x2 = v
  pointwise []
  have hc := c.isLt
  by_cases h : c.val < 512
  · have : col c = ⟨c.val, h⟩ := Fin.ext (Nat.mod_eq_of_lt h)
    simp [h, this]
  · have : col c = ⟨c.val - 512, by omega⟩ := Fin.ext (by show c.val % 512 = c.val - 512; omega)
    simp [h, this]

theorem pay18_apply (v14 : FVec Ideal S128x1024 .bf16) (x7 : FVec Ideal S1x512x512 .f32)
    (x : FVec Ideal S1x512x128 .bf16) (t : Fin 512) (c : Fin 1024) :
    k0_pay18 v14 x7 x (ix2 t c) = (∑ d : Fin 128, x (ix3 0 t d) * v14 (ix2 d c)) - x7 (ix3 0 t (col c)) := by
  pointwise [k0_pay18]
  have hc := c.isLt
  by_cases h : c.val < 512
  · have : col c = ⟨c.val, h⟩ := Fin.ext (Nat.mod_eq_of_lt h)
    simp [h, this]
  · have : col c = ⟨c.val - 512, by omega⟩ := Fin.ext (by show c.val % 512 = c.val - 512; omega)
    simp [h, this]

theorem pay21_apply (v18 : FVec Ideal S256x1024 .bf16) (x y : FVec Ideal S512x128 .bf16) (t : Fin 512) (c : Fin 1024) :
    k0_pay21 v18 x y (ix2 t c) = (∑ d : Fin 128, x (ix2 t d) * v18 (ix2 ⟨d.val, by omega⟩ c))
      + ∑ d : Fin 128, y (ix2 t d) * v18 (ix2 ⟨128 + d.val, by omega⟩ c) := by
  pointwise [k0_pay21]

theorem pay19_apply (x : FVec Ideal S1x512x128 .bf16) (t : Fin 512) (d : Fin 128) :
    k0_pay19 (F := Ideal) x (ix2 t d) = x (ix3 0 t d) := by
  pointwise [k0_pay19]

theorem pay13_apply (x : FVec Ideal S1x512x128 .bf16) (t : Fin 512) (d : Fin 128) :
    k0_pay13 (F := Ideal) x (ix2 t d) = x (ix3 0 t d) := by
  pointwise [k0_pay13]

theorem pay14_apply (x : FVec Ideal S1x512x128 .bf16) (t : Fin 512) (d : Fin 128) :
    k0_pay14 (F := Ideal) x (ix2 t d) = 0 - x (ix3 0 t d) := by
  unfold k0_pay14
  rw [← pay13_apply x t d]
  generalize k0_pay13 (F := Ideal) x = v
  pointwise []

section Generic

variable {F : FTy → Type} [FloatOps F]

/-- An off-diagonal tile of the chunk that step `n` takes, from its keys. -/
def offTile (v18 : FVec F S256x1024 .bf16) (v20 v22 : FVec F S512x128 .bf16) (v48 n : BitVec 32)
    (kc : FVec F S1x512x128 .bf16) : FVec F S512x1024 .f32 :=
  k0_pay21 v18 (k0_pay19 kc) (Scalar.select (Scalar.cmpi .slt (stepWord v48 n) v48) v20 v22)

theorem pay3_eq (v18 : FVec F S256x1024 .bf16) (v20 v22 : FVec F S512x128 .bf16) (v48 : BitVec 32)
    (k : Fin k0_t1_loop.trips) (kc : FVec F S1x512x128 .bf16) :
    k0_pay3 v18 v20 v22 v48 0#32 1#32 k kc
      = offTile v18 v20 v22 v48 (Scalar.addi (Scalar.muli 2#32 (Scf.iv 0#32 1#32 k)) 1#32) kc := rfl

theorem pay10_eq (v18 : FVec F S256x1024 .bf16) (v20 v22 : FVec F S512x128 .bf16) (v48 : BitVec 32)
    (k : Fin k0_t1_loop.trips) (kc : FVec F S1x512x128 .bf16) :
    k0_pay10 v18 v20 v22 v48 (Scf.iv 0#32 1#32 k) kc
      = offTile v18 v20 v22 v48 (Scalar.addi (Scalar.muli 2#32 (Scf.iv 0#32 1#32 k)) 2#32) kc := rfl

theorem pay20_eq (i : grid0.Coords) (v18 : FVec F S256x1024 .bf16) (v20 v22 : FVec F S512x128 .bf16)
    (kc : FVec F S1x512x128 .bf16) :
    k0_pay21 v18 (k0_pay19 kc) (k0_pay20 (w0 i) v20 v22 512#32 (Scalar.divsi (w0 i) 512#32))
      = offTile v18 v20 v22 (w48 i) 0#32 kc := rfl

end Generic

/-- A chunk of keys read from the array of keys. -/
theorem ld_keys (x : FVec Ideal S1x8192x128 .bf16) {off : Fin 3 → ℕ} (j : Fin 16) (h : off = ![0, 512 * j.val, 0])
    (inb) (t : Fin 512) (d : Fin 128) :
    View.ld (Val := Elt Ideal) (e' := .bf16) x (Rect.unit off S1x512x128.size inb) (ix3 0 t d) = x (ix3 0 (key j t) d) := by
  subst h
  pointwise [key]

/-- A chunk of values read from the array of values. -/
theorem ld_values (x : FVec Ideal S128x8192 .bf16) {off : Fin 2 → ℕ} (j : Fin 16) (h : off = ![0, 512 * j.val])
    (inb) (d : Fin 128) (t : Fin 512) :
    View.ld (Val := Elt Ideal) (e' := .bf16) x (Rect.unit off S128x512.size inb) (ix2 d t) = x (ix2 d (key j t)) := by
  subst h
  pointwise [key]

/-- The queries of a column, the half of the features that is not its own masked out. -/
def maskedQ (Q : Fin 128 → Fin 512 → ℝ) (c : Fin 1024) (d : Fin 128) : ℝ :=
  if (d.val < 64 ↔ c.val < 512) then Q d (col c) else 0

/-- The score of a column's query with key `t` of chunk `j`: the product less the slope times the distance. -/
def score (a : Fin 16) (sl : ℝ) (K : Fin 16 → Fin 512 → Fin 128 → ℝ) (Q : Fin 128 → Fin 512 → ℝ)
    (c : Fin 1024) (j : Fin 16) (t : Fin 512) : ℝ :=
  (∑ d : Fin 128, K j t d * maskedQ Q c d)
    - sl * |((512 * a.val + (col c).val : ℕ) : ℝ) - ((512 * j.val + t.val : ℕ) : ℝ)|

/-- The weights' rows: the features of the values, then ones. -/
def weight (V : Fin 128 → Fin 16 → Fin 512 → ℝ) (r : Fin 144) (j : Fin 16) (t : Fin 512) : ℝ :=
  if h : r.val < 128 then V ⟨r.val, h⟩ j t else 1

/-- The shift of a chunk as a real number. -/
def shiftR (a : Fin 16) (sl : ℝ) (j : Fin 16) : ℝ := sl * ((512 * (a.val - j.val + (j.val - a.val)) : ℕ) : ℝ)

/-- The blocks a grid point reads, as real numbers. -/
structure Reals (a : Fin 16) (v2 : Ideal .f32) (x2 : FVec Ideal S128x512 .bf16) (x3 : FVec Ideal S1x8192x128 .bf16)
    (x4 : FVec Ideal S128x8192 .bf16) (x5 : FVec Ideal S1x128x512 .bf16) (x6 : FVec Ideal S1x512x128 .bf16)
    (x7 : FVec Ideal S1x512x512 .f32) (sl : ℝ) (K : Fin 16 → Fin 512 → Fin 128 → ℝ)
    (V : Fin 128 → Fin 16 → Fin 512 → ℝ) (Q : Fin 128 → Fin 512 → ℝ) (fq : Fin 128 → Fin 512 → ℝ)
    (fk : Fin 512 → Fin 128 → ℝ) : Prop where
  slope : v2 = (sl : EReal)
  queries : ∀ d c, x2 (ix2 d c) = (Q d c : EReal)
  keys : ∀ j t d, x3 (ix3 0 (key j t) d) = (K j t d : EReal)
  values : ∀ d j t, x4 (ix2 d (key j t)) = (V d j t : EReal)
  featQ : ∀ d c, x5 (ix3 0 d c) = (fq d c : EReal)
  featK : ∀ t d, x6 (ix3 0 t d) = (fk t d : EReal)
  feat : ∀ t c, ∑ d : Fin 128, fk t d * fq d c = sl * ((t.val : ℝ) - (c.val : ℝ))
  bias : ∀ t c, x7 (ix3 0 t c) = ((sl * |(c.val : ℝ) - (t.val : ℝ)| : ℝ) : EReal)

section Point

variable {a : Fin 16} {v2 : Ideal .f32} {x2 : FVec Ideal S128x512 .bf16} {x3 : FVec Ideal S1x8192x128 .bf16}
  {x4 : FVec Ideal S128x8192 .bf16} {x5 : FVec Ideal S1x128x512 .bf16} {x6 : FVec Ideal S1x512x128 .bf16}
  {x7 : FVec Ideal S1x512x512 .f32} {sl : ℝ} {K : Fin 16 → Fin 512 → Fin 128 → ℝ}
  {V : Fin 128 → Fin 16 → Fin 512 → ℝ} {Q : Fin 128 → Fin 512 → ℝ} {fq : Fin 128 → Fin 512 → ℝ}
  {fk : Fin 512 → Fin 128 → ℝ}

theorem Reals.masked (R : Reals a v2 x2 x3 x4 x5 x6 x7 sl K V Q fq fk) (d : Fin 128) (c : Fin 1024) :
    k0_pay11 (F := Ideal) x2 (ix2 d c) = (maskedQ Q c d : EReal) := by
  rw [pay11_apply, maskedQ, R.queries]
  split <;> simp

/-- The diagonal tile is the score. -/
theorem Reals.diag (R : Reals a v2 x2 x3 x4 x5 x6 x7 sl K V Q fq fk) {kc : FVec Ideal S1x512x128 .bf16}
    (hk : ∀ t d, kc (ix3 0 t d) = x3 (ix3 0 (key a t) d)) (t : Fin 512) (c : Fin 1024) :
    k0_pay18 (k0_pay11 (F := Ideal) x2) x7 kc (ix2 t c) = ((score a sl K Q c a t + 0 : ℝ) : EReal) := by
  rw [pay18_apply, R.bias]
  simp only [hk, R.keys, R.masked]
  simp only [← EReal.coe_mul]
  rw [sum_coe, ← EReal.coe_sub, add_zero, score]
  congr 4
  push_cast; ring

/-- An off-diagonal tile is the score shifted up. -/
theorem Reals.off (R : Reals a v2 x2 x3 x4 x5 x6 x7 sl K V Q fq fk) (n : Fin 15) {kc : FVec Ideal S1x512x128 .bf16}
    (hk : ∀ t d, kc (ix3 0 t d) = x3 (ix3 0 (key (a.succAbove n) t) d)) (t : Fin 512) (c : Fin 1024) :
    offTile (k0_pay12 (F := Ideal) x2 x5) (k0_pay13 (F := Ideal) x6) (k0_pay14 (F := Ideal) x6) (BitVec.ofNat 32 a.val)
        (BitVec.ofNat 32 n.val) kc (ix2 t c)
      = ((score a sl K Q c (a.succAbove n) t + shiftR a sl (a.succAbove n) : ℝ) : EReal) := by
  have hne : a.succAbove n ≠ a := Fin.succAbove_ne a n
  have hs := step_eq a n
  generalize a.succAbove n = j at *
  unfold offTile
  rw [pay21_apply, hs, isLeft_eq]
  simp only [pay12_top, pay12_bottom, pay19_apply, hk, R.keys, R.masked, R.featQ]
  have e : ∀ d : Fin 128, Scalar.select (if j < a then 1#1 else 0#1) (k0_pay13 (F := Ideal) x6) (k0_pay14 (F := Ideal) x6)
      (ix2 t d) = ((if j < a then fk t d else -fk t d : ℝ) : EReal) := by
    intro d
    split
    · exact (pay13_apply x6 t d).trans (R.featK t d)
    · refine (pay14_apply x6 t d).trans ?_
      rw [R.featK, zero_sub, EReal.coe_neg]
  simp only [e, ← EReal.coe_mul]
  rw [sum_coe, sum_coe, ← EReal.coe_add]
  congr 1
  have hf := R.feat t (col c)
  have hc := (col c).isLt
  have ht := t.isLt
  unfold score shiftR
  rcases lt_or_gt_of_ne hne with h | h
  · have h' : j.val + 1 ≤ a.val := h
    have h2 : ((j.val : ℝ) + 1) ≤ a.val := by exact_mod_cast h'
    have h3 : (t.val : ℝ) < 512 := by exact_mod_cast ht
    have h4 : (0 : ℝ) ≤ (col c).val := by positivity
    simp only [if_pos h]
    rw [hf, show j.val - a.val = 0 by omega, abs_of_nonneg (by push_cast; linarith)]
    push_cast [show j.val ≤ a.val by omega]
    ring
  · have h' : a.val + 1 ≤ j.val := h
    have h2 : ((a.val : ℝ) + 1) ≤ j.val := by exact_mod_cast h'
    have h3 : ((col c).val : ℝ) < 512 := by exact_mod_cast hc
    have h4 : (0 : ℝ) ≤ t.val := by positivity
    simp only [if_neg (not_lt.2 (le_of_lt h)), neg_mul, Finset.sum_neg_distrib]
    rw [hf, show a.val - j.val = 0 by omega, abs_of_nonpos (by push_cast; linarith)]
    push_cast [show a.val ≤ j.val by omega]
    ring

end Point

end Cert.Proof
-- ==== Proof.Sums.lean ====
/- The weighted sums the attention kernel ends a grid point with: over all sixteen chunks, whatever the maximum is. -/
module

public import proofs.«01_k».proof.Proof.Tiles

@[expose] public section

set_option maxRecDepth 16384

noncomputable section

namespace Cert.Proof

open Cert.KernelIdeal Cert.KernelIdeal.Gen Idealize.ShloMosaic Idealize.ShloMosaic.Pointwise

theorem pay16_apply (c : Fin 1024) : k0_pay16 (F := Ideal) (ix2 0 c) = (⊥ : EReal) := by
  pointwise [k0_pay16]
  simp [Ideal.ofBits, Ideal.ieee, -EReal.coe_mul]

theorem pay17_apply (r : Fin 144) (c : Fin 1024) : k0_pay17 (F := Ideal) (ix2 r c) = (0 : EReal) := by
  pointwise [k0_pay17]

theorem zero_f32 : Scalar.ofBits (F := Ideal) .f32 0x00000000#32 = ((0 : ℝ) : EReal) := by
  simp [Scalar.ofBits, Ideal.ofBits, Ideal.ieee, -EReal.coe_mul]

/-- A chunk of values with the ones below. -/
theorem withOnes_apply (x : FVec Ideal S128x512 .bf16) (f : Fin 128 → Fin 512 → ℝ) (h : ∀ d t, x (ix2 d t) = (f d t : EReal))
    (r : Fin 144) (t : Fin 512) :
    withOnes (F := Ideal) x (ix2 r t) = ((if h : r.val < 128 then f ⟨r.val, h⟩ t else 1 : ℝ) : EReal) := by
  pointwise [withOnes, k0_pay15]
  by_cases hr : r.val < 128
  · simp only [dif_pos hr]; exact h _ _
  · simp only [dif_neg hr]; exact EReal.coe_one.symm

section Generic

variable {F : FTy → Type} [FloatOps F] (i : grid0.Coords) (w : Pt F) (x3 : Vec F S1x8192x128 .bf16)
  (x4 : Vec F S128x8192 .bf16) (x7 : Vec F S1x512x512 .f32) (k : Fin k0_t1_loop.trips) (s : St F)

theorem half_m : (half i w x3 x4 k s).m
    = newMax (shiftOf w.v0 w.v2 (stepWord w.v48 (Scalar.muli 2#32 (Scf.iv 0#32 1#32 k)))) s.q s.m :=
  pay9_eq w.v0 w.v2 w.v48 k s.q s.m

theorem half_a (h : w.v23 = k0_pay15) : (half i w x3 x4 k s).a
    = newSum (shiftOf w.v0 w.v2 (stepWord w.v48 (Scalar.muli 2#32 (Scf.iv 0#32 1#32 k)))) s.q
        (withOnes (View.ld x4 (Rect.unit (k0_off6 i k) S128x512.size (k0_off6_inb i k)))) s.m s.a := by
  rw [← pay8_eq, ← h]; rfl

theorem half_p : (half i w x3 x4 k s).p
    = offTile w.v18 w.v20 w.v22 w.v48 (Scalar.addi (Scalar.muli 2#32 (Scf.iv 0#32 1#32 k)) 1#32)
        (View.ld x3 (Rect.unit (k0_off5 i k 1#32) S1x512x128.size (k0_off5_inb i k 0))) :=
  pay3_eq w.v18 w.v20 w.v22 w.v48 k _

theorem half_q : (half i w x3 x4 k s).q
    = offTile w.v18 w.v20 w.v22 w.v48 (Scalar.addi (Scalar.muli 2#32 (Scf.iv 0#32 1#32 k)) 2#32)
        (View.ld x3 (Rect.unit (k0_off5 i k 2#32) S1x512x128.size (k0_off5_inb i k 1))) :=
  pay10_eq w.v18 w.v20 w.v22 w.v48 k _

theorem trip_m : (trip i w x3 x4 k s).m
    = newMax (shiftOf w.v0 w.v2 (stepWord w.v48 (Scalar.addi (Scalar.muli 2#32 (Scf.iv 0#32 1#32 k)) 1#32)))
        (half i w x3 x4 k s).p (half i w x3 x4 k s).m :=
  pay28_eq w.v0 w.v2 (oddWord w.v48 k) _ _

theorem trip_a (h : w.v23 = k0_pay15) : (trip i w x3 x4 k s).a
    = newSum (shiftOf w.v0 w.v2 (stepWord w.v48 (Scalar.addi (Scalar.muli 2#32 (Scf.iv 0#32 1#32 k)) 1#32)))
        (half i w x3 x4 k s).p (withOnes (View.ld x4 (Rect.unit (k0_off7 i k) S128x512.size (k0_off7_inb i k))))
        (half i w x3 x4 k s).m (half i w x3 x4 k s).a := by
  rw [← pay27_eq, ← h]; rfl

variable (v14 : FVec F S128x1024 .bf16) (v69 v71 : FVec F S512x128 .bf16)

theorem entry_m : (entry i w v14 v69 v71 x3 x4 x7).m
    = newMax (Scalar.ofBits .f32 0x00000000#32)
        (k0_pay18 v14 x7 (View.ld x3 (Rect.unit (k0_off2 i) S1x512x128.size (k0_off2_inb i)))) k0_pay16 :=
  pay24_eq _ _

theorem entry_a : (entry i w v14 v69 v71 x3 x4 x7).a
    = newSum (Scalar.ofBits .f32 0x00000000#32)
        (k0_pay18 v14 x7 (View.ld x3 (Rect.unit (k0_off2 i) S1x512x128.size (k0_off2_inb i))))
        (withOnes (View.ld x4 (Rect.unit (k0_off4 i) S128x512.size (k0_off4_inb i)))) k0_pay16 k0_pay17 := by
  rw [← pay23_eq]; rfl

theorem sums_eq (h : w.v23 = k0_pay15) : sums i w x4 s
    = newSum (shiftOf w.v0 w.v2 (stepWord w.v48 14#32)) s.q
        (withOnes (View.ld x4 (Rect.unit (k0_off8 i) S128x512.size (k0_off8_inb i)))) s.m s.a := by
  rw [← pay31_eq, ← h]; rfl

end Generic

section Point

variable {i : grid0.Coords} {v2 : Ideal .f32} {x0 : FVec Ideal S8 .f32} {x2 : FVec Ideal S128x512 .bf16}
  {x3 : FVec Ideal S1x8192x128 .bf16}
  {x4 : FVec Ideal S128x8192 .bf16} {x5 : FVec Ideal S1x128x512 .bf16} {x6 : FVec Ideal S1x512x128 .bf16}
  {x7 : FVec Ideal S1x512x512 .f32} {sl : ℝ} {K : Fin 16 → Fin 512 → Fin 128 → ℝ}
  {V : Fin 128 → Fin 16 → Fin 512 → ℝ} {Q : Fin 128 → Fin 512 → ℝ} {fq : Fin 128 → Fin 512 → ℝ}
  {fk : Fin 512 → Fin 128 → ℝ}

/-- The shift the kernel computes is the slope times the distance. -/
theorem Reals.shift (R : Reals (blk i) v2 x2 x3 x4 x5 x6 x7 sl K V Q fq fk) (j : Fin 16) :
    shiftOf (w0 i) v2 (BitVec.ofNat 32 j.val) = (shiftR (blk i) sl j : EReal) := by
  unfold shiftOf shiftR
  rw [R.slope, w0_eq]
  show (sl : EReal) * (((Scalar.absi _).toInt : ℝ) : EReal) = _
  rw [dist_eq, ← EReal.coe_mul]
  simp

/-- The rows of weights of a chunk. -/
theorem Reals.weights (R : Reals (blk i) v2 x2 x3 x4 x5 x6 x7 sl K V Q fq fk) (j : Fin 16) {off : Fin 2 → ℕ}
    (h : off = ![0, 512 * j.val]) (inb) (r : Fin 144) (t : Fin 512) :
    withOnes (F := Ideal) (View.ld (Val := Elt Ideal) (e' := .bf16) x4 (Rect.unit off S128x512.size inb)) (ix2 r t)
      = (weight V r j t : EReal) :=
  withOnes_apply _ (fun d t => V d j t) (fun d t => (ld_values x4 j h inb d t).trans (R.values d j t)) r t

/-- One step: the chunk of step `n` taken from its tile. -/
theorem Reals.step (R : Reals (blk i) v2 x2 x3 x4 x5 x6 x7 sl K V Q fq fk) (n : Fin 15) {p : FVec Ideal S512x1024 .f32}
    {m : FVec Ideal S1x1024 .f32} {s : FVec Ideal S144x1024 .f32} {off : Fin 2 → ℕ}
    (hoff : off = ![0, 512 * ((blk i).succAbove n).val]) (inb)
    (hp : ∀ t c, p (ix2 t c)
      = ((score (blk i) sl K Q c ((blk i).succAbove n) t + shiftR (blk i) sl ((blk i).succAbove n) : ℝ) : EReal))
    (h : Holds (taken (blk i) n.val) (score (blk i) sl K Q) (weight V) m s) :
    Holds (taken (blk i) (n.val + 1)) (score (blk i) sl K Q) (weight V)
      (newMax (shiftOf (w0 i) v2 (stepWord (w48 i) (BitVec.ofNat 32 n.val))) p m)
      (newSum (shiftOf (w0 i) v2 (stepWord (w48 i) (BitVec.ofNat 32 n.val))) p
        (withOnes (F := Ideal) (View.ld (Val := Elt Ideal) (e' := .bf16) x4 (Rect.unit off S128x512.size inb))) m s) := by
  rw [w48_eq, step_eq, R.shift, taken_succ]
  exact holds_next _ (not_taken _ n) _ hp (R.weights _ hoff inb) h

/-- What is true before trip `n`: the chunks of the steps before are taken, and the second tile is the next step's. -/
def Before (i : grid0.Coords) (sl : ℝ) (K : Fin 16 → Fin 512 → Fin 128 → ℝ) (V : Fin 128 → Fin 16 → Fin 512 → ℝ)
    (Q : Fin 128 → Fin 512 → ℝ) (n : Fin 15) (s : St Ideal) : Prop :=
  Holds (taken (blk i) n.val) (score (blk i) sl K Q) (weight V) s.m s.a ∧
    ∀ t c, s.q (ix2 t c)
      = ((score (blk i) sl K Q c ((blk i).succAbove n) t + shiftR (blk i) sl ((blk i).succAbove n) : ℝ) : EReal)

theorem off5_eq1 (i : grid0.Coords) (k : Fin k0_t1_loop.trips) (n : Fin 15) (hn : n.val = 2 * k.val + 1) :
    k0_off5 i k 1#32 = ![0, 512 * ((blk i).succAbove n).val, 0] := by
  rw [succAbove_val]
  refine (k0_off5_eq i k 0).trans ?_
  simp only [hn, blk]
  congr 2
  show 1024 * k.val + 512 * 0 + 512 * _ + 512 = _
  simp only [Fin.val_zero]; split <;> omega

theorem off5_eq2 (i : grid0.Coords) (k : Fin k0_t1_loop.trips) (n : Fin 15) (hn : n.val = 2 * k.val + 2) :
    k0_off5 i k 2#32 = ![0, 512 * ((blk i).succAbove n).val, 0] := by
  rw [succAbove_val]
  refine (k0_off5_eq i k 1).trans ?_
  simp only [hn, blk]
  congr 2
  show 1024 * k.val + 512 * 1 + 512 * _ + 512 = _
  simp only [Fin.val_one]; split <;> omega

theorem off6_eq (i : grid0.Coords) (k : Fin k0_t1_loop.trips) (n : Fin 15) (hn : n.val = 2 * k.val) :
    k0_off6 i k = ![0, 512 * ((blk i).succAbove n).val] := by
  rw [succAbove_val]
  refine (k0_off6_eq i k).trans ?_
  simp only [hn, blk]
  congr 2
  omega

theorem off7_eq (i : grid0.Coords) (k : Fin k0_t1_loop.trips) (n : Fin 15) (hn : n.val = 2 * k.val + 1) :
    k0_off7 i k = ![0, 512 * ((blk i).succAbove n).val] := by
  rw [succAbove_val]
  refine (k0_off7_eq i k).trans ?_
  simp only [hn, blk]
  congr 2
  omega

theorem off3_eq (i : grid0.Coords) : k0_off3 i = ![0, 512 * ((blk i).succAbove (0 : Fin 15)).val, 0] := by
  rw [succAbove_val]
  refine (k0_off3_eq i).trans ?_
  simp [blk]

theorem off8_eq (i : grid0.Coords) : k0_off8 i = ![0, 512 * ((blk i).succAbove (14 : Fin 15)).val] := by
  rw [succAbove_val]
  refine (k0_off8_eq i).trans ?_
  simp only [blk]
  congr 2
  show 512 * _ + 7168 = 512 * (14 + if 14 ≥ (i 2).val then 1 else 0)
  omega

/-- One trip. -/
theorem Reals.trip (R : Reals (blk i) ((pt (F := Ideal) i x0 x2 x5 x6).v2) x2 x3 x4 x5 x6 x7 sl K V Q fq fk)
    (k : Fin k0_t1_loop.trips) (n n' : Fin 15) (hn : n.val = 2 * k.val) (hn' : n'.val = 2 * k.val + 2) (s : St Ideal)
    (h : Before i sl K V Q n s) : Before i sl K V Q n' (Cert.Proof.trip i (pt (F := Ideal) i x0 x2 x5 x6) x3 x4 k s) := by
  obtain ⟨h, hq⟩ := h
  obtain ⟨n1, hn1⟩ : ∃ n1 : Fin 15, n1.val = 2 * k.val + 1 := ⟨⟨2 * k.val + 1, by have := n'.isLt; omega⟩, rfl⟩
  have H1 := R.step n (off6_eq i k n hn) (k0_off6_inb i k) hq h
  have hp : ∀ t c, (half i (pt (F := Ideal) i x0 x2 x5 x6) x3 x4 k s).p (ix2 t c)
      = ((score (blk i) sl K Q c ((blk i).succAbove n1) t + shiftR (blk i) sl ((blk i).succAbove n1) : ℝ) : EReal) := by
    intro t c
    rw [half_p, odd_eq, show (pt (F := Ideal) i x0 x2 x5 x6).v48 = w48 i from rfl, w48_eq, ← hn1]
    exact R.off n1 (fun t d => ld_keys x3 _ (off5_eq1 i k n1 hn1) _ t d) t c
  have hq' : ∀ t c, (half i (pt (F := Ideal) i x0 x2 x5 x6) x3 x4 k s).q (ix2 t c)
      = ((score (blk i) sl K Q c ((blk i).succAbove n') t + shiftR (blk i) sl ((blk i).succAbove n') : ℝ) : EReal) := by
    intro t c
    rw [half_q, next_eq, show (pt (F := Ideal) i x0 x2 x5 x6).v48 = w48 i from rfl, w48_eq, ← hn']
    exact R.off n' (fun t d => ld_keys x3 _ (off5_eq2 i k n' hn') _ t d) t c
  have em := half_m i (pt (F := Ideal) i x0 x2 x5 x6) x3 x4 k s
  have ea := half_a i (pt (F := Ideal) i x0 x2 x5 x6) x3 x4 k s rfl
  rw [even_eq, ← hn] at em ea
  have H1' : Holds (taken (blk i) n1.val) (score (blk i) sl K Q) (weight V)
      (half i (pt (F := Ideal) i x0 x2 x5 x6) x3 x4 k s).m (half i (pt (F := Ideal) i x0 x2 x5 x6) x3 x4 k s).a := by
    rw [em, ea, show n1.val = n.val + 1 by omega]; exact H1
  have H2 := R.step n1 (off7_eq i k n1 hn1) (k0_off7_inb i k) hp H1'
  refine ⟨?_, hq'⟩
  rw [trip_m, trip_a _ _ _ _ _ _ rfl, odd_eq, ← hn1, show n'.val = n1.val + 1 by omega]
  exact H2

/-- The state at loop entry. -/
theorem Reals.enter (R : Reals (blk i) ((pt (F := Ideal) i x0 x2 x5 x6).v2) x2 x3 x4 x5 x6 x7 sl K V Q fq fk) :
    Before i sl K V Q 0 (Cert.Proof.enter (F := Ideal) i x0 x2 x3 x4 x5 x6 x7) := by
  constructor
  · show Holds _ _ _ (entry (F := Ideal) i _ _ _ _ x3 x4 x7).m (entry (F := Ideal) i _ _ _ _ x3 x4 x7).a
    rw [entry_m, entry_a, zero_f32, show ((0 : Fin 15).val) = 0 from rfl, taken_zero]
    exact holds_first _ 0 (R.diag fun t d => ld_keys x3 _ (k0_off2_eq i) _ t d) (R.weights _ (k0_off4_eq i) _)
      pay16_apply pay17_apply
  · intro t c
    show k0_pay21 (k0_pay12 (F := Ideal) x2 x5) (k0_pay19 _)
      (k0_pay20 (w0 i) (k0_pay13 (F := Ideal) x6) (k0_pay14 (F := Ideal) x6) 512#32 (Scalar.divsi (w0 i) 512#32)) (ix2 t c) = _
    rw [pay20_eq, w48_eq]
    exact R.off 0 (fun t d => ld_keys x3 _ (off3_eq i) _ t d) t c

/-- The state before every trip. -/
theorem Reals.before (R : Reals (blk i) ((pt (F := Ideal) i x0 x2 x5 x6).v2) x2 x3 x4 x5 x6 x7 sl K V Q fq fk) :
    ∀ (n : ℕ) (hn : 2 * n < 15), Before i sl K V Q ⟨2 * n, hn⟩
      (Cert.Proof.before i (pt (F := Ideal) i x0 x2 x5 x6) x3 x4 (Cert.Proof.enter (F := Ideal) i x0 x2 x3 x4 x5 x6 x7) n)
  | 0, hn => R.enter
  | n + 1, hn => by
    have ht : n < k0_t1_loop.trips := by rw [show k0_t1_loop.trips = 7 from by decide]; omega
    rw [Cert.Proof.before, dif_pos ht]
    exact R.trip ⟨n, ht⟩ ⟨2 * n, by omega⟩ ⟨2 * (n + 1), hn⟩ rfl (by show 2 * (n + 1) = 2 * n + 2; omega) _
      (Reals.before R n (by omega))

/-- The sums at the end of a grid point. -/
theorem Reals.sums (R : Reals (blk i) ((pt (F := Ideal) i x0 x2 x5 x6).v2) x2 x3 x4 x5 x6 x7 sl K V Q fq fk) :
    ∃ μ : Fin 1024 → ℝ, ∀ r c,
      Cert.Proof.sums (F := Ideal) i (pt (F := Ideal) i x0 x2 x5 x6) x4 (Cert.Proof.before i (pt (F := Ideal) i x0 x2 x5 x6) x3 x4
          (Cert.Proof.enter (F := Ideal) i x0 x2 x3 x4 x5 x6 x7) k0_t1_loop.trips) (ix2 r c)
        = ((∑ j : Fin 16, ∑ t : Fin 512, weight V r j t * Real.exp (score (blk i) sl K Q c j t - μ c) : ℝ) : EReal) := by
  rw [show k0_t1_loop.trips = 7 from by decide]
  obtain ⟨h, hq⟩ := R.before 7 (by decide)
  have H := R.step 14 (off8_eq i) (k0_off8_inb i) hq h
  rw [show (14 : Fin 15).val + 1 = 15 from rfl, taken_all] at H
  obtain ⟨μ, -, ha⟩ := H
  refine ⟨μ, fun r c => ?_⟩
  rw [← ha r c, sums_eq _ _ _ _ rfl]
  rfl

end Point

end Cert.Proof
-- ==== Proof.Link.lean ====
/- A grid point's output block, read at an index, is the reference's attention. -/
module

public import proofs.«01_k».proof.Proof.Sums
public import proofs.«01_k».proof.Proof.Ref

@[expose] public section

set_option maxRecDepth 16384

noncomputable section

namespace Cert.Proof

open Cert.KernelIdeal Cert.KernelIdeal.Gen Idealize.ShloMosaic Idealize.ShloMosaic.Pointwise

/-! ### The last step of the body at an index -/

/-- The two attentions' difference, feature by feature. -/
def diffAt (lam : EReal) (x : FVec Ideal S144x1024 .f32) (c : Fin 512) (d : Fin 128) : EReal :=
  Ideal.div (x (ix2 ⟨d.val, by omega⟩ ⟨c.val, by omega⟩)) (x (ix2 128 ⟨c.val, by omega⟩))
    - lam * Ideal.div (x (ix2 ⟨d.val, by omega⟩ ⟨512 + c.val, by omega⟩)) (x (ix2 128 ⟨512 + c.val, by omega⟩))

theorem pay2_apply (lam : Ideal .f32) (x : FVec Ideal S144x1024 .f32) (g : FVec Ideal S128x1 .f32) (c : Fin 512) (d : Fin 128) :
    k0_pay2 (F := Ideal) lam x g (ix3 0 c d) = Ref.normed (diffAt lam x c) (g (ix2 d 0)) d := by
  unfold Ref.normed diffAt
  pointwise [k0_pay2]

/-! ### The kernel's score is the reference's -/

/-- The rows and columns of head `h` of batch `b`. -/
def keysOf (K : Fin 2 → Fin 8192 → Fin 1024 → ℝ) (b : Fin 2) (h : Fin 8) (j : Fin 16) (t : Fin 512) (d : Fin 128) : ℝ :=
  K b (key j t) ⟨h.val * 128 + d.val, by omega⟩
def valuesOf (V : Fin 2 → Fin 8192 → Fin 1024 → ℝ) (b : Fin 2) (h : Fin 8) (d : Fin 128) (j : Fin 16) (t : Fin 512) : ℝ :=
  V b (key j t) ⟨h.val * 128 + d.val, by omega⟩
def queryAt (a : Fin 16) (c : Fin 512) : Fin 8192 := ⟨512 * a.val + c.val, by omega⟩
def queriesOf (Q : Fin 2 → Fin 8192 → Fin 1024 → ℝ) (b : Fin 2) (h : Fin 8) (a : Fin 16) (d : Fin 128) (c : Fin 512) : ℝ :=
  Q b (queryAt a c) ⟨h.val * 128 + d.val, by omega⟩ * (1 / 8)

variable (sl : Fin 8 → ℝ) (Q K V : Fin 2 → Fin 8192 → Fin 1024 → ℝ) (b : Fin 2) (h : Fin 8) (a : Fin 16)

theorem score_eq (e : Fin 2) (c : Fin 512) (cc : Fin 1024) (hcc : cc.val = 512 * e.val + c.val) (j : Fin 16) (t : Fin 512) :
    score a (sl h) (keysOf K b h) (queriesOf Q b h a) cc j t = Ref.score sl Q K b h e (queryAt a c) (key j t) := by
  have hcol : col cc = c := Fin.ext (by show cc.val % 512 = c.val; omega)
  unfold score Ref.score
  rw [hcol]
  refine congrArg₂ (· - ·) ?_ rfl
  rw [Fin.sum_univ_two_halves 64 64 rfl]
  have m0 : ∀ d : Fin 64, maskedQ (queriesOf Q b h a) cc ⟨d.val, by omega⟩
      = if cc.val < 512 then queriesOf Q b h a ⟨d.val, by omega⟩ c else 0 := fun d => by
    have hd : d.val < 64 := d.isLt
    unfold maskedQ
    rw [hcol]
    simp [hd]
  have m1 : ∀ d : Fin 64, maskedQ (queriesOf Q b h a) cc ⟨64 + d.val, by omega⟩
      = if cc.val < 512 then 0 else queriesOf Q b h a ⟨64 + d.val, by omega⟩ c := fun d => by
    have hd : ¬ 64 + d.val < 64 := by omega
    unfold maskedQ
    rw [hcol]
    by_cases hc : cc.val < 512 <;> simp [hd, hc]
  simp only [m0, m1]
  unfold keysOf queriesOf
  match e, hcc with
  | ⟨0, _⟩, hcc =>
    have hcc' : cc.val = 512 * 0 + c.val := hcc
    have hc : cc.val < 512 := by have := c.isLt; omega
    simp only [if_pos hc, mul_zero, Finset.sum_const_zero, add_zero]
    refine Finset.sum_congr rfl fun d _ => ?_
    have ef : (⟨h.val * 128 + d.val, by omega⟩ : Fin 1024) = Ref.feat h 0 d := Fin.ext (by show h.val * 128 + d.val = h.val * 128 + 0 * 64 + d.val; omega)
    rw [ef]
    show _ = Q b (queryAt a c) (Ref.feat h 0 d) * (1 / 8) * K b (key j t) (Ref.feat h 0 d)
    ring
  | ⟨1, _⟩, hcc =>
    have hcc' : cc.val = 512 * 1 + c.val := hcc
    have hc : ¬ cc.val < 512 := by omega
    simp only [if_neg hc, mul_zero, Finset.sum_const_zero, zero_add]
    refine Finset.sum_congr rfl fun d _ => ?_
    have ef : (⟨h.val * 128 + (64 + d.val), by omega⟩ : Fin 1024) = Ref.feat h 1 d := Fin.ext (by show h.val * 128 + (64 + d.val) = h.val * 128 + 1 * 64 + d.val; omega)
    rw [ef]
    show _ = Q b (queryAt a c) (Ref.feat h 1 d) * (1 / 8) * K b (key j t) (Ref.feat h 1 d)
    ring

/-! ### The ratio of the sums -/

/-- All keys, chunk by chunk. -/
theorem sum_keys (f : Fin 8192 → ℝ) : ∑ j : Fin 16, ∑ t : Fin 512, f (key j t) = ∑ k, f k := by
  rw [Fin.sum_univ_tiles 16 512 rfl f]
  refine Finset.sum_congr rfl fun j _ => Finset.sum_congr rfl fun t _ => congrArg f (Fin.ext ?_)
  show 512 * j.val + t.val = j.val * 512 + t.val
  omega

/-- A quotient of weighted sums does not depend on what the scores are measured from. -/
theorem ratio_eq (s v : Fin 8192 → ℝ) (μ : ℝ) :
    Ideal.div ((∑ k, v k * Real.exp (s k - μ) : ℝ) : EReal) ((∑ k, 1 * Real.exp (s k - μ) : ℝ) : EReal)
      = ((∑ k, Real.exp (s k) / (∑ k', Real.exp (s k')) * v k : ℝ) : EReal) := by
  have hpos : (0 : ℝ) < ∑ k, Real.exp (s k) := Finset.sum_pos (fun _ _ => Real.exp_pos _) Finset.univ_nonempty
  have e1 : ∀ x : ℝ, Real.exp (x - μ) = Real.exp x * Real.exp (-μ) := fun x => by rw [← Real.exp_add, sub_eq_add_neg]
  have ed : ∑ k, 1 * Real.exp (s k - μ) = (∑ k, Real.exp (s k)) * Real.exp (-μ) := by
    rw [Finset.sum_mul]; exact Finset.sum_congr rfl fun k _ => by rw [one_mul, e1]
  have en : ∑ k, v k * Real.exp (s k - μ) = (∑ k, Real.exp (s k) * v k) * Real.exp (-μ) := by
    rw [Finset.sum_mul]; exact Finset.sum_congr rfl fun k _ => by rw [e1]; ring
  have hne : (∑ k, Real.exp (s k)) * Real.exp (-μ) ≠ 0 := (mul_pos hpos (Real.exp_pos _)).ne'
  rw [ed, en, Ideal.div_coe hne, ← EReal.coe_mul]
  congr 1
  have em := Real.exp_ne_zero (-μ)
  have hs : ∑ k, Real.exp (s k) / (∑ k', Real.exp (s k')) * v k = (∑ k, Real.exp (s k) * v k) * (1 / ∑ k', Real.exp (s k')) := by
    rw [Finset.sum_mul]; exact Finset.sum_congr rfl fun k _ => by ring
  rw [hs]
  field_simp

/-! ### The block -/

variable {sl Q K V b h a}
variable {i : grid0.Coords} {x0 : FVec Ideal S8 .f32} {x1 : FVec Ideal S1 .f32} {x2 : FVec Ideal S128x512 .bf16}
  {x3 : FVec Ideal S1x8192x128 .bf16} {x4 : FVec Ideal S128x8192 .bf16} {x5 : FVec Ideal S1x128x512 .bf16}
  {x6 : FVec Ideal S1x512x128 .bf16} {x7 : FVec Ideal S1x512x512 .f32} {x8 : FVec Ideal S128x1 .f32}
  {fq : Fin 128 → Fin 512 → ℝ} {fk : Fin 512 → Fin 128 → ℝ} {l : ℝ}

/-- A grid point's output block at an index. -/
theorem outBlock_apply
    (R : Reals (blk i) ((pt (F := Ideal) i x0 x2 x5 x6).v2) x2 x3 x4 x5 x6 x7 (sl h) (keysOf K b h) (valuesOf V b h)
      (queriesOf Q b h (blk i)) fq fk)
    (h1 : ∀ j, x1 j = (l : EReal)) (c : Fin 512) (d : Fin 128) :
    outBlock (F := Ideal) i x0 x1 x2 x3 x4 x5 x6 x7 x8 (ix3 0 c d)
      = Ref.normed (fun d => (Ref.mixed sl Q K V l b h (queryAt (blk i) c) d : EReal)) (x8 (ix2 d 0)) d := by
  obtain ⟨μ, hμ⟩ := R.sums
  unfold outBlock
  rw [h1, pay2_apply]
  refine congrArg (fun D => Ref.normed D _ d) (funext fun d => ?_)
  have num : ∀ (e : Fin 2) (cc : Fin 1024), cc.val = 512 * e.val + c.val → ∀ r : Fin 144, ∀ v : Fin 8192 → ℝ,
      (∀ j t, weight (valuesOf V b h) r j t = v (key j t)) →
      (∑ j : Fin 16, ∑ t : Fin 512, weight (valuesOf V b h) r j t
        * Real.exp (score (blk i) (sl h) (keysOf K b h) (queriesOf Q b h (blk i)) cc j t - μ cc))
      = ∑ k, v k * Real.exp (Ref.score sl Q K b h e (queryAt (blk i) c) k - μ cc) := by
    intro e cc hcc r v hv
    rw [← sum_keys]
    exact Finset.sum_congr rfl fun j _ => Finset.sum_congr rfl fun t _ => by
      rw [hv, score_eq sl Q K b h (blk i) e c cc hcc]
  have wv : ∀ j t, weight (valuesOf V b h) ⟨d.val, by omega⟩ j t = (fun k => V b k ⟨h.val * 128 + d.val, by omega⟩) (key j t) := by
    intro j t
    unfold weight valuesOf
    rw [dif_pos d.isLt]
  have w1 : ∀ j t, weight (valuesOf V b h) 128 j t = (fun _ => (1 : ℝ)) (key j t) := by
    intro j t
    unfold weight
    rw [dif_neg (by decide)]
  unfold diffAt
  rw [hμ, hμ, hμ, hμ,
    num 0 ⟨c.val, by omega⟩ (by show c.val = 512 * 0 + c.val; omega) _ (fun k => V b k ⟨h.val * 128 + d.val, by omega⟩) wv,
    num 0 ⟨c.val, by omega⟩ (by show c.val = 512 * 0 + c.val; omega) _ (fun _ => 1) w1,
    num 1 ⟨512 + c.val, by omega⟩ (by show 512 + c.val = 512 * 1 + c.val; omega) _ (fun k => V b k ⟨h.val * 128 + d.val, by omega⟩) wv,
    num 1 ⟨512 + c.val, by omega⟩ (by show 512 + c.val = 512 * 1 + c.val; omega) _ (fun _ => 1) w1,
    ratio_eq, ratio_eq, ← EReal.coe_mul, ← EReal.coe_sub]
  congr 1
  unfold Ref.mixed
  rw [Finset.mul_sum, ← Finset.sum_sub_distrib]
  exact Finset.sum_congr rfl fun k _ => by ring

end Cert.Proof
-- ==== Proof.Blocks.lean ====
/- What a grid point of the attention kernel reads and writes, and the array the points leave. -/
module

public import proofs.«01_k».proof.Proof.Host
public import proofs.«01_k».proof.Proof.Link
public import Idealize.ShloMosaic.Lib.Pipeline.ValueKit

@[expose] public section

set_option maxRecDepth 16384

noncomputable section

namespace Cert.Proof

open Cert.KernelIdeal Cert.KernelIdeal.Gen Idealize.ShloMosaic Idealize.ShloMosaic.Pointwise
variable (m : (ℓ : Loc nD τ sig) → Buf (Elt Ideal) ℓ) (c : Dev nD)

/-! ### Where the blocks lie -/

theorem index2 : ∀ t : Fin cfg0.N, (cfg0.win 2).index t = ![(grid0.coords t 1).val, 16 * (grid0.coords t 0).val + (grid0.coords t 2).val] := by
  decide +kernel

theorem blk2 (t : Fin cfg0.N) (y0 : Fin 128) (y1 : Fin 512) (z0 : Fin 1024) (z1 : Fin 16384)
    (h0 : z0.val = (grid0.coords t 1).val * 128 + y0.val) (h1 : z1.val = (16 * (grid0.coords t 0).val + (grid0.coords t 2).val) * 512 + y1.val) :
    (iblk m c 2 t : FVec Ideal S128x512 .bf16) (ix2 y0 y1) = (V m c main_v4 : FVec Ideal S1024x16384 .bf16) (ix2 z0 z1) := by
  have e := index2 t
  blk_simp [iblk]
  refine congrArg (V m c main_v4) (funext fun a => Fin.ext ?_)
  match a with
  | ⟨0, _⟩ => refine (Pipeline.Window.rect_emb_val (cfg0.win 2) t _ ⟨0, by decide⟩).trans ?_; rw [e]; exact h0.symm
  | ⟨1, _⟩ => refine (Pipeline.Window.rect_emb_val (cfg0.win 2) t _ ⟨1, by decide⟩).trans ?_; rw [e]; exact h1.symm

theorem index3 : ∀ t : Fin cfg0.N, (cfg0.win 3).index t = ![(grid0.coords t 0).val, 0, (grid0.coords t 1).val] := by
  decide +kernel

theorem blk3 (t : Fin cfg0.N) (y0 : Fin 1) (y1 : Fin 8192) (y2 : Fin 128) (z0 : Fin 2) (z1 : Fin 8192) (z2 : Fin 1024)
    (h0 : z0.val = (grid0.coords t 0).val * 1 + y0.val) (h1 : z1.val = 0 * 8192 + y1.val) (h2 : z2.val = (grid0.coords t 1).val * 128 + y2.val) :
    (iblk m c 3 t : FVec Ideal S1x8192x128 .bf16) (ix3 y0 y1 y2) = (V m c main_v16 : FVec Ideal S2x8192x1024 .bf16) (ix3 z0 z1 z2) := by
  have e := index3 t
  blk_simp [iblk]
  refine congrArg (V m c main_v16) (funext fun a => Fin.ext ?_)
  match a with
  | ⟨0, _⟩ => refine (Pipeline.Window.rect_emb_val (cfg0.win 3) t _ ⟨0, by decide⟩).trans ?_; rw [e]; exact h0.symm
  | ⟨1, _⟩ => refine (Pipeline.Window.rect_emb_val (cfg0.win 3) t _ ⟨1, by decide⟩).trans ?_; rw [e]; exact h1.symm
  | ⟨2, _⟩ => refine (Pipeline.Window.rect_emb_val (cfg0.win 3) t _ ⟨2, by decide⟩).trans ?_; rw [e]; exact h2.symm

theorem index4 : ∀ t : Fin cfg0.N, (cfg0.win 4).index t = ![(grid0.coords t 1).val, (grid0.coords t 0).val] := by
  decide +kernel

theorem blk4 (t : Fin cfg0.N) (y0 : Fin 128) (y1 : Fin 8192) (z0 : Fin 1024) (z1 : Fin 16384)
    (h0 : z0.val = (grid0.coords t 1).val * 128 + y0.val) (h1 : z1.val = (grid0.coords t 0).val * 8192 + y1.val) :
    (iblk m c 4 t : FVec Ideal S128x8192 .bf16) (ix2 y0 y1) = (V m c main_v7 : FVec Ideal S1024x16384 .bf16) (ix2 z0 z1) := by
  have e := index4 t
  blk_simp [iblk]
  refine congrArg (V m c main_v7) (funext fun a => Fin.ext ?_)
  match a with
  | ⟨0, _⟩ => refine (Pipeline.Window.rect_emb_val (cfg0.win 4) t _ ⟨0, by decide⟩).trans ?_; rw [e]; exact h0.symm
  | ⟨1, _⟩ => refine (Pipeline.Window.rect_emb_val (cfg0.win 4) t _ ⟨1, by decide⟩).trans ?_; rw [e]; exact h1.symm

theorem index5 : ∀ t : Fin cfg0.N, (cfg0.win 5).index t = ![(grid0.coords t 1).val, 0, 0] := by
  decide +kernel

theorem blk5 (t : Fin cfg0.N) (y0 : Fin 1) (y1 : Fin 128) (y2 : Fin 512) (z0 : Fin 8) (z1 : Fin 128) (z2 : Fin 512)
    (h0 : z0.val = (grid0.coords t 1).val * 1 + y0.val) (h1 : z1.val = 0 * 128 + y1.val) (h2 : z2.val = 0 * 512 + y2.val) :
    (iblk m c 5 t : FVec Ideal S1x128x512 .bf16) (ix3 y0 y1 y2) = (V m c main_v93 : FVec Ideal S8x128x512 .bf16) (ix3 z0 z1 z2) := by
  have e := index5 t
  blk_simp [iblk]
  refine congrArg (V m c main_v93) (funext fun a => Fin.ext ?_)
  match a with
  | ⟨0, _⟩ => refine (Pipeline.Window.rect_emb_val (cfg0.win 5) t _ ⟨0, by decide⟩).trans ?_; rw [e]; exact h0.symm
  | ⟨1, _⟩ => refine (Pipeline.Window.rect_emb_val (cfg0.win 5) t _ ⟨1, by decide⟩).trans ?_; rw [e]; exact h1.symm
  | ⟨2, _⟩ => refine (Pipeline.Window.rect_emb_val (cfg0.win 5) t _ ⟨2, by decide⟩).trans ?_; rw [e]; exact h2.symm

theorem index6 : ∀ t : Fin cfg0.N, (cfg0.win 6).index t = ![(grid0.coords t 1).val, 0, 0] := by
  decide +kernel

theorem blk6 (t : Fin cfg0.N) (y0 : Fin 1) (y1 : Fin 512) (y2 : Fin 128) (z0 : Fin 8) (z1 : Fin 512) (z2 : Fin 128)
    (h0 : z0.val = (grid0.coords t 1).val * 1 + y0.val) (h1 : z1.val = 0 * 512 + y1.val) (h2 : z2.val = 0 * 128 + y2.val) :
    (iblk m c 6 t : FVec Ideal S1x512x128 .bf16) (ix3 y0 y1 y2) = (V m c main_v94 : FVec Ideal S8x512x128 .bf16) (ix3 z0 z1 z2) := by
  have e := index6 t
  blk_simp [iblk]
  refine congrArg (V m c main_v94) (funext fun a => Fin.ext ?_)
  match a with
  | ⟨0, _⟩ => refine (Pipeline.Window.rect_emb_val (cfg0.win 6) t _ ⟨0, by decide⟩).trans ?_; rw [e]; exact h0.symm
  | ⟨1, _⟩ => refine (Pipeline.Window.rect_emb_val (cfg0.win 6) t _ ⟨1, by decide⟩).trans ?_; rw [e]; exact h1.symm
  | ⟨2, _⟩ => refine (Pipeline.Window.rect_emb_val (cfg0.win 6) t _ ⟨2, by decide⟩).trans ?_; rw [e]; exact h2.symm

theorem index7 : ∀ t : Fin cfg0.N, (cfg0.win 7).index t = ![(grid0.coords t 1).val, 0, 0] := by
  decide +kernel

theorem blk7 (t : Fin cfg0.N) (y0 : Fin 1) (y1 : Fin 512) (y2 : Fin 512) (z0 : Fin 8) (z1 : Fin 512) (z2 : Fin 512)
    (h0 : z0.val = (grid0.coords t 1).val * 1 + y0.val) (h1 : z1.val = 0 * 512 + y1.val) (h2 : z2.val = 0 * 512 + y2.val) :
    (iblk m c 7 t : FVec Ideal S1x512x512 .f32) (ix3 y0 y1 y2) = (V m c main_v91 : FVec Ideal S8x512x512 .f32) (ix3 z0 z1 z2) := by
  have e := index7 t
  blk_simp [iblk]
  refine congrArg (V m c main_v91) (funext fun a => Fin.ext ?_)
  match a with
  | ⟨0, _⟩ => refine (Pipeline.Window.rect_emb_val (cfg0.win 7) t _ ⟨0, by decide⟩).trans ?_; rw [e]; exact h0.symm
  | ⟨1, _⟩ => refine (Pipeline.Window.rect_emb_val (cfg0.win 7) t _ ⟨1, by decide⟩).trans ?_; rw [e]; exact h1.symm
  | ⟨2, _⟩ => refine (Pipeline.Window.rect_emb_val (cfg0.win 7) t _ ⟨2, by decide⟩).trans ?_; rw [e]; exact h2.symm

theorem index0 : ∀ t : Fin cfg0.N, (cfg0.win 0).index t = ![0] := by
  decide +kernel

theorem blk0 (t : Fin cfg0.N) (y0 : Fin 8) (z0 : Fin 8)
    (h0 : z0.val = 0 * 8 + y0.val) :
    (iblk m c 0 t : FVec Ideal S8 .f32) (ix1 y0) = (V m c main_v23 : FVec Ideal S8 .f32) (ix1 z0) := by
  have e := index0 t
  blk_simp [iblk]
  refine congrArg (V m c main_v23) (funext fun a => Fin.ext ?_)
  match a with
  | ⟨0, _⟩ => refine (Pipeline.Window.rect_emb_val (cfg0.win 0) t _ ⟨0, by decide⟩).trans ?_; rw [e]; exact h0.symm

theorem index1 : ∀ t : Fin cfg0.N, (cfg0.win 1).index t = ![0] := by
  decide +kernel

theorem blk1 (t : Fin cfg0.N) (y0 : Fin 1) (z0 : Fin 1)
    (h0 : z0.val = 0 * 1 + y0.val) :
    (iblk m c 1 t : FVec Ideal S1 .f32) (ix1 y0) = (V m c main_v92 : FVec Ideal S1 .f32) (ix1 z0) := by
  have e := index1 t
  blk_simp [iblk]
  refine congrArg (V m c main_v92) (funext fun a => Fin.ext ?_)
  match a with
  | ⟨0, _⟩ => refine (Pipeline.Window.rect_emb_val (cfg0.win 1) t _ ⟨0, by decide⟩).trans ?_; rw [e]; exact h0.symm

theorem index8 : ∀ t : Fin cfg0.N, (cfg0.win 8).index t = ![0, 0] := by
  decide +kernel

theorem blk8 (t : Fin cfg0.N) (y0 : Fin 128) (y1 : Fin 1) (z0 : Fin 128) (z1 : Fin 1)
    (h0 : z0.val = 0 * 128 + y0.val) (h1 : z1.val = 0 * 1 + y1.val) :
    (iblk m c 8 t : FVec Ideal S128x1 .f32) (ix2 y0 y1) = (V m c main_v95 : FVec Ideal S128x1 .f32) (ix2 z0 z1) := by
  have e := index8 t
  blk_simp [iblk]
  refine congrArg (V m c main_v95) (funext fun a => Fin.ext ?_)
  match a with
  | ⟨0, _⟩ => refine (Pipeline.Window.rect_emb_val (cfg0.win 8) t _ ⟨0, by decide⟩).trans ?_; rw [e]; exact h0.symm
  | ⟨1, _⟩ => refine (Pipeline.Window.rect_emb_val (cfg0.win 8) t _ ⟨1, by decide⟩).trans ?_; rw [e]; exact h1.symm

theorem index9 : ∀ t : Fin cfg0.N, (cfg0.win 9).index t = ![(grid0.coords t 0).val, (grid0.coords t 2).val, (grid0.coords t 1).val] := by
  decide +kernel

theorem covers9 : (cfg0.win 9).Covers := by decide +kernel
end Cert.Proof
-- ==== Proof.Result.lean ====
/- The array the attention kernel leaves is the reference's result. -/
module

public import proofs.«01_k».proof.Proof.Blocks

@[expose] public section

set_option maxRecDepth 16384

noncomputable section

namespace Cert.Proof

open Cert.KernelIdeal Cert.KernelIdeal.Gen Idealize.ShloMosaic Idealize.ShloMosaic.Pointwise
open Cert.ReferenceIdeal.Read (val_main_v22 val_main_v7 val_main_v76)
open Cert.Proof.Host (arg0 arg1 arg2 arg3 arg4 arg5 arg6 arg7)

variable (m : (ℓ : Loc nD τ sig) → Buf (Elt Ideal) ℓ) (c : Dev nD)

/-- The batch, the head and the query block of a grid point. -/
def batch (t : Fin cfg0.N) : Fin 2 := ⟨(grid0.coords t 0).val, (grid0.coords t 0).isLt⟩
def head (t : Fin cfg0.N) : Fin 8 := ⟨(grid0.coords t 1).val, (grid0.coords t 1).isLt⟩

theorem blk_val (t : Fin cfg0.N) : (blk (grid0.coords t)).val = (grid0.coords t 2).val := rfl

/-- The slope a grid point uses is its head's. -/
theorem slope_at (t : Fin cfg0.N) (x2 : FVec Ideal S128x512 .bf16) (x5 : FVec Ideal S1x128x512 .bf16)
    (x6 : FVec Ideal S1x512x128 .bf16) :
    (pt (F := Ideal) (grid0.coords t) (iblk m c 0 t) x2 x5 x6).v2 = val_main_v22 (F := Ideal) (ix1 (head t)) := by
  have e := k0_off1_eq (grid0.coords t)
  rw [← Host.slopes_apply m c (head t),
    ← blk0 m c t (head t) (head t) (by show (head t).val = 0 * 8 + (head t).val; omega)]
  show (iblk m c 0 t : FVec Ideal S8 .f32) _ = _
  refine congrArg (iblk m c 0 t : FVec Ideal S8 .f32) (funext fun a => Fin.ext ?_)
  match a with
  | ⟨0, _⟩ =>
    show k0_off1 (grid0.coords t) 0 + 1 * 0 = (grid0.coords t 1).val
    rw [e]
    rfl

variable {sl : Fin 8 → ℝ} {Q K V' : Fin 2 → Fin 8192 → Fin 1024 → ℝ} {l : ℝ}
  (hsl : ∀ h, val_main_v22 (F := Ideal) (ix1 h) = (sl h : EReal))
  (hQ : ∀ b q k, arg0 m c (ix3 b q k) = (Q b q k : EReal)) (hK : ∀ b q k, arg1 m c (ix3 b q k) = (K b q k : EReal))
  (hV : ∀ b q k, arg2 m c (ix3 b q k) = (V' b q k : EReal))
  (hl : ∀ j, val_main_v7 (F := Ideal) (arg3 m c) (arg4 m c) (arg5 m c) (arg6 m c) j = (l : EReal))

include hsl hQ hK hV in
/-- The blocks of a grid point as real numbers. -/
theorem reals (t : Fin cfg0.N) :
    Reals (blk (grid0.coords t))
      ((pt (F := Ideal) (grid0.coords t) (iblk m c 0 t) (iblk m c 2 t) (iblk m c 5 t) (iblk m c 6 t)).v2)
      (iblk m c 2 t) (iblk m c 3 t) (iblk m c 4 t) (iblk m c 5 t) (iblk m c 6 t) (iblk m c 7 t) (sl (head t))
      (keysOf K (batch t) (head t)) (valuesOf V' (batch t) (head t)) (queriesOf Q (batch t) (head t) (blk (grid0.coords t)))
      (Host.featQ (sl (head t))) (Host.featK (sl (head t))) where
  slope := by rw [slope_at, hsl]
  queries d q := by
    have hb := (batch t).isLt; have hh := (head t).isLt; have ha := (blk (grid0.coords t)).isLt
    have hd := d.isLt; have hq := q.isLt
    refine (blk2 m c t d q ⟨(head t).val * 128 + d.val, by omega⟩
      ⟨(16 * (batch t).val + (blk (grid0.coords t)).val) * 512 + q.val, by omega⟩ rfl rfl).trans ?_
    rw [Host.queries_apply, Ref.eighth]
    have e1 : (⟨((16 * (batch t).val + (blk (grid0.coords t)).val) * 512 + q.val) / 8192, by omega⟩ : Fin 2) = batch t :=
      Fin.ext (by show ((16 * (batch t).val + (blk (grid0.coords t)).val) * 512 + q.val) / 8192 = (batch t).val; omega)
    have e2 : (⟨((16 * (batch t).val + (blk (grid0.coords t)).val) * 512 + q.val) % 8192, by omega⟩ : Fin 8192)
        = queryAt (blk (grid0.coords t)) q :=
      Fin.ext (by
        show ((16 * (batch t).val + (blk (grid0.coords t)).val) * 512 + q.val) % 8192 = 512 * (blk (grid0.coords t)).val + q.val
        omega)
    refine (congrArg (· * _) ((congrArg₂ (fun b r => arg0 m c (ix3 b r _)) e1 e2).trans (hQ _ _ _))).trans ?_
    exact (EReal.coe_mul _ _).symm
  keys j r d := by
    have hh := (head t).isLt; have hd := d.isLt
    refine (blk3 m c t 0 (key j r) d (batch t) (key j r) ⟨(head t).val * 128 + d.val, by omega⟩
      (by show (batch t).val = (batch t).val * 1 + 0; omega) (by omega) rfl).trans ?_
    rw [Host.keys_apply]
    exact hK _ _ _
  values d j r := by
    have hb := (batch t).isLt; have hh := (head t).isLt; have hd := d.isLt; have hk := (key j r).isLt
    refine (blk4 m c t d (key j r) ⟨(head t).val * 128 + d.val, by omega⟩
      ⟨(batch t).val * 8192 + (key j r).val, by omega⟩ rfl rfl).trans ?_
    rw [Host.values_apply]
    have e1 : (⟨((batch t).val * 8192 + (key j r).val) / 8192, by omega⟩ : Fin 2) = batch t :=
      Fin.ext (by show ((batch t).val * 8192 + (key j r).val) / 8192 = (batch t).val; omega)
    have e2 : (⟨((batch t).val * 8192 + (key j r).val) % 8192, by omega⟩ : Fin 8192) = key j r :=
      Fin.ext (by show ((batch t).val * 8192 + (key j r).val) % 8192 = (key j r).val; omega)
    exact (congrArg₂ (fun b r => arg2 m c (ix3 b r _)) e1 e2).trans (hV _ _ _)
  featQ d q := (blk5 m c t 0 d q (head t) d q (by show (head t).val = (head t).val * 1 + 0; omega) (by omega) (by omega)).trans
    (Host.featQ_apply m c (head t) d q _ (hsl _))
  featK r d := (blk6 m c t 0 r d (head t) r d (by show (head t).val = (head t).val * 1 + 0; omega) (by omega) (by omega)).trans
    (Host.featK_apply m c (head t) r d _ (hsl _))
  feat r q := Host.feat_sum _ _ _
  bias r q := by
    refine (blk7 m c t 0 r q (head t) r q (by show (head t).val = (head t).val * 1 + 0; omega) (by omega) (by omega)).trans ?_
    rw [Host.bias_apply m c (head t) r q _ (hsl _), abs_sub_comm]

include hsl hQ hK hV hl in
/-- What a grid point writes. -/
theorem point_apply (t : Fin cfg0.N) (q : Fin 512) (d : Fin 128) :
    outsAt0 m c t (ix3 0 q d)
      = val_main_v76 (F := Ideal) (arg0 m c) (arg1 m c) (arg2 m c) (arg3 m c) (arg4 m c) (arg5 m c) (arg6 m c) (arg7 m c)
          (ix3 (batch t) (queryAt (blk (grid0.coords t)) q) ⟨(head t).val * 128 + d.val, by omega⟩) := by
  unfold outsAt0
  rw [out_eq]
  have h1 : ∀ j, (iblk m c 1 t : FVec Ideal S1 .f32) j = (l : EReal) := fun j => by
    rw [ValueIdx.eq_ix1 j]
    exact (blk1 m c t (j 0) (j 0) (by omega)).trans ((Host.lam_apply m c (j 0)).trans (hl _))
  refine (outBlock_apply (reals m c hsl hQ hK hV t) h1 q d).trans ?_
  rw [Ref.result_apply]
  refine congrArg₂ (fun D g => Ref.normed D g d) (funext fun d => ?_) ?_
  · exact (Ref.mixed_apply _ _ _ _ hsl hQ hK hV hl _ _ _ _).symm
  · exact (blk8 m c t d 0 d 0 (by omega) (by omega)).trans (Host.gain_apply m c d 0)

include hsl hQ hK hV hl in
/-- The array the grid points leave. -/
theorem final : (dats m 0 c).arrAt 9 cfg0.N
    = val_main_v76 (F := Ideal) (arg0 m c) (arg1 m c) (arg2 m c) (arg3 m c) (arg4 m c) (arg5 m c) (arg6 m c) (arg7 m c) := by
  refine (dats m 0 c).arrAt_eq_of_covers 9 _ covers9 fun t hf y => ?_
  blk_simp
  rw [after0_9]
  have ey : (y : S1x512x128.Idx) = ix3 0 (y 1) (y 2) :=
    (ValueIdx.eq_ix3 _).trans (congrArg (fun z => ix3 z _ _) (Subsingleton.elim (α := Fin 1) _ _))
  refine (congrArg (outsAt0 m c t) ey).trans ((point_apply m c hsl hQ hK hV hl t _ _).trans ?_)
  have e := index9 t
  refine congrArg _ (funext fun a => Fin.ext ?_)
  match a with
  | ⟨0, _⟩ =>
    refine Eq.symm ((Pipeline.Window.rect_emb_val (cfg0.win 9) t y ⟨0, by decide⟩).trans ?_)
    rw [e]
    have h0 : (y 0).val < 1 := (y 0).isLt
    show (batch t).val * 1 + (y 0).val = (batch t).val
    omega
  | ⟨1, _⟩ =>
    refine Eq.symm ((Pipeline.Window.rect_emb_val (cfg0.win 9) t y ⟨1, by decide⟩).trans ?_)
    rw [e]
    show (blk (grid0.coords t)).val * 512 + (y 1).val = 512 * (blk (grid0.coords t)).val + (y 1).val
    omega
  | ⟨2, _⟩ =>
    refine Eq.symm ((Pipeline.Window.rect_emb_val (cfg0.win 9) t y ⟨2, by decide⟩).trans ?_)
    rw [e]
    rfl

end Cert.Proof
-- ==== Proof.Claims.lean ====
/- The claims about the attention kernel, each from the modules before this one. -/
module

public import proofs.«01_k».proof.Proof.Finite
public import proofs.«01_k».proof.Proof.Result
public import proofs.«01_k».proof.Proof.Gen.ReferenceIdeal.Run
public import Idealize.ShloMosaic.Lib.Claim

@[expose] public section

set_option maxRecDepth 16384

noncomputable section

namespace Cert.Proof.Claims

open Idealize.ShloMosaic Idealize.SL.Sem Idealize.ShloMosaic.Pointwise
open Cert.ReferenceIdeal.Read (val_main_v76)
open Cert.Proof.Host (arg0 arg1 arg2 arg3 arg4 arg5 arg6 arg7)

instance shapes : Cert.Pre_finite_inputs.Facts := Cert.Proof.Finite.shapes

/-- On arguments that are real numbers, the array the kernel leaves is the reference's. -/
theorem result (m : (ℓ : Loc Cert.KernelIdeal.nD Cert.KernelIdeal.τ Cert.KernelIdeal.sig) → Buf (Elt Ideal) ℓ)
    (hpre : Cert.Pre_KernelIdeal_finite_inputs m) (c : Dev Cert.KernelIdeal.nD) :
    (Cert.KernelIdeal.Gen.dats m 0 c).arrAt 9 Cert.KernelIdeal.cfg0.N
      = val_main_v76 (F := Ideal) (arg0 m c) (arg1 m c) (arg2 m c) (arg3 m c) (arg4 m c) (arg5 m c) (arg6 m c) (arg7 m c) := by
  obtain ⟨h0, h1, h2, h3, h4, h5, h6⟩ := Cert.Proof.Finite.reals_of_pre _ _ _ _ _ _ _ _ (hpre c)
  choose Q hQ using h0
  choose K hK using h1
  choose V hV using h2
  choose a3 h3 using h3
  choose a4 h4 using h4
  choose a5 h5 using h5
  choose a6 h6 using h6
  obtain ⟨sl, hsl⟩ := Cert.Proof.Ref.slopes_real
  obtain ⟨l, hl⟩ := Cert.Proof.Ref.lam_real (arg3 m c) (arg4 m c) (arg5 m c) (arg6 m c) (fun k => a3 (ix1 k)) (fun k => a4 (ix1 k))
    (fun k => a5 (ix1 k)) (fun k => a6 (ix1 k)) (fun k => h3 _) (fun k => h4 _) (fun k => h5 _) (fun k => h6 _)
  exact Cert.Proof.final m c (Q := fun b q k => Q (ix3 b q k)) (K := fun b q k => K (ix3 b q k)) (V' := fun b q k => V (ix3 b q k))
    hsl (fun b q k => hQ _) (fun b q k => hK _) (fun b q k => hV _) hl

/-- The reference ends with its arguments unchanged and, having no semaphore, with every counter at zero. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- In exact arithmetic, on real arguments, the kernel's result array is the reference's. -/
theorem algebraic : Cert.algebraic_KernelIdeal_ReferenceIdeal_pre_finite_inputs := by
  pair_intro
  · run_from Cert.KernelIdeal.Value.run_blocks m g
  · run_from Cert.ReferenceIdeal.Value.run m' g'
    rw [result m hpre c]
    obtain ⟨e0, e1, e2, e3, e4, e5, e6, e7⟩ := hagree c
    refine (Cert.ReferenceIdeal.Read.val_main_v76_eq m' c).trans ?_
    unfold arg0 arg1 arg2 arg3 arg4 arg5 arg6 arg7
    rw [e0, e1, e2, e3, e4, e5, e6, e7]

end Cert.Proof.Claims

end
-- ==== Proof.ProjOdd.lean ====
/- The odd layer's input projection: each block the kernel writes is the reference's. -/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.StableHlo.ReadAt
public import Idealize.ShloMosaic.Lib.Pipeline.ValueKit
public import Idealize.ShloMosaic.Lib.Claim

@[expose] public section

set_option maxRecDepth 16384

noncomputable section

namespace Cert.Proof.ProjOdd

open Cert.Kernel2Ideal Cert.Kernel2Ideal.Gen Idealize.ShloMosaic Idealize.ShloMosaic.Pointwise Idealize.SL.Sem
open Cert.Reference2Ideal.Read

variable (m : (ℓ : Loc nD τ sig) → Buf (Elt Ideal) ℓ) (c : Dev nD)

/-- The activations and the weights. -/
abbrev arg0 : FVec Ideal S2x8192x2048 .f32 := m ((c.tc : Thread nD τ).loc main_arg0)
abbrev arg1 : FVec Ideal S1x2048x4096 .f32 := m ((c.tc : Thread nD τ).loc main_arg1)

/-- The activations handed to the kernel, one row for each position of each sequence. -/
theorem rows_apply (r : Fin 16384) (k : Fin 2048) :
    (V (F := Ideal) m c main_v1 : FVec Ideal S16384x2048 .bf16) (ix2 r k)
      = arg0 m c (ix3 ⟨r.val / 8192, by omega⟩ ⟨r.val % 8192, by omega⟩ k) := by
  unfold V
  after_reads_at

/-- The weights handed to the kernel. -/
theorem weights_apply (k : Fin 2048) (f : Fin 4096) :
    (V (F := Ideal) m c main_v2 : FVec Ideal S2048x4096 .f32) (ix2 k f) = arg1 m c (ix3 0 k f) := by
  unfold V
  after_reads_at

/-- A block of the product. -/
theorem pay_apply (x : FVec Ideal S1024x2048 .bf16) (w : FVec Ideal S2048x2048 .f32) (a : Fin 1024) (b : Fin 2048) :
    k0_pay1 (F := Ideal) x w (ix2 a b) = ∑ k : Fin 2048, x (ix2 a k) * w (ix2 k b) := by
  pointwise [k0_pay1]

theorem index_rows : ∀ t : Fin cfg0.N, (cfg0.win 0).index t = ![(grid0.coords t 1).val, 0] := by
  decide +kernel

theorem index_weights : ∀ t : Fin cfg0.N, (cfg0.win 1).index t = ![0, 0 + (grid0.coords t 0).val] := by
  decide +kernel

theorem index_out : ∀ t : Fin cfg0.N, (cfg0.win 2).index t = ![(grid0.coords t 1).val, (grid0.coords t 0).val] := by
  decide +kernel

theorem covers : (cfg0.win 2).Covers := by decide +kernel

/-- The rows a grid point reads. -/
theorem blk_rows (t : Fin cfg0.N) (a : Fin 1024) (k : Fin 2048) (r : Fin 16384) (h : r.val = (grid0.coords t 1).val * 1024 + a.val) :
    (iblk m c 0 t : FVec Ideal S1024x2048 .bf16) (ix2 a k)
      = arg0 m c (ix3 ⟨r.val / 8192, by omega⟩ ⟨r.val % 8192, by omega⟩ k) := by
  rw [← rows_apply]
  have e := index_rows t
  blk_simp [iblk]
  refine congrArg (V m c main_v1) (funext fun z => Fin.ext ?_)
  match z with
  | ⟨0, _⟩ => refine (Pipeline.Window.rect_emb_val (cfg0.win 0) t _ ⟨0, by decide⟩).trans ?_; rw [e]; exact h.symm
  | ⟨1, _⟩ =>
    refine (Pipeline.Window.rect_emb_val (cfg0.win 0) t _ ⟨1, by decide⟩).trans ?_
    rw [e]
    show 0 * 2048 + k.val = k.val
    omega

/-- The columns of the weights a grid point reads. -/
theorem blk_weights (t : Fin cfg0.N) (k : Fin 2048) (b : Fin 2048) (f : Fin 4096)
    (h : f.val = (0 + (grid0.coords t 0).val) * 2048 + b.val) :
    (iblk m c 1 t : FVec Ideal S2048x2048 .f32) (ix2 k b) = arg1 m c (ix3 0 k f) := by
  rw [← weights_apply]
  have e := index_weights t
  blk_simp [iblk]
  refine congrArg (V m c main_v2) (funext fun z => Fin.ext ?_)
  match z with
  | ⟨0, _⟩ =>
    refine (Pipeline.Window.rect_emb_val (cfg0.win 1) t _ ⟨0, by decide⟩).trans ?_
    rw [e]
    show 0 * 2048 + k.val = k.val
    omega
  | ⟨1, _⟩ => refine (Pipeline.Window.rect_emb_val (cfg0.win 1) t _ ⟨1, by decide⟩).trans ?_; rw [e]; exact h.symm

/-- The reference at an index. -/
theorem ref_apply (x : FVec Ideal S2x8192x2048 .f32) (w : FVec Ideal S1x2048x4096 .f32) (r : Fin 16384) (f : Fin 4096) :
    val_main_v3 (F := Ideal) x w (ix2 r f)
      = ∑ k : Fin 2048, x (ix3 ⟨r.val / 8192, by omega⟩ ⟨r.val % 8192, by omega⟩ k) * w (ix3 0 k f) := by
  rw [val_main_v3_apply, val_main_v2_apply, val_main_v1_apply]
  refine Finset.sum_congr rfl fun k _ => ?_
  rw [val_main_v0_apply]
  refine congrArg₂ (· * ·) (congrArg x (funext fun z => Fin.ext ?_)) (congrArg w (funext fun z => Fin.ext ?_))
  · match z with
    | ⟨0, _⟩ =>
      show (r.val * 4096 + f.val) / 33554432 = r.val / 8192
      omega
    | ⟨1, _⟩ =>
      show (r.val * 4096 + f.val) / 4096 % 8192 = r.val % 8192
      omega
    | ⟨2, _⟩ => rfl
  · match z with
    | ⟨0, _⟩ => rfl
    | ⟨1, _⟩ =>
      show (k.val * 4096 + ((r.val * 4096 + f.val) % 4096)) / 4096 % 2048 = k.val
      omega
    | ⟨2, _⟩ =>
      show (k.val * 4096 + ((r.val * 4096 + f.val) % 4096)) % 4096 = f.val
      omega

/-- The array the grid points leave. -/
theorem final : (dats m 0 c).arrAt 2 cfg0.N = val_main_v3 (F := Ideal) (arg0 m c) (arg1 m c) := by
  refine (dats m 0 c).arrAt_eq_of_covers 2 _ covers fun t hf y => ?_
  blk_simp
  rw [after0_2]
  frame_out
  have hb : (grid0.coords t 0).val < 2 := (grid0.coords t 0).isLt
  have hr : (grid0.coords t 1).val < 16 := (grid0.coords t 1).isLt
  have h0 : (y 0).val < 1024 := (y 0).isLt
  have h1 : (y 1).val < 2048 := (y 1).isLt
  let r : Fin 16384 := ⟨(grid0.coords t 1).val * 1024 + (y 0).val, by omega⟩
  let f : Fin 4096 := ⟨(grid0.coords t 0).val * 2048 + (y 1).val, by omega⟩
  have ey : (y : S1024x2048.Idx) = ix2 (y 0) (y 1) := ValueIdx.eq_ix2 _
  have ez : ((View.whole main_v3).slice (win0_2.rect t)).emb y = ix2 r f := by
    have e := index_out t
    refine funext fun z => Fin.ext ?_
    match z with
    | ⟨0, _⟩ => refine (Pipeline.Window.rect_emb_val (cfg0.win 2) t y ⟨0, by decide⟩).trans ?_; rw [e]; rfl
    | ⟨1, _⟩ => refine (Pipeline.Window.rect_emb_val (cfg0.win 2) t y ⟨1, by decide⟩).trans ?_; rw [e]; rfl
  rw [ez, ref_apply]
  refine (congrArg _ ey).trans ((pay_apply _ _ _ _).trans ?_)
  exact Finset.sum_congr rfl fun k _ => congrArg₂ (· * ·) (blk_rows m c t _ k r rfl) (blk_weights m c t k _ _ (by show ((grid0.coords t 0).val * 2048 + (y 1).val) = (0 + (grid0.coords t 0).val) * 2048 + (y 1).val; omega))

theorem frame_ri : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- In exact arithmetic the kernel's result array is the reference's. -/
theorem algebraic : Cert.algebraic_Kernel2Ideal_Reference2Ideal := by
  pair_intro
  · run_from Cert.Kernel2Ideal.Value.run_blocks m g
  · run_from Cert.Reference2Ideal.Value.run m' g'
    rw [final m c]
    exact val_main_v3_eq _ _

end Cert.Proof.ProjOdd

end
-- ==== Proof.ProjHyena.lean ====
/- The even layer's projection to the Hyena channels, transposed: each block the kernel writes is the reference's. -/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.StableHlo.ReadAt
public import Idealize.ShloMosaic.Lib.Pipeline.ValueKit
public import Idealize.ShloMosaic.Lib.Claim

@[expose] public section

set_option maxRecDepth 16384

noncomputable section

namespace Cert.Proof.ProjHyena

open Cert.Kernel3Ideal Cert.Kernel3Ideal.Gen Idealize.ShloMosaic Idealize.ShloMosaic.Pointwise Idealize.SL.Sem
open Cert.Reference3Ideal.Read

variable (m : (ℓ : Loc nD τ sig) → Buf (Elt Ideal) ℓ) (c : Dev nD)

/-- The activations and the weights. -/
abbrev arg0 : FVec Ideal S2x8192x2048 .f32 := m ((c.tc : Thread nD τ).loc main_arg0)
abbrev arg1 : FVec Ideal S1x2048x6144 .f32 := m ((c.tc : Thread nD τ).loc main_arg1)

/-- The activations handed to the kernel, one row for each position of each sequence. -/
theorem rows_apply (r : Fin 16384) (k : Fin 2048) :
    (V (F := Ideal) m c main_v1 : FVec Ideal S16384x2048 .bf16) (ix2 r k)
      = arg0 m c (ix3 ⟨r.val / 8192, by omega⟩ ⟨r.val % 8192, by omega⟩ k) := by
  unfold V
  after_reads_at

/-- The weights handed to the kernel. -/
theorem weights_apply (k : Fin 2048) (f : Fin 6144) :
    (V (F := Ideal) m c main_v2 : FVec Ideal S2048x6144 .f32) (ix2 k f) = arg1 m c (ix3 0 k f) := by
  unfold V
  after_reads_at

/-- A block of the product. -/
theorem pay_apply (x : FVec Ideal S1024x2048 .bf16) (w : FVec Ideal S2048x1024 .f32) (a : Fin 1024) (b : Fin 1024) :
    k0_pay1 (F := Ideal) w x (ix2 b a) = ∑ k : Fin 2048, w (ix2 k b) * x (ix2 a k) := by
  pointwise [k0_pay1]

theorem index_rows : ∀ t : Fin cfg0.N, (cfg0.win 1).index t = ![(grid0.coords t 1).val, 0] := by
  decide +kernel

theorem index_weights : ∀ t : Fin cfg0.N, (cfg0.win 0).index t = ![0, 0 + (grid0.coords t 0).val] := by
  decide +kernel

theorem index_out : ∀ t : Fin cfg0.N, (cfg0.win 2).index t = ![(grid0.coords t 0).val, (grid0.coords t 1).val] := by
  decide +kernel

theorem covers : (cfg0.win 2).Covers := by decide +kernel

/-- The rows a grid point reads. -/
theorem blk_rows (t : Fin cfg0.N) (a : Fin 1024) (k : Fin 2048) (r : Fin 16384) (h : r.val = (grid0.coords t 1).val * 1024 + a.val) :
    (iblk m c 1 t : FVec Ideal S1024x2048 .bf16) (ix2 a k)
      = arg0 m c (ix3 ⟨r.val / 8192, by omega⟩ ⟨r.val % 8192, by omega⟩ k) := by
  rw [← rows_apply]
  have e := index_rows t
  blk_simp [iblk]
  refine congrArg (V m c main_v1) (funext fun z => Fin.ext ?_)
  match z with
  | ⟨0, _⟩ => refine (Pipeline.Window.rect_emb_val (cfg0.win 1) t _ ⟨0, by decide⟩).trans ?_; rw [e]; exact h.symm
  | ⟨1, _⟩ =>
    refine (Pipeline.Window.rect_emb_val (cfg0.win 1) t _ ⟨1, by decide⟩).trans ?_
    rw [e]
    show 0 * 2048 + k.val = k.val
    omega

/-- The columns of the weights a grid point reads. -/
theorem blk_weights (t : Fin cfg0.N) (k : Fin 2048) (b : Fin 1024) (f : Fin 6144)
    (h : f.val = (0 + (grid0.coords t 0).val) * 1024 + b.val) :
    (iblk m c 0 t : FVec Ideal S2048x1024 .f32) (ix2 k b) = arg1 m c (ix3 0 k f) := by
  rw [← weights_apply]
  have e := index_weights t
  blk_simp [iblk]
  refine congrArg (V m c main_v2) (funext fun z => Fin.ext ?_)
  match z with
  | ⟨0, _⟩ =>
    refine (Pipeline.Window.rect_emb_val (cfg0.win 0) t _ ⟨0, by decide⟩).trans ?_
    rw [e]
    show 0 * 2048 + k.val = k.val
    omega
  | ⟨1, _⟩ => refine (Pipeline.Window.rect_emb_val (cfg0.win 0) t _ ⟨1, by decide⟩).trans ?_; rw [e]; exact h.symm

/-- The reference at an index. -/
theorem ref_apply (x : FVec Ideal S2x8192x2048 .f32) (w : FVec Ideal S1x2048x6144 .f32) (r : Fin 16384) (f : Fin 3072) :
    val_main_v4 (F := Ideal) x w (ix2 f r)
      = ∑ k : Fin 2048, x (ix3 ⟨r.val / 8192, by omega⟩ ⟨r.val % 8192, by omega⟩ k) * w (ix3 0 k ⟨f.val, by omega⟩) := by
  rw [val_main_v4_apply, val_main_v3_apply, val_main_v2_apply, val_main_v1_apply]
  refine Finset.sum_congr rfl fun k _ => ?_
  rw [val_main_v0_apply]
  refine congrArg₂ (· * ·) (congrArg x (funext fun z => Fin.ext ?_)) (congrArg w (funext fun z => Fin.ext ?_))
  · match z with
    | ⟨0, _⟩ =>
      show (r.val * 3072 + f.val) / 25165824 = r.val / 8192
      omega
    | ⟨1, _⟩ =>
      show (r.val * 3072 + f.val) / 3072 % 8192 = r.val % 8192
      omega
    | ⟨2, _⟩ => rfl
  · match z with
    | ⟨0, _⟩ => rfl
    | ⟨1, _⟩ =>
      show (k.val * 6144 + ((r.val * 3072 + f.val) % 3072)) / 6144 % 2048 = k.val
      omega
    | ⟨2, _⟩ =>
      show (k.val * 6144 + ((r.val * 3072 + f.val) % 3072)) % 6144 = f.val
      omega

/-- The array the grid points leave. -/
theorem final : (dats m 0 c).arrAt 2 cfg0.N = val_main_v4 (F := Ideal) (arg0 m c) (arg1 m c) := by
  refine (dats m 0 c).arrAt_eq_of_covers 2 _ covers fun t hf y => ?_
  blk_simp
  rw [after0_2]
  frame_out
  have hb : (grid0.coords t 0).val < 3 := (grid0.coords t 0).isLt
  have hr : (grid0.coords t 1).val < 16 := (grid0.coords t 1).isLt
  have h0 : (y 1).val < 1024 := (y 1).isLt
  have h1 : (y 0).val < 1024 := (y 0).isLt
  let r : Fin 16384 := ⟨(grid0.coords t 1).val * 1024 + (y 1).val, by omega⟩
  let f : Fin 3072 := ⟨(grid0.coords t 0).val * 1024 + (y 0).val, by omega⟩
  have ey : (y : S1024x1024.Idx) = ix2 (y 0) (y 1) := ValueIdx.eq_ix2 _
  have ez : ((View.whole main_v3).slice (win0_2.rect t)).emb y = ix2 f r := by
    have e := index_out t
    refine funext fun z => Fin.ext ?_
    match z with
    | ⟨0, _⟩ => refine (Pipeline.Window.rect_emb_val (cfg0.win 2) t y ⟨0, by decide⟩).trans ?_; rw [e]; rfl
    | ⟨1, _⟩ => refine (Pipeline.Window.rect_emb_val (cfg0.win 2) t y ⟨1, by decide⟩).trans ?_; rw [e]; rfl
  rw [ez, ref_apply]
  refine (congrArg _ ey).trans ((pay_apply _ _ _ _).trans ?_)
  exact Finset.sum_congr rfl fun k _ => (congrArg₂ (fun a b : EReal => a * b) (blk_weights m c t k _ _ (by show ((grid0.coords t 0).val * 1024 + (y 0).val) = (0 + (grid0.coords t 0).val) * 1024 + (y 0).val; omega)) (blk_rows m c t _ k r rfl)).trans (mul_comm _ _)

theorem frame_ri : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- In exact arithmetic the kernel's result array is the reference's. -/
theorem algebraic : Cert.algebraic_Kernel3Ideal_Reference3Ideal := by
  pair_intro
  · run_from Cert.Kernel3Ideal.Value.run_blocks m g
  · run_from Cert.Reference3Ideal.Value.run m' g'
    rw [final m c]
    exact val_main_v4_eq _ _

end Cert.Proof.ProjHyena

end
-- ==== Proof.ProjQueries.lean ====
/- The even layer's projection to the queries, transposed: each block the kernel writes is the reference's. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.StableHlo.ReadAt
public import Idealize.ShloMosaic.Lib.Pipeline.ValueKit
public import Idealize.ShloMosaic.Lib.Claim

@[expose] public section

set_option maxRecDepth 16384

noncomputable section

namespace Cert.Proof.ProjQueries

open Cert.Kernel4Ideal Cert.Kernel4Ideal.Gen Idealize.ShloMosaic Idealize.ShloMosaic.Pointwise Idealize.SL.Sem
open Cert.Reference4Ideal.Read

variable (m : (ℓ : Loc nD τ sig) → Buf (Elt Ideal) ℓ) (c : Dev nD)

/-- The activations and the weights. -/
abbrev arg0 : FVec Ideal S2x8192x2048 .f32 := m ((c.tc : Thread nD τ).loc main_arg0)
abbrev arg1 : FVec Ideal S1x2048x6144 .f32 := m ((c.tc : Thread nD τ).loc main_arg1)

/-- The activations handed to the kernel, one row for each position of each sequence. -/
theorem rows_apply (r : Fin 16384) (k : Fin 2048) :
    (V (F := Ideal) m c main_v1 : FVec Ideal S16384x2048 .bf16) (ix2 r k)
      = arg0 m c (ix3 ⟨r.val / 8192, by omega⟩ ⟨r.val % 8192, by omega⟩ k) := by
  unfold V
  after_reads_at

/-- The weights handed to the kernel. -/
theorem weights_apply (k : Fin 2048) (f : Fin 6144) :
    (V (F := Ideal) m c main_v2 : FVec Ideal S2048x6144 .f32) (ix2 k f) = arg1 m c (ix3 0 k f) := by
  unfold V
  after_reads_at

/-- A block of the product. -/
theorem pay_apply (x : FVec Ideal S1024x2048 .bf16) (w : FVec Ideal S2048x1024 .f32) (a : Fin 1024) (b : Fin 1024) :
    k0_pay1 (F := Ideal) w x (ix2 b a) = (∑ k : Fin 2048, w (ix2 k b) * x (ix2 a k)) * Ideal.ofBits .f32 0x3E000000#32 := by
  pointwise [k0_pay1]

theorem index_rows : ∀ t : Fin cfg0.N, (cfg0.win 1).index t = ![(grid0.coords t 1).val, 0] := by
  decide +kernel

theorem index_weights : ∀ t : Fin cfg0.N, (cfg0.win 0).index t = ![0, 3 + (grid0.coords t 0).val] := by
  decide +kernel

theorem index_out : ∀ t : Fin cfg0.N, (cfg0.win 2).index t = ![(grid0.coords t 0).val, (grid0.coords t 1).val] := by
  decide +kernel

theorem covers : (cfg0.win 2).Covers := by decide +kernel

/-- The rows a grid point reads. -/
theorem blk_rows (t : Fin cfg0.N) (a : Fin 1024) (k : Fin 2048) (r : Fin 16384) (h : r.val = (grid0.coords t 1).val * 1024 + a.val) :
    (iblk m c 1 t : FVec Ideal S1024x2048 .bf16) (ix2 a k)
      = arg0 m c (ix3 ⟨r.val / 8192, by omega⟩ ⟨r.val % 8192, by omega⟩ k) := by
  rw [← rows_apply]
  have e := index_rows t
  blk_simp [iblk]
  refine congrArg (V m c main_v1) (funext fun z => Fin.ext ?_)
  match z with
  | ⟨0, _⟩ => refine (Pipeline.Window.rect_emb_val (cfg0.win 1) t _ ⟨0, by decide⟩).trans ?_; rw [e]; exact h.symm
  | ⟨1, _⟩ =>
    refine (Pipeline.Window.rect_emb_val (cfg0.win 1) t _ ⟨1, by decide⟩).trans ?_
    rw [e]
    show 0 * 2048 + k.val = k.val
    omega

/-- The columns of the weights a grid point reads. -/
theorem blk_weights (t : Fin cfg0.N) (k : Fin 2048) (b : Fin 1024) (f : Fin 6144)
    (h : f.val = (3 + (grid0.coords t 0).val) * 1024 + b.val) :
    (iblk m c 0 t : FVec Ideal S2048x1024 .f32) (ix2 k b) = arg1 m c (ix3 0 k f) := by
  rw [← weights_apply]
  have e := index_weights t
  blk_simp [iblk]
  refine congrArg (V m c main_v2) (funext fun z => Fin.ext ?_)
  match z with
  | ⟨0, _⟩ =>
    refine (Pipeline.Window.rect_emb_val (cfg0.win 0) t _ ⟨0, by decide⟩).trans ?_
    rw [e]
    show 0 * 2048 + k.val = k.val
    omega
  | ⟨1, _⟩ => refine (Pipeline.Window.rect_emb_val (cfg0.win 0) t _ ⟨1, by decide⟩).trans ?_; rw [e]; exact h.symm

/-- The reference at an index. -/
theorem ref_apply (x : FVec Ideal S2x8192x2048 .f32) (w : FVec Ideal S1x2048x6144 .f32) (r : Fin 16384) (f : Fin 1024) :
    val_main_v7 (F := Ideal) x w (ix2 f r)
      = (∑ k : Fin 2048, x (ix3 ⟨r.val / 8192, by omega⟩ ⟨r.val % 8192, by omega⟩ k) * w (ix3 0 k ⟨3072 + f.val, by omega⟩)) * Ideal.ofBits .f32 0x3E000000#32 := by
  rw [val_main_v7_apply, val_main_v6_apply, val_main_v5_apply, val_main_v4_apply, val_main_v2_apply, val_main_v3_apply, val_main_cst_apply, val_main_v1_apply]
  refine congrArg (· * Ideal.ofBits .f32 0x3E000000#32) (Finset.sum_congr rfl fun k _ => ?_)
  rw [val_main_v0_apply]
  refine congrArg₂ (· * ·) (congrArg x (funext fun z => Fin.ext ?_)) (congrArg w (funext fun z => Fin.ext ?_))
  · match z with
    | ⟨0, _⟩ =>
      show (r.val * 1024 + f.val) / 8388608 = r.val / 8192
      omega
    | ⟨1, _⟩ =>
      show (r.val * 1024 + f.val) / 1024 % 8192 = r.val % 8192
      omega
    | ⟨2, _⟩ => rfl
  · match z with
    | ⟨0, _⟩ => rfl
    | ⟨1, _⟩ =>
      show (k.val * 6144 + (3072 + (r.val * 1024 + f.val) % 1024)) / 6144 % 2048 = k.val
      omega
    | ⟨2, _⟩ =>
      show (k.val * 6144 + (3072 + (r.val * 1024 + f.val) % 1024)) % 6144 = 3072 + f.val
      omega

/-- The array the grid points leave. -/
theorem final : (dats m 0 c).arrAt 2 cfg0.N = val_main_v7 (F := Ideal) (arg0 m c) (arg1 m c) := by
  refine (dats m 0 c).arrAt_eq_of_covers 2 _ covers fun t hf y => ?_
  blk_simp
  rw [after0_2]
  frame_out
  have hb : (grid0.coords t 0).val < 1 := (grid0.coords t 0).isLt
  have hr : (grid0.coords t 1).val < 16 := (grid0.coords t 1).isLt
  have h0 : (y 1).val < 1024 := (y 1).isLt
  have h1 : (y 0).val < 1024 := (y 0).isLt
  let r : Fin 16384 := ⟨(grid0.coords t 1).val * 1024 + (y 1).val, by omega⟩
  let f : Fin 1024 := ⟨(grid0.coords t 0).val * 1024 + (y 0).val, by omega⟩
  have ey : (y : S1024x1024.Idx) = ix2 (y 0) (y 1) := ValueIdx.eq_ix2 _
  have ez : ((View.whole main_v3).slice (win0_2.rect t)).emb y = ix2 f r := by
    have e := index_out t
    refine funext fun z => Fin.ext ?_
    match z with
    | ⟨0, _⟩ => refine (Pipeline.Window.rect_emb_val (cfg0.win 2) t y ⟨0, by decide⟩).trans ?_; rw [e]; rfl
    | ⟨1, _⟩ => refine (Pipeline.Window.rect_emb_val (cfg0.win 2) t y ⟨1, by decide⟩).trans ?_; rw [e]; rfl
  rw [ez, ref_apply]
  refine (congrArg _ ey).trans ((pay_apply _ _ _ _).trans ?_)
  exact congrArg (· * Ideal.ofBits .f32 0x3E000000#32) (Finset.sum_congr rfl fun k _ => (congrArg₂ (fun a b : EReal => a * b) (blk_weights m c t k _ _ (by show 3072 + ((grid0.coords t 0).val * 1024 + (y 0).val) = (3 + (grid0.coords t 0).val) * 1024 + (y 0).val; omega)) (blk_rows m c t _ k r rfl)).trans (mul_comm _ _))

theorem frame_ri : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- In exact arithmetic the kernel's result array is the reference's. -/
theorem algebraic : Cert.algebraic_Kernel4Ideal_Reference4Ideal := by
  pair_intro
  · run_from Cert.Kernel4Ideal.Value.run_blocks m g
  · run_from Cert.Reference4Ideal.Value.run m' g'
    rw [final m c]
    exact val_main_v7_eq _ _

end Cert.Proof.ProjQueries

end
-- ==== Proof.ProjKeys.lean ====
/- The even layer's projection to the keys: each block the kernel writes is the reference's. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.StableHlo.ReadAt
public import Idealize.ShloMosaic.Lib.Pipeline.ValueKit
public import Idealize.ShloMosaic.Lib.Claim

@[expose] public section

set_option maxRecDepth 16384

noncomputable section

namespace Cert.Proof.ProjKeys

open Cert.Kernel5Ideal Cert.Kernel5Ideal.Gen Idealize.ShloMosaic Idealize.ShloMosaic.Pointwise Idealize.SL.Sem
open Cert.Reference5Ideal.Read

variable (m : (ℓ : Loc nD τ sig) → Buf (Elt Ideal) ℓ) (c : Dev nD)

/-- The activations and the weights. -/
abbrev arg0 : FVec Ideal S2x8192x2048 .f32 := m ((c.tc : Thread nD τ).loc main_arg0)
abbrev arg1 : FVec Ideal S1x2048x6144 .f32 := m ((c.tc : Thread nD τ).loc main_arg1)

/-- The activations handed to the kernel, one row for each position of each sequence. -/
theorem rows_apply (r : Fin 16384) (k : Fin 2048) :
    (V (F := Ideal) m c main_v1 : FVec Ideal S16384x2048 .bf16) (ix2 r k)
      = arg0 m c (ix3 ⟨r.val / 8192, by omega⟩ ⟨r.val % 8192, by omega⟩ k) := by
  unfold V
  after_reads_at

/-- The weights handed to the kernel. -/
theorem weights_apply (k : Fin 2048) (f : Fin 6144) :
    (V (F := Ideal) m c main_v2 : FVec Ideal S2048x6144 .f32) (ix2 k f) = arg1 m c (ix3 0 k f) := by
  unfold V
  after_reads_at

/-- A block of the product. -/
theorem pay_apply (x : FVec Ideal S1024x2048 .bf16) (w : FVec Ideal S2048x1024 .f32) (a : Fin 1024) (b : Fin 1024) :
    k0_pay1 (F := Ideal) x w (ix2 a b) = ∑ k : Fin 2048, x (ix2 a k) * w (ix2 k b) := by
  pointwise [k0_pay1]

theorem index_rows : ∀ t : Fin cfg0.N, (cfg0.win 0).index t = ![(grid0.coords t 1).val, 0] := by
  decide +kernel

theorem index_weights : ∀ t : Fin cfg0.N, (cfg0.win 1).index t = ![0, 4 + (grid0.coords t 0).val] := by
  decide +kernel

theorem index_out : ∀ t : Fin cfg0.N, (cfg0.win 2).index t = ![(grid0.coords t 1).val, (grid0.coords t 0).val] := by
  decide +kernel

theorem covers : (cfg0.win 2).Covers := by decide +kernel

/-- The rows a grid point reads. -/
theorem blk_rows (t : Fin cfg0.N) (a : Fin 1024) (k : Fin 2048) (r : Fin 16384) (h : r.val = (grid0.coords t 1).val * 1024 + a.val) :
    (iblk m c 0 t : FVec Ideal S1024x2048 .bf16) (ix2 a k)
      = arg0 m c (ix3 ⟨r.val / 8192, by omega⟩ ⟨r.val % 8192, by omega⟩ k) := by
  rw [← rows_apply]
  have e := index_rows t
  blk_simp [iblk]
  refine congrArg (V m c main_v1) (funext fun z => Fin.ext ?_)
  match z with
  | ⟨0, _⟩ => refine (Pipeline.Window.rect_emb_val (cfg0.win 0) t _ ⟨0, by decide⟩).trans ?_; rw [e]; exact h.symm
  | ⟨1, _⟩ =>
    refine (Pipeline.Window.rect_emb_val (cfg0.win 0) t _ ⟨1, by decide⟩).trans ?_
    rw [e]
    show 0 * 2048 + k.val = k.val
    omega

/-- The columns of the weights a grid point reads. -/
theorem blk_weights (t : Fin cfg0.N) (k : Fin 2048) (b : Fin 1024) (f : Fin 6144)
    (h : f.val = (4 + (grid0.coords t 0).val) * 1024 + b.val) :
    (iblk m c 1 t : FVec Ideal S2048x1024 .f32) (ix2 k b) = arg1 m c (ix3 0 k f) := by
  rw [← weights_apply]
  have e := index_weights t
  blk_simp [iblk]
  refine congrArg (V m c main_v2) (funext fun z => Fin.ext ?_)
  match z with
  | ⟨0, _⟩ =>
    refine (Pipeline.Window.rect_emb_val (cfg0.win 1) t _ ⟨0, by decide⟩).trans ?_
    rw [e]
    show 0 * 2048 + k.val = k.val
    omega
  | ⟨1, _⟩ => refine (Pipeline.Window.rect_emb_val (cfg0.win 1) t _ ⟨1, by decide⟩).trans ?_; rw [e]; exact h.symm

/-- The reference at an index. -/
theorem ref_apply (x : FVec Ideal S2x8192x2048 .f32) (w : FVec Ideal S1x2048x6144 .f32) (r : Fin 16384) (f : Fin 1024) :
    val_main_v4 (F := Ideal) x w (ix2 r f)
      = ∑ k : Fin 2048, x (ix3 ⟨r.val / 8192, by omega⟩ ⟨r.val % 8192, by omega⟩ k) * w (ix3 0 k ⟨4096 + f.val, by omega⟩) := by
  rw [val_main_v4_apply, val_main_v3_apply, val_main_v2_apply, val_main_v1_apply]
  refine Finset.sum_congr rfl fun k _ => ?_
  rw [val_main_v0_apply]
  refine congrArg₂ (· * ·) (congrArg x (funext fun z => Fin.ext ?_)) (congrArg w (funext fun z => Fin.ext ?_))
  · match z with
    | ⟨0, _⟩ =>
      show (r.val * 1024 + f.val) / 8388608 = r.val / 8192
      omega
    | ⟨1, _⟩ =>
      show (r.val * 1024 + f.val) / 1024 % 8192 = r.val % 8192
      omega
    | ⟨2, _⟩ => rfl
  · match z with
    | ⟨0, _⟩ => rfl
    | ⟨1, _⟩ =>
      show (k.val * 6144 + (4096 + (r.val * 1024 + f.val) % 1024)) / 6144 % 2048 = k.val
      omega
    | ⟨2, _⟩ =>
      show (k.val * 6144 + (4096 + (r.val * 1024 + f.val) % 1024)) % 6144 = 4096 + f.val
      omega

/-- The array the grid points leave. -/
theorem final : (dats m 0 c).arrAt 2 cfg0.N = val_main_v4 (F := Ideal) (arg0 m c) (arg1 m c) := by
  refine (dats m 0 c).arrAt_eq_of_covers 2 _ covers fun t hf y => ?_
  blk_simp
  rw [after0_2]
  frame_out
  have hb : (grid0.coords t 0).val < 1 := (grid0.coords t 0).isLt
  have hr : (grid0.coords t 1).val < 16 := (grid0.coords t 1).isLt
  have h0 : (y 0).val < 1024 := (y 0).isLt
  have h1 : (y 1).val < 1024 := (y 1).isLt
  let r : Fin 16384 := ⟨(grid0.coords t 1).val * 1024 + (y 0).val, by omega⟩
  let f : Fin 1024 := ⟨(grid0.coords t 0).val * 1024 + (y 1).val, by omega⟩
  have ey : (y : S1024x1024.Idx) = ix2 (y 0) (y 1) := ValueIdx.eq_ix2 _
  have ez : ((View.whole main_v3).slice (win0_2.rect t)).emb y = ix2 r f := by
    have e := index_out t
    refine funext fun z => Fin.ext ?_
    match z with
    | ⟨0, _⟩ => refine (Pipeline.Window.rect_emb_val (cfg0.win 2) t y ⟨0, by decide⟩).trans ?_; rw [e]; rfl
    | ⟨1, _⟩ => refine (Pipeline.Window.rect_emb_val (cfg0.win 2) t y ⟨1, by decide⟩).trans ?_; rw [e]; rfl
  rw [ez, ref_apply]
  refine (congrArg _ ey).trans ((pay_apply _ _ _ _).trans ?_)
  exact Finset.sum_congr rfl fun k _ => congrArg₂ (· * ·) (blk_rows m c t _ k r rfl) (blk_weights m c t k _ _ (by show 4096 + ((grid0.coords t 0).val * 1024 + (y 1).val) = (4 + (grid0.coords t 0).val) * 1024 + (y 1).val; omega))

theorem frame_ri : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- In exact arithmetic the kernel's result array is the reference's. -/
theorem algebraic : Cert.algebraic_Kernel5Ideal_Reference5Ideal := by
  pair_intro
  · run_from Cert.Kernel5Ideal.Value.run_blocks m g
  · run_from Cert.Reference5Ideal.Value.run m' g'
    rw [final m c]
    exact val_main_v4_eq _ _

end Cert.Proof.ProjKeys

end
-- ==== Proof.ProjValues.lean ====
/- The even layer's projection to the values, transposed: each block the kernel writes is the reference's. -/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.StableHlo.ReadAt
public import Idealize.ShloMosaic.Lib.Pipeline.ValueKit
public import Idealize.ShloMosaic.Lib.Claim

@[expose] public section

set_option maxRecDepth 16384

noncomputable section

namespace Cert.Proof.ProjValues

open Cert.Kernel6Ideal Cert.Kernel6Ideal.Gen Idealize.ShloMosaic Idealize.ShloMosaic.Pointwise Idealize.SL.Sem
open Cert.Reference6Ideal.Read

variable (m : (ℓ : Loc nD τ sig) → Buf (Elt Ideal) ℓ) (c : Dev nD)

/-- The activations and the weights. -/
abbrev arg0 : FVec Ideal S2x8192x2048 .f32 := m ((c.tc : Thread nD τ).loc main_arg0)
abbrev arg1 : FVec Ideal S1x2048x6144 .f32 := m ((c.tc : Thread nD τ).loc main_arg1)

/-- The activations handed to the kernel, one row for each position of each sequence. -/
theorem rows_apply (r : Fin 16384) (k : Fin 2048) :
    (V (F := Ideal) m c main_v1 : FVec Ideal S16384x2048 .bf16) (ix2 r k)
      = arg0 m c (ix3 ⟨r.val / 8192, by omega⟩ ⟨r.val % 8192, by omega⟩ k) := by
  unfold V
  after_reads_at

/-- The weights handed to the kernel. -/
theorem weights_apply (k : Fin 2048) (f : Fin 6144) :
    (V (F := Ideal) m c main_v2 : FVec Ideal S2048x6144 .f32) (ix2 k f) = arg1 m c (ix3 0 k f) := by
  unfold V
  after_reads_at

/-- A block of the product. -/
theorem pay_apply (x : FVec Ideal S1024x2048 .bf16) (w : FVec Ideal S2048x1024 .f32) (a : Fin 1024) (b : Fin 1024) :
    k0_pay1 (F := Ideal) w x (ix2 b a) = ∑ k : Fin 2048, w (ix2 k b) * x (ix2 a k) := by
  pointwise [k0_pay1]

theorem index_rows : ∀ t : Fin cfg0.N, (cfg0.win 1).index t = ![(grid0.coords t 1).val, 0] := by
  decide +kernel

theorem index_weights : ∀ t : Fin cfg0.N, (cfg0.win 0).index t = ![0, 5 + (grid0.coords t 0).val] := by
  decide +kernel

theorem index_out : ∀ t : Fin cfg0.N, (cfg0.win 2).index t = ![(grid0.coords t 0).val, (grid0.coords t 1).val] := by
  decide +kernel

theorem covers : (cfg0.win 2).Covers := by decide +kernel

/-- The rows a grid point reads. -/
theorem blk_rows (t : Fin cfg0.N) (a : Fin 1024) (k : Fin 2048) (r : Fin 16384) (h : r.val = (grid0.coords t 1).val * 1024 + a.val) :
    (iblk m c 1 t : FVec Ideal S1024x2048 .bf16) (ix2 a k)
      = arg0 m c (ix3 ⟨r.val / 8192, by omega⟩ ⟨r.val % 8192, by omega⟩ k) := by
  rw [← rows_apply]
  have e := index_rows t
  blk_simp [iblk]
  refine congrArg (V m c main_v1) (funext fun z => Fin.ext ?_)
  match z with
  | ⟨0, _⟩ => refine (Pipeline.Window.rect_emb_val (cfg0.win 1) t _ ⟨0, by decide⟩).trans ?_; rw [e]; exact h.symm
  | ⟨1, _⟩ =>
    refine (Pipeline.Window.rect_emb_val (cfg0.win 1) t _ ⟨1, by decide⟩).trans ?_
    rw [e]
    show 0 * 2048 + k.val = k.val
    omega

/-- The columns of the weights a grid point reads. -/
theorem blk_weights (t : Fin cfg0.N) (k : Fin 2048) (b : Fin 1024) (f : Fin 6144)
    (h : f.val = (5 + (grid0.coords t 0).val) * 1024 + b.val) :
    (iblk m c 0 t : FVec Ideal S2048x1024 .f32) (ix2 k b) = arg1 m c (ix3 0 k f) := by
  rw [← weights_apply]
  have e := index_weights t
  blk_simp [iblk]
  refine congrArg (V m c main_v2) (funext fun z => Fin.ext ?_)
  match z with
  | ⟨0, _⟩ =>
    refine (Pipeline.Window.rect_emb_val (cfg0.win 0) t _ ⟨0, by decide⟩).trans ?_
    rw [e]
    show 0 * 2048 + k.val = k.val
    omega
  | ⟨1, _⟩ => refine (Pipeline.Window.rect_emb_val (cfg0.win 0) t _ ⟨1, by decide⟩).trans ?_; rw [e]; exact h.symm

/-- The reference at an index. -/
theorem ref_apply (x : FVec Ideal S2x8192x2048 .f32) (w : FVec Ideal S1x2048x6144 .f32) (r : Fin 16384) (f : Fin 1024) :
    val_main_v5 (F := Ideal) x w (ix2 f r)
      = ∑ k : Fin 2048, x (ix3 ⟨r.val / 8192, by omega⟩ ⟨r.val % 8192, by omega⟩ k) * w (ix3 0 k ⟨5120 + f.val, by omega⟩) := by
  rw [val_main_v5_apply, val_main_v4_apply, val_main_v3_apply, val_main_v2_apply, val_main_v1_apply]
  refine Finset.sum_congr rfl fun k _ => ?_
  rw [val_main_v0_apply]
  refine congrArg₂ (· * ·) (congrArg x (funext fun z => Fin.ext ?_)) (congrArg w (funext fun z => Fin.ext ?_))
  · match z with
    | ⟨0, _⟩ =>
      show (r.val * 1024 + f.val) / 8388608 = r.val / 8192
      omega
    | ⟨1, _⟩ =>
      show (r.val * 1024 + f.val) / 1024 % 8192 = r.val % 8192
      omega
    | ⟨2, _⟩ => rfl
  · match z with
    | ⟨0, _⟩ => rfl
    | ⟨1, _⟩ =>
      show (k.val * 6144 + (5120 + (r.val * 1024 + f.val) % 1024)) / 6144 % 2048 = k.val
      omega
    | ⟨2, _⟩ =>
      show (k.val * 6144 + (5120 + (r.val * 1024 + f.val) % 1024)) % 6144 = 5120 + f.val
      omega

/-- The array the grid points leave. -/
theorem final : (dats m 0 c).arrAt 2 cfg0.N = val_main_v5 (F := Ideal) (arg0 m c) (arg1 m c) := by
  refine (dats m 0 c).arrAt_eq_of_covers 2 _ covers fun t hf y => ?_
  blk_simp
  rw [after0_2]
  frame_out
  have hb : (grid0.coords t 0).val < 1 := (grid0.coords t 0).isLt
  have hr : (grid0.coords t 1).val < 16 := (grid0.coords t 1).isLt
  have h0 : (y 1).val < 1024 := (y 1).isLt
  have h1 : (y 0).val < 1024 := (y 0).isLt
  let r : Fin 16384 := ⟨(grid0.coords t 1).val * 1024 + (y 1).val, by omega⟩
  let f : Fin 1024 := ⟨(grid0.coords t 0).val * 1024 + (y 0).val, by omega⟩
  have ey : (y : S1024x1024.Idx) = ix2 (y 0) (y 1) := ValueIdx.eq_ix2 _
  have ez : ((View.whole main_v3).slice (win0_2.rect t)).emb y = ix2 f r := by
    have e := index_out t
    refine funext fun z => Fin.ext ?_
    match z with
    | ⟨0, _⟩ => refine (Pipeline.Window.rect_emb_val (cfg0.win 2) t y ⟨0, by decide⟩).trans ?_; rw [e]; rfl
    | ⟨1, _⟩ => refine (Pipeline.Window.rect_emb_val (cfg0.win 2) t y ⟨1, by decide⟩).trans ?_; rw [e]; rfl
  rw [ez, ref_apply]
  refine (congrArg _ ey).trans ((pay_apply _ _ _ _).trans ?_)
  exact Finset.sum_congr rfl fun k _ => (congrArg₂ (fun a b : EReal => a * b) (blk_weights m c t k _ _ (by show 5120 + ((grid0.coords t 0).val * 1024 + (y 0).val) = (5 + (grid0.coords t 0).val) * 1024 + (y 0).val; omega)) (blk_rows m c t _ k r rfl)).trans (mul_comm _ _)

theorem frame_ri : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

/-- In exact arithmetic the kernel's result array is the reference's. -/
theorem algebraic : Cert.algebraic_Kernel6Ideal_Reference6Ideal := by
  pair_intro
  · run_from Cert.Kernel6Ideal.Value.run_blocks m g
  · run_from Cert.Reference6Ideal.Value.run m' g'
    rw [final m c]
    exact val_main_v5_eq _ _

end Cert.Proof.ProjValues

end
-- ==== Proof.LayerNorm.lean ====
/- A row brought to mean nought and variance one, then scaled and shifted: what each output projection and the last step of a layer end with. -/
module

public import proofs.«01_k».proof.Defs
public import Idealize.ShloMosaic.Lib.Pointwise

@[expose] public section

noncomputable section

namespace Cert.Proof

open Idealize.ShloMosaic

/-- The float 2048, which a row's sum is divided by. -/
def width : EReal := Ideal.ofBits FTy.f32 1157627904#32

/-- The float that is added to the variance. -/
def offset : EReal := Ideal.ofBits FTy.f32 925353388#32

/-- The float by which the residual is multiplied. -/
def alpha : EReal := Ideal.ofBits FTy.f32 1068827891#32

/-- The mean of a row. -/
def mean (z : Fin 2048 → EReal) : EReal := Ideal.div (∑ k, z k) width

/-- The normed row at a column, with that column's scale and shift. -/
def normed (z : Fin 2048 → EReal) (g b : EReal) (j : Fin 2048) : EReal :=
  (z j - mean z) * Ideal.rsqrt (mean (fun k => (z k - mean z) * (z k - mean z)) + offset) * g + b

/-- Equal rows, scales and shifts give equal normed rows. -/
theorem normed_congr {z z' : Fin 2048 → EReal} {g g' b b' : EReal} (j : Fin 2048) (hz : ∀ k, z k = z' k) (hg : g = g') (hb : b = b') :
    normed z g b j = normed z' g' b' j := by
  rw [show z = z' from funext hz, hg, hb]

end Cert.Proof

end
-- ==== Proof.OutEven.lean ====
/- The even layer's output projection: each block the kernel writes is the reference's. -/
module

public import proofs.«01_k».proof.Defs
public import proofs.«01_k».proof.Proof.LayerNorm
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pointwise
public import Idealize.ShloMosaic.Lib.StableHlo.ReadAt
public import Idealize.ShloMosaic.Lib.Pipeline.ValueKit
public import Idealize.ShloMosaic.Lib.Claim
public import Idealize.ShloMosaic.Lib.Bf16PairInverse

@[expose] public section

set_option maxRecDepth 16384

noncomputable section

namespace Cert.Proof.OutEven

open Cert.Kernel7Ideal Cert.Kernel7Ideal.Gen Idealize.ShloMosaic Idealize.ShloMosaic.Pointwise Idealize.SL.Sem
open Cert.Reference7Ideal.Read

variable (m : (ℓ : Loc nD τ sig) → Buf (Elt Ideal) ℓ) (c : Dev nD)

/-- The arguments. -/
abbrev arg0 : FVec Ideal S2x8192x1024 .f32 := m ((c.tc : Thread nD τ).loc main_arg0)
abbrev arg1 : FVec Ideal S2x8192x1024 .f32 := m ((c.tc : Thread nD τ).loc main_arg1)
abbrev arg2 : FVec Ideal S1x2048x2048 .f32 := m ((c.tc : Thread nD τ).loc main_arg2)
abbrev arg3 : FVec Ideal S2x8192x2048 .f32 := m ((c.tc : Thread nD τ).loc main_arg3)
abbrev arg4 : FVec Ideal S2x2048 .f32 := m ((c.tc : Thread nD τ).loc main_arg4)
abbrev arg5 : FVec Ideal S2x2048 .f32 := m ((c.tc : Thread nD τ).loc main_arg5)

/-- The Hyena mixer's output, transposed: the array handed to the kernel. -/
theorem hyena_apply (k : Fin 1024) (r : Fin 16384) :
    (V (F := Ideal) m c main_v2 : FVec Ideal S1024x16384 .bf16) (ix2 k r) = arg0 m c (ix3 ⟨r.val / 8192, by omega⟩ ⟨r.val % 8192, by omega⟩ k) := by
  unfold V
  after_reads_at

theorem index_hyena : ∀ t : Fin cfg0.N, (cfg0.win 0).index t = ![0, (grid0.coords t 0).val] := by
  decide +kernel

/-- The Hyena mixer's output, transposed: the block of a grid point. -/
theorem blk_hyena (t : Fin cfg0.N) (k : Fin 1024) (a : Fin 512) (r : Fin 16384) (h : r.val = (grid0.coords t 0).val * 512 + a.val) :
    (iblk m c 0 t : FVec Ideal S1024x512 .bf16) (ix2 k a) = arg0 m c (ix3 ⟨r.val / 8192, by omega⟩ ⟨r.val % 8192, by omega⟩ k) := by
  rw [← hyena_apply]
  have e := index_hyena t
  blk_simp [iblk]
  refine congrArg (V m c main_v2) (funext fun z => Fin.ext ?_)
  match z with
  | ⟨0, _⟩ =>
    refine (Pipeline.Window.rect_emb_val (cfg0.win 0) t _ ⟨0, by decide⟩).trans ?_
    rw [e]
    show 0 * 1024 + k.val = k.val
    omega
  | ⟨1, _⟩ =>
    refine (Pipeline.Window.rect_emb_val (cfg0.win 0) t _ ⟨1, by decide⟩).trans ?_
    rw [e]
    exact h.symm

/-- The attention's output: the array handed to the kernel. -/
theorem attn_apply (r : Fin 16384) (k : Fin 1024) :
    (V (F := Ideal) m c main_v4 : FVec Ideal S16384x1024 .bf16) (ix2 r k) = arg1 m c (ix3 ⟨r.val / 8192, by omega⟩ ⟨r.val % 8192, by omega⟩ k) := by
  unfold V
  after_reads_at

theorem index_attn : ∀ t : Fin cfg0.N, (cfg0.win 1).index t = ![(grid0.coords t 0).val, 0] := by
  decide +kernel

/-- The attention's output: the block of a grid point. -/
theorem blk_attn (t : Fin cfg0.N) (a : Fin 512) (k : Fin 1024) (r : Fin 16384) (h : r.val = (grid0.coords t 0).val * 512 + a.val) :
    (iblk m c 1 t : FVec Ideal S512x1024 .bf16) (ix2 a k) = arg1 m c (ix3 ⟨r.val / 8192, by omega⟩ ⟨r.val % 8192, by omega⟩ k) := by
  rw [← attn_apply]
  have e := index_attn t
  blk_simp [iblk]
  refine congrArg (V m c main_v4) (funext fun z => Fin.ext ?_)
  match z with
  | ⟨0, _⟩ =>
    refine (Pipeline.Window.rect_emb_val (cfg0.win 1) t _ ⟨0, by decide⟩).trans ?_
    rw [e]
    exact h.symm
  | ⟨1, _⟩ =>
    refine (Pipeline.Window.rect_emb_val (cfg0.win 1) t _ ⟨1, by decide⟩).trans ?_
    rw [e]
    show 0 * 1024 + k.val = k.val
    omega

/-- The upper half of the weights: the array handed to the kernel. -/
theorem upper_apply (k : Fin 1024) (j : Fin 2048) :
    (V (F := Ideal) m c main_v12 : FVec Ideal S1024x2048 .bf16) (ix2 k j) = arg2 m c (ix3 0 ⟨k.val, by omega⟩ j) := by
  unfold V
  after_reads_at

theorem index_upper : ∀ t : Fin cfg0.N, (cfg0.win 2).index t = ![0, 0] := by
  decide +kernel

/-- The upper half of the weights: the block of a grid point. -/
theorem blk_upper (t : Fin cfg0.N) (k : Fin 1024) (j : Fin 2048) :
    (iblk m c 2 t : FVec Ideal S1024x2048 .bf16) (ix2 k j) = arg2 m c (ix3 0 ⟨k.val, by omega⟩ j) := by
  rw [← upper_apply]
  have e := index_upper t
  blk_simp [iblk]
  refine congrArg (V m c main_v12) (funext fun z => Fin.ext ?_)
  match z with
  | ⟨0, _⟩ =>
    refine (Pipeline.Window.rect_emb_val (cfg0.win 2) t _ ⟨0, by decide⟩).trans ?_
    rw [e]
    show 0 * 1024 + k.val = k.val
    omega
  | ⟨1, _⟩ =>
    refine (Pipeline.Window.rect_emb_val (cfg0.win 2) t _ ⟨1, by decide⟩).trans ?_
    rw [e]
    show 0 * 2048 + j.val = j.val
    omega

/-- The lower half of the weights: the array handed to the kernel. -/
theorem lower_apply (k : Fin 1024) (j : Fin 2048) :
    (V (F := Ideal) m c main_v13 : FVec Ideal S1024x2048 .bf16) (ix2 k j) = arg2 m c (ix3 0 ⟨1024 + k.val, by omega⟩ j) := by
  unfold V
  after_reads_at

theorem index_lower : ∀ t : Fin cfg0.N, (cfg0.win 3).index t = ![0, 0] := by
  decide +kernel

/-- The lower half of the weights: the block of a grid point. -/
theorem blk_lower (t : Fin cfg0.N) (k : Fin 1024) (j : Fin 2048) :
    (iblk m c 3 t : FVec Ideal S1024x2048 .bf16) (ix2 k j) = arg2 m c (ix3 0 ⟨1024 + k.val, by omega⟩ j) := by
  rw [← lower_apply]
  have e := index_lower t
  blk_simp [iblk]
  refine congrArg (V m c main_v13) (funext fun z => Fin.ext ?_)
  match z with
  | ⟨0, _⟩ =>
    refine (Pipeline.Window.rect_emb_val (cfg0.win 3) t _ ⟨0, by decide⟩).trans ?_
    rw [e]
    show 0 * 1024 + k.val = k.val
    omega
  | ⟨1, _⟩ =>
    refine (Pipeline.Window.rect_emb_val (cfg0.win 3) t _ ⟨1, by decide⟩).trans ?_
    rw [e]
    show 0 * 2048 + j.val = j.val
    omega

/-- The residual: the array handed to the kernel. -/
theorem resid_apply (r : Fin 16384) (k : Fin 2048) :
    (V (F := Ideal) m c main_v7 : FVec Ideal S16384x2048 .f32) (ix2 r k) = arg3 m c (ix3 ⟨r.val / 8192, by omega⟩ ⟨r.val % 8192, by omega⟩ k) := by
  unfold V
  after_reads_at

theorem index_resid : ∀ t : Fin cfg0.N, (cfg0.win 4).index t = ![(grid0.coords t 0).val, 0] := by
  decide +kernel

/-- The residual: the block of a grid point. -/
theorem blk_resid (t : Fin cfg0.N) (a : Fin 512) (k : Fin 2048) (r : Fin 16384) (h : r.val = (grid0.coords t 0).val * 512 + a.val) :
    (iblk m c 4 t : FVec Ideal S512x2048 .f32) (ix2 a k) = arg3 m c (ix3 ⟨r.val / 8192, by omega⟩ ⟨r.val % 8192, by omega⟩ k) := by
  rw [← resid_apply]
  have e := index_resid t
  blk_simp [iblk]
  refine congrArg (V m c main_v7) (funext fun z => Fin.ext ?_)
  match z with
  | ⟨0, _⟩ =>
    refine (Pipeline.Window.rect_emb_val (cfg0.win 4) t _ ⟨0, by decide⟩).trans ?_
    rw [e]
    exact h.symm
  | ⟨1, _⟩ =>
    refine (Pipeline.Window.rect_emb_val (cfg0.win 4) t _ ⟨1, by decide⟩).trans ?_
    rw [e]
    show 0 * 2048 + k.val = k.val
    omega

/-- The scale: the array handed to the kernel. -/
theorem scale_apply (j : Fin 2048) :
    (V (F := Ideal) m c main_v14 : FVec Ideal S1x2048 .f32) (ix2 0 j) = arg4 m c (ix2 0 j) := by
  unfold V
  after_reads_at

theorem index_scale : ∀ t : Fin cfg0.N, (cfg0.win 5).index t = ![0, 0] := by
  decide +kernel

/-- The scale: the block of a grid point. -/
theorem blk_scale (t : Fin cfg0.N) (j : Fin 2048) :
    (iblk m c 5 t : FVec Ideal S1x2048 .f32) (ix2 0 j) = arg4 m c (ix2 0 j) := by
  rw [← scale_apply]
  have e := index_scale t
  blk_simp [iblk]
  refine congrArg (V m c main_v14) (funext fun z => Fin.ext ?_)
  match z with
  | ⟨0, _⟩ =>
    refine (Pipeline.Window.rect_emb_val (cfg0.win 5) t _ ⟨0, by decide⟩).trans ?_
    rw [e]
    show 0 * 1 + 0 = 0
    omega
  | ⟨1, _⟩ =>
    refine (Pipeline.Window.rect_emb_val (cfg0.win 5) t _ ⟨1, by decide⟩).trans ?_
    rw [e]
    show 0 * 2048 + j.val = j.val
    omega

/-- The shift: the array handed to the kernel. -/
theorem shift_apply (j : Fin 2048) :
    (V (F := Ideal) m c main_v15 : FVec Ideal S1x2048 .f32) (ix2 0 j) = arg5 m c (ix2 0 j) := by
  unfold V
  after_reads_at

theorem index_shift : ∀ t : Fin cfg0.N, (cfg0.win 6).index t = ![0, 0] := by
  decide +kernel

/-- The shift: the block of a grid point. -/
theorem blk_shift (t : Fin cfg0.N) (j : Fin 2048) :
    (iblk m c 6 t : FVec Ideal S1x2048 .f32) (ix2 0 j) = arg5 m c (ix2 0 j) := by
  rw [← shift_apply]
  have e := index_shift t
  blk_simp [iblk]
  refine congrArg (V m c main_v15) (funext fun z => Fin.ext ?_)
  match z with
  | ⟨0, _⟩ =>
    refine (Pipeline.Window.rect_emb_val (cfg0.win 6) t _ ⟨0, by decide⟩).trans ?_
    rw [e]
    show 0 * 1 + 0 = 0
    omega
  | ⟨1, _⟩ =>
    refine (Pipeline.Window.rect_emb_val (cfg0.win 6) t _ ⟨1, by decide⟩).trans ?_
    rw [e]
    show 0 * 2048 + j.val = j.val
    omega

/-- What a grid point writes, from its blocks. -/
theorem pay_apply (x : FVec Ideal S1024x512 .bf16) (y : FVec Ideal S512x1024 .bf16) (u w : FVec Ideal S1024x2048 .bf16)
    (h : FVec Ideal S512x2048 .f32) (g b : FVec Ideal S1x2048 .f32) (a : Fin 512) (j : Fin 2048) :
    k0_pay1 (F := Ideal) (k0_pay3 b) (k0_pay4 x u y w h) (k0_pay5 g) (ix2 a j)
      = normed (fun k => alpha * h (ix2 a k) + (∑ i : Fin 1024, x (ix2 i a) * u (ix2 i k) + ∑ i : Fin 1024, y (ix2 a i) * w (ix2 i k)))
          (g (ix2 0 j)) (b (ix2 0 j)) j := by
  pointwise [k0_pay1, k0_pay3, k0_pay4, k0_pay5]
  rfl

/-- The product with the two outputs side by side, as two products. -/
theorem sum_sides (x y : FVec Ideal S2x8192x1024 .f32) (w : FVec Ideal S1x2048x2048 .f32) (p : Fin 2) (q : Fin 8192) (k : Fin 2048) :
    ∑ i : Fin 2048, val_main_v0 (F := Ideal) x y (ix3 p q i) * w (ix3 0 i k)
      = ∑ i : Fin 1024, x (ix3 p q i) * w (ix3 0 ⟨i.val, by omega⟩ k)
        + ∑ i : Fin 1024, y (ix3 p q i) * w (ix3 0 ⟨1024 + i.val, by omega⟩ k) := by
  refine (Fin.sum_univ_add (a := 1024) (b := 1024) (fun i : Fin 2048 => val_main_v0 (F := Ideal) x y (ix3 p q i) * w (ix3 0 i k))).trans ?_
  refine congrArg₂ (fun a b : EReal => a + b) (Finset.sum_congr rfl fun i _ => ?_) (Finset.sum_congr rfl fun i _ => ?_)
  · refine congrArg₂ (fun a b : EReal => a * b) ?_ rfl
    unfold val_main_v0
    pointwise []
    exact dif_pos (show (Fin.castAdd 1024 i).val < 1024 from i.isLt)
  · refine congrArg₂ (fun a b : EReal => a * b) ?_ rfl
    unfold val_main_v0
    pointwise []
    refine (dif_neg (show ¬ (Fin.natAdd 1024 i).val < 1024 from Nat.not_lt.mpr (Nat.le_add_right _ _))).trans ?_
    refine congrArg y (funext fun z => Fin.ext ?_)
    match z with
    | ⟨0, _⟩ => rfl
    | ⟨1, _⟩ => rfl
    | ⟨2, _⟩ => exact Nat.add_sub_cancel_left _ _

/-- The reference at an index. -/
theorem ref_apply (x y : FVec Ideal S2x8192x1024 .f32) (w : FVec Ideal S1x2048x2048 .f32) (h : FVec Ideal S2x8192x2048 .f32)
    (g b : FVec Ideal S2x2048 .f32) (r : Fin 16384) (j : Fin 2048) :
    val_main_v34 (F := Ideal) x y w h g b (ix2 r j)
      = normed (fun k => alpha * h (ix3 ⟨r.val / 8192, by omega⟩ ⟨r.val % 8192, by omega⟩ k)
            + (∑ i : Fin 1024, x (ix3 ⟨r.val / 8192, by omega⟩ ⟨r.val % 8192, by omega⟩ i) * w (ix3 0 ⟨i.val, by omega⟩ k)
              + ∑ i : Fin 1024, y (ix3 ⟨r.val / 8192, by omega⟩ ⟨r.val % 8192, by omega⟩ i) * w (ix3 0 ⟨1024 + i.val, by omega⟩ k)))
          (g (ix2 0 j)) (b (ix2 0 j)) j := by
  have e : val_main_v34 (F := Ideal) x y w h g b (ix2 r j)
      = normed (fun k => alpha * h (ix3 ⟨r.val / 8192, by omega⟩ ⟨r.val % 8192, by omega⟩ k)
            + ∑ i : Fin 2048, val_main_v0 (F := Ideal) x y (ix3 ⟨r.val / 8192, by omega⟩ ⟨r.val % 8192, by omega⟩ i) * w (ix3 0 i k))
          (g (ix2 0 j)) (b (ix2 0 j)) j := by
    pointwise [val_main_v34, val_main_v33, val_main_v32, val_main_v31, val_main_v30, val_main_v29, val_main_v28, val_main_v27, val_main_v26, val_main_v25, val_main_v24, val_main_v23, val_main_cst_4, val_main_v22, val_main_v21, val_main_v20, val_main_v19, val_main_cst_3, val_main_v18, val_main_v17, val_main_cst_2, val_main_v16, val_main_v15, val_main_v14, val_main_v13, val_main_v12, val_main_cst_1, val_main_v11, val_main_v10, val_main_cst_0, val_main_v9, val_main_v8, val_main_v7, val_main_v6, val_main_v5, val_main_v4, val_main_v3, val_main_cst, val_main_v2, val_main_v1]
    rfl
  rw [e]
  exact normed_congr _ (fun k => congrArg (fun a : EReal => alpha * h (ix3 ⟨r.val / 8192, by omega⟩ ⟨r.val % 8192, by omega⟩ k) + a) (sum_sides x y w _ _ k)) rfl rfl

theorem index_out : ∀ t : Fin cfg0.N, (cfg0.win 7).index t = ![(grid0.coords t 0).val, 0] := by
  decide +kernel

theorem covers : (cfg0.win 7).Covers := by decide +kernel

/-- The array the grid points leave. -/
theorem final : (dats m 0 c).arrAt 7 cfg0.N = val_main_v34 (F := Ideal) (arg0 m c) (arg1 m c) (arg2 m c) (arg3 m c) (arg4 m c) (arg5 m c) := by
  refine (dats m 0 c).arrAt_eq_of_covers 7 _ covers fun t hf y => ?_
  blk_simp
  rw [after0_7]
  unfold_out out0_7
  frame_out
  have hr : (grid0.coords t 0).val < 32 := (grid0.coords t 0).isLt
  have h0 : (y 0).val < 512 := (y 0).isLt
  have h1 : (y 1).val < 2048 := (y 1).isLt
  let r : Fin 16384 := ⟨(grid0.coords t 0).val * 512 + (y 0).val, by omega⟩
  let j : Fin 2048 := y 1
  have ey : (y : S512x2048.Idx) = ix2 (y 0) (y 1) := ValueIdx.eq_ix2 _
  have ez : ((View.whole main_v16_0).slice (win0_7.rect t)).emb y = ix2 r j := by
    have e := index_out t
    refine funext fun z => Fin.ext ?_
    match z with
    | ⟨0, _⟩ => refine (Pipeline.Window.rect_emb_val (cfg0.win 7) t y ⟨0, by decide⟩).trans ?_; rw [e]; rfl
    | ⟨1, _⟩ =>
      refine (Pipeline.Window.rect_emb_val (cfg0.win 7) t y ⟨1, by decide⟩).trans ?_
      rw [e]
      show 0 * 2048 + (y 1).val = (y 1).val
      omega
  rw [ez, ref_apply]
  refine (congrArg _ ey).trans ((pay_apply _ _ _ _ _ _ _ (y 0) (y 1)).trans ?_)
  refine normed_congr _ (fun k => ?_) (blk_scale m c t _) (blk_shift m c t _)
  refine congrArg₂ (fun a b : EReal => a + b) (congrArg (fun a : EReal => alpha * a) (blk_resid m c t _ k r rfl)) ?_
  refine congrArg₂ (fun a b : EReal => a + b) (Finset.sum_congr rfl fun i _ => ?_) (Finset.sum_congr rfl fun i _ => ?_)
  · exact congrArg₂ (fun a b : EReal => a * b) (blk_hyena m c t i _ r rfl) (blk_upper m c t i k)
  · exact congrArg₂ (fun a b : EReal => a * b) (blk_attn m c t _ i r rfl) (blk_lower m c t i k)

theorem frame_ri : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

/-- In exact arithmetic the kernel's result array is the reference's. -/
theorem algebraic : Cert.algebraic_Kernel7Ideal_Reference7Ideal := by
  pair_intro
  · run_from Cert.Kernel7Ideal.Value.run_blocks m g
  · run_from Cert.Reference7Ideal.Value.run m' g'
    rw [final m c]
    obtain ⟨e0, e1, e2, e3, e4, e5⟩ := hagree c
    refine (Cert.Reference7Ideal.Read.val_main_v34_eq m' c).trans ?_
    unfold arg0 arg1 arg2 arg3 arg4 arg5
    rw [e0, e1, e2, e3, e4, e5]

/-- The rounded halves and the words that hold them carry the same values. -/
theorem preserves : Cert.preserves_Kernel7_Kernel7Ideal :=
  ⟨IdealRules.bf16_pair.bufferStatement _ _, IdealRules.bf16_pair.bufferStatement _ _,
    IdealRules.bf16_pair.statement _ _, IdealRules.bf16_pack.statement _⟩

end Cert.Proof.OutEven

end
-- ==== Proof.OutOdd.lean ====
/- The odd layer's output projection: each block the kernel writes is the reference's. -/
module

public import proofs.«01_k».proof.Defs
public import proofs.«01_k».proof.Proof.LayerNorm
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise
public import Idealize.ShloMosaic.Lib.StableHlo.ReadAt
public import Idealize.ShloMosaic.Lib.Pipeline.ValueKit
public import Idealize.ShloMosaic.Lib.Claim
public import Idealize.ShloMosaic.Lib.Bf16PairInverse

@[expose] public section

set_option maxRecDepth 16384

noncomputable section

namespace Cert.Proof.OutOdd

open Cert.Kernel8Ideal Cert.Kernel8Ideal.Gen Idealize.ShloMosaic Idealize.ShloMosaic.Pointwise Idealize.SL.Sem
open Cert.Reference8Ideal.Read

variable (m : (ℓ : Loc nD τ sig) → Buf (Elt Ideal) ℓ) (c : Dev nD)

/-- The arguments. -/
abbrev arg0 : FVec Ideal S2x8192x4096 .f32 := m ((c.tc : Thread nD τ).loc main_arg0)
abbrev arg1 : FVec Ideal S2x2x8192x2048 .f32 := m ((c.tc : Thread nD τ).loc main_arg1)
abbrev arg2 : FVec Ideal S1x2048x2048 .f32 := m ((c.tc : Thread nD τ).loc main_arg2)
abbrev arg3 : FVec Ideal S2x8192x2048 .f32 := m ((c.tc : Thread nD τ).loc main_arg3)
abbrev arg4 : FVec Ideal S2x2048 .f32 := m ((c.tc : Thread nD τ).loc main_arg4)
abbrev arg5 : FVec Ideal S2x2048 .f32 := m ((c.tc : Thread nD τ).loc main_arg5)

/-- The gate branch: the array handed to the kernel. -/
theorem branch_apply (r : Fin 16384) (k : Fin 4096) :
    (V (F := Ideal) m c main_v1 : FVec Ideal S16384x4096 .bf16) (ix2 r k) = arg0 m c (ix3 ⟨r.val / 8192, by omega⟩ ⟨r.val % 8192, by omega⟩ k) := by
  unfold V
  after_reads_at

theorem index_branch : ∀ t : Fin cfg0.N, (cfg0.win 0).index t = ![(grid0.coords t 0).val, 0] := by
  decide +kernel

/-- The gate branch: the block of a grid point. -/
theorem blk_branch (t : Fin cfg0.N) (a : Fin 512) (i : Fin 2048) (r : Fin 16384) (k : Fin 4096) (hk : k.val = i.val) (h : r.val = (grid0.coords t 0).val * 512 + a.val) :
    (iblk m c 0 t : FVec Ideal S512x2048 .bf16) (ix2 a i) = arg0 m c (ix3 ⟨r.val / 8192, by omega⟩ ⟨r.val % 8192, by omega⟩ k) := by
  rw [← branch_apply]
  have e := index_branch t
  blk_simp [iblk]
  refine congrArg (V m c main_v1) (funext fun z => Fin.ext ?_)
  match z with
  | ⟨0, _⟩ =>
    refine (Pipeline.Window.rect_emb_val (cfg0.win 0) t _ ⟨0, by decide⟩).trans ?_
    rw [e]
    exact h.symm
  | ⟨1, _⟩ =>
    refine (Pipeline.Window.rect_emb_val (cfg0.win 0) t _ ⟨1, by decide⟩).trans ?_
    rw [e]
    show 0 * 2048 + i.val = k.val
    omega

/-- The forward recurrence's output: the array handed to the kernel. -/
theorem forward_apply (r : Fin 16384) (k : Fin 2048) :
    (V (F := Ideal) m c main_v3 : FVec Ideal S2x16384x2048 .bf16) (ix3 0 r k) = arg1 m c (ix4 0 ⟨r.val / 8192, by omega⟩ ⟨r.val % 8192, by omega⟩ k) := by
  unfold V
  after_reads_at

theorem index_forward : ∀ t : Fin cfg0.N, (cfg0.win 1).index t = ![0, (grid0.coords t 0).val, 0] := by
  decide +kernel

/-- The forward recurrence's output: the block of a grid point. -/
theorem blk_forward (t : Fin cfg0.N) (a : Fin 512) (k : Fin 2048) (r : Fin 16384) (h : r.val = (grid0.coords t 0).val * 512 + a.val) :
    (iblk m c 1 t : FVec Ideal S1x512x2048 .bf16) (ix3 0 a k) = arg1 m c (ix4 0 ⟨r.val / 8192, by omega⟩ ⟨r.val % 8192, by omega⟩ k) := by
  rw [← forward_apply]
  have e := index_forward t
  blk_simp [iblk]
  refine congrArg (V m c main_v3) (funext fun z => Fin.ext ?_)
  match z with
  | ⟨0, _⟩ => refine (Pipeline.Window.rect_emb_val (cfg0.win 1) t _ ⟨0, by decide⟩).trans ?_; rw [e]; rfl
  | ⟨1, _⟩ => refine (Pipeline.Window.rect_emb_val (cfg0.win 1) t _ ⟨1, by decide⟩).trans ?_; rw [e]; exact h.symm
  | ⟨2, _⟩ =>
    refine (Pipeline.Window.rect_emb_val (cfg0.win 1) t _ ⟨2, by decide⟩).trans ?_
    rw [e]
    show 0 * 2048 + k.val = k.val
    omega

/-- The backward recurrence's output: the array handed to the kernel. -/
theorem backward_apply (r : Fin 16384) (k : Fin 2048) :
    (V (F := Ideal) m c main_v3 : FVec Ideal S2x16384x2048 .bf16) (ix3 1 r k) = arg1 m c (ix4 1 ⟨r.val / 8192, by omega⟩ ⟨r.val % 8192, by omega⟩ k) := by
  unfold V
  after_reads_at

theorem index_backward : ∀ t : Fin cfg0.N, (cfg0.win 2).index t = ![1, (grid0.coords t 0).val, 0] := by
  decide +kernel

/-- The backward recurrence's output: the block of a grid point. -/
theorem blk_backward (t : Fin cfg0.N) (a : Fin 512) (k : Fin 2048) (r : Fin 16384) (h : r.val = (grid0.coords t 0).val * 512 + a.val) :
    (iblk m c 2 t : FVec Ideal S1x512x2048 .bf16) (ix3 0 a k) = arg1 m c (ix4 1 ⟨r.val / 8192, by omega⟩ ⟨r.val % 8192, by omega⟩ k) := by
  rw [← backward_apply]
  have e := index_backward t
  blk_simp [iblk]
  refine congrArg (V m c main_v3) (funext fun z => Fin.ext ?_)
  match z with
  | ⟨0, _⟩ => refine (Pipeline.Window.rect_emb_val (cfg0.win 2) t _ ⟨0, by decide⟩).trans ?_; rw [e]; rfl
  | ⟨1, _⟩ => refine (Pipeline.Window.rect_emb_val (cfg0.win 2) t _ ⟨1, by decide⟩).trans ?_; rw [e]; exact h.symm
  | ⟨2, _⟩ =>
    refine (Pipeline.Window.rect_emb_val (cfg0.win 2) t _ ⟨2, by decide⟩).trans ?_
    rw [e]
    show 0 * 2048 + k.val = k.val
    omega

/-- The weights: the array handed to the kernel. -/
theorem weights_apply (k : Fin 2048) (j : Fin 2048) :
    (V (F := Ideal) m c main_v5 : FVec Ideal S2048x2048 .bf16) (ix2 k j) = arg2 m c (ix3 0 k j) := by
  unfold V
  after_reads_at

theorem index_weights : ∀ t : Fin cfg0.N, (cfg0.win 3).index t = ![0, 0] := by
  decide +kernel

/-- The weights: the block of a grid point. -/
theorem blk_weights (t : Fin cfg0.N) (k : Fin 2048) (j : Fin 2048) :
    (iblk m c 3 t : FVec Ideal S2048x2048 .bf16) (ix2 k j) = arg2 m c (ix3 0 k j) := by
  rw [← weights_apply]
  have e := index_weights t
  blk_simp [iblk]
  refine congrArg (V m c main_v5) (funext fun z => Fin.ext ?_)
  match z with
  | ⟨0, _⟩ =>
    refine (Pipeline.Window.rect_emb_val (cfg0.win 3) t _ ⟨0, by decide⟩).trans ?_
    rw [e]
    show 0 * 2048 + k.val = k.val
    omega
  | ⟨1, _⟩ =>
    refine (Pipeline.Window.rect_emb_val (cfg0.win 3) t _ ⟨1, by decide⟩).trans ?_
    rw [e]
    show 0 * 2048 + j.val = j.val
    omega

/-- The residual: the array handed to the kernel. -/
theorem resid_apply (r : Fin 16384) (k : Fin 2048) :
    (V (F := Ideal) m c main_v6 : FVec Ideal S16384x2048 .f32) (ix2 r k) = arg3 m c (ix3 ⟨r.val / 8192, by omega⟩ ⟨r.val % 8192, by omega⟩ k) := by
  unfold V
  after_reads_at

theorem index_resid : ∀ t : Fin cfg0.N, (cfg0.win 4).index t = ![(grid0.coords t 0).val, 0] := by
  decide +kernel

/-- The residual: the block of a grid point. -/
theorem blk_resid (t : Fin cfg0.N) (a : Fin 512) (k : Fin 2048) (r : Fin 16384) (h : r.val = (grid0.coords t 0).val * 512 + a.val) :
    (iblk m c 4 t : FVec Ideal S512x2048 .f32) (ix2 a k) = arg3 m c (ix3 ⟨r.val / 8192, by omega⟩ ⟨r.val % 8192, by omega⟩ k) := by
  rw [← resid_apply]
  have e := index_resid t
  blk_simp [iblk]
  refine congrArg (V m c main_v6) (funext fun z => Fin.ext ?_)
  match z with
  | ⟨0, _⟩ =>
    refine (Pipeline.Window.rect_emb_val (cfg0.win 4) t _ ⟨0, by decide⟩).trans ?_
    rw [e]
    exact h.symm
  | ⟨1, _⟩ =>
    refine (Pipeline.Window.rect_emb_val (cfg0.win 4) t _ ⟨1, by decide⟩).trans ?_
    rw [e]
    show 0 * 2048 + k.val = k.val
    omega

/-- The scale: the array handed to the kernel. -/
theorem scale_apply (j : Fin 2048) :
    (V (F := Ideal) m c main_v11 : FVec Ideal S1x2048 .f32) (ix2 0 j) = arg4 m c (ix2 1 j) := by
  unfold V
  after_reads_at

theorem index_scale : ∀ t : Fin cfg0.N, (cfg0.win 5).index t = ![0, 0] := by
  decide +kernel

/-- The scale: the block of a grid point. -/
theorem blk_scale (t : Fin cfg0.N) (j : Fin 2048) :
    (iblk m c 5 t : FVec Ideal S1x2048 .f32) (ix2 0 j) = arg4 m c (ix2 1 j) := by
  rw [← scale_apply]
  have e := index_scale t
  blk_simp [iblk]
  refine congrArg (V m c main_v11) (funext fun z => Fin.ext ?_)
  match z with
  | ⟨0, _⟩ =>
    refine (Pipeline.Window.rect_emb_val (cfg0.win 5) t _ ⟨0, by decide⟩).trans ?_
    rw [e]
    show 0 * 1 + 0 = 0
    omega
  | ⟨1, _⟩ =>
    refine (Pipeline.Window.rect_emb_val (cfg0.win 5) t _ ⟨1, by decide⟩).trans ?_
    rw [e]
    show 0 * 2048 + j.val = j.val
    omega

/-- The shift: the array handed to the kernel. -/
theorem shift_apply (j : Fin 2048) :
    (V (F := Ideal) m c main_v12 : FVec Ideal S1x2048 .f32) (ix2 0 j) = arg5 m c (ix2 1 j) := by
  unfold V
  after_reads_at

theorem index_shift : ∀ t : Fin cfg0.N, (cfg0.win 6).index t = ![0, 0] := by
  decide +kernel

/-- The shift: the block of a grid point. -/
theorem blk_shift (t : Fin cfg0.N) (j : Fin 2048) :
    (iblk m c 6 t : FVec Ideal S1x2048 .f32) (ix2 0 j) = arg5 m c (ix2 1 j) := by
  rw [← shift_apply]
  have e := index_shift t
  blk_simp [iblk]
  refine congrArg (V m c main_v12) (funext fun z => Fin.ext ?_)
  match z with
  | ⟨0, _⟩ =>
    refine (Pipeline.Window.rect_emb_val (cfg0.win 6) t _ ⟨0, by decide⟩).trans ?_
    rw [e]
    show 0 * 1 + 0 = 0
    omega
  | ⟨1, _⟩ =>
    refine (Pipeline.Window.rect_emb_val (cfg0.win 6) t _ ⟨1, by decide⟩).trans ?_
    rw [e]
    show 0 * 2048 + j.val = j.val
    omega

/-- The gate's nonlinearity, in its form with a hyperbolic tangent. -/
def gelu (x : EReal) : EReal :=
  x * (Ideal.ofBits FTy.f32 1056964608#32 * (1
    + Ideal.tanh (Ideal.ofBits FTy.f32 1061962282#32 * (x + Ideal.ofBits FTy.f32 1027024659#32 * (x * (x * x))))))

/-- What a grid point writes, from its blocks. -/
theorem pay_apply (x : FVec Ideal S512x2048 .bf16) (y0 y1 : FVec Ideal S1x512x2048 .bf16) (w : FVec Ideal S2048x2048 .bf16)
    (h : FVec Ideal S512x2048 .f32) (g b : FVec Ideal S1x2048 .f32) (a : Fin 512) (j : Fin 2048) :
    k0_pay1 (F := Ideal) (k0_pay3 x y0 y1 w h) (k0_pay4 g) (k0_pay5 b) (ix2 a j)
      = normed (fun k => alpha * h (ix2 a k)
            + ∑ i : Fin 2048, gelu (x (ix2 a i)) * (y0 (ix3 0 a i) + y1 (ix3 0 a i)) * w (ix2 i k))
          (g (ix2 0 j)) (b (ix2 0 j)) j := by
  pointwise [k0_pay1, k0_pay3, k0_pay4, k0_pay5]
  rfl

/-- The reference's cube has its factors in another order. -/
theorem gelu_eq (x : EReal) :
    x * (Ideal.ofBits FTy.f32 1056964608#32 * (1
      + Ideal.tanh (Ideal.ofBits FTy.f32 1061962282#32 * (x + Ideal.ofBits FTy.f32 1027024659#32 * (x * x * x))))) = gelu x := by
  unfold gelu
  rw [mul_comm (x * x) x]

/-- The reference at an index. -/
theorem ref_apply (x : FVec Ideal S2x8192x4096 .f32) (y : FVec Ideal S2x2x8192x2048 .f32) (w : FVec Ideal S1x2048x2048 .f32)
    (h : FVec Ideal S2x8192x2048 .f32) (g b : FVec Ideal S2x2048 .f32) (r : Fin 16384) (j : Fin 2048) :
    val_main_v54 (F := Ideal) x y w h g b (ix2 r j)
      = normed (fun k => alpha * h (ix3 ⟨r.val / 8192, by omega⟩ ⟨r.val % 8192, by omega⟩ k)
            + ∑ i : Fin 2048, gelu (x (ix3 ⟨r.val / 8192, by omega⟩ ⟨r.val % 8192, by omega⟩ ⟨i.val, by omega⟩)) * (y (ix4 0 ⟨r.val / 8192, by omega⟩ ⟨r.val % 8192, by omega⟩ i) + y (ix4 1 ⟨r.val / 8192, by omega⟩ ⟨r.val % 8192, by omega⟩ i)) * w (ix3 0 i k))
          (g (ix2 1 j)) (b (ix2 1 j)) j := by
  simp only [← gelu_eq]
  pointwise [val_main_v54, val_main_v53, val_main_v52, val_main_v51, val_main_v50, val_main_v49, val_main_v48, val_main_v47, val_main_v46, val_main_v45, val_main_v44, val_main_v43, val_main_cst_8, val_main_v42, val_main_v41, val_main_v40, val_main_v39, val_main_cst_7, val_main_v38, val_main_v37, val_main_cst_6, val_main_v36, val_main_v35, val_main_v34, val_main_v33, val_main_v32, val_main_cst_5, val_main_v31, val_main_v30, val_main_cst_4, val_main_v29, val_main_v28, val_main_v27, val_main_v26, val_main_v25, val_main_v24, val_main_v23, val_main_cst_3, val_main_v22, val_main_v21, val_main_v20, val_main_v19, val_main_v18, val_main_v17, val_main_cst_2, val_main_v16, val_main_v15, val_main_cst_1, val_main_v14, val_main_v13, val_main_v12, val_main_cst_0, val_main_v11, val_main_v10, val_main_v9, val_main_cst, val_main_v8, val_main_v7, val_main_v6, val_main_v5, val_main_v4, val_main_v3, val_main_v2, val_main_v1, val_main_v0]
  rfl

theorem index_out : ∀ t : Fin cfg0.N, (cfg0.win 7).index t = ![(grid0.coords t 0).val, 0] := by
  decide +kernel

theorem covers : (cfg0.win 7).Covers := by decide +kernel

/-- The array the grid points leave. -/
theorem final : (dats m 0 c).arrAt 7 cfg0.N = val_main_v54 (F := Ideal) (arg0 m c) (arg1 m c) (arg2 m c) (arg3 m c) (arg4 m c) (arg5 m c) := by
  refine (dats m 0 c).arrAt_eq_of_covers 7 _ covers fun t hf y => ?_
  blk_simp
  rw [after0_7]
  unfold_out out0_7
  frame_out
  have hr : (grid0.coords t 0).val < 32 := (grid0.coords t 0).isLt
  have h0 : (y 0).val < 512 := (y 0).isLt
  have h1 : (y 1).val < 2048 := (y 1).isLt
  let r : Fin 16384 := ⟨(grid0.coords t 0).val * 512 + (y 0).val, by omega⟩
  let j : Fin 2048 := y 1
  have ey : (y : S512x2048.Idx) = ix2 (y 0) (y 1) := ValueIdx.eq_ix2 _
  have ez : ((View.whole main_v13_0).slice (win0_7.rect t)).emb y = ix2 r j := by
    have e := index_out t
    refine funext fun z => Fin.ext ?_
    match z with
    | ⟨0, _⟩ => refine (Pipeline.Window.rect_emb_val (cfg0.win 7) t y ⟨0, by decide⟩).trans ?_; rw [e]; rfl
    | ⟨1, _⟩ =>
      refine (Pipeline.Window.rect_emb_val (cfg0.win 7) t y ⟨1, by decide⟩).trans ?_
      rw [e]
      show 0 * 2048 + (y 1).val = (y 1).val
      omega
  rw [ez, ref_apply]
  refine (congrArg _ ey).trans ((pay_apply _ _ _ _ _ _ _ (y 0) (y 1)).trans ?_)
  refine normed_congr _ (fun k => ?_) (blk_scale m c t _) (blk_shift m c t _)
  refine congrArg₂ (fun a b : EReal => a + b) (congrArg (fun a : EReal => alpha * a) (blk_resid m c t _ k r rfl)) ?_
  refine Finset.sum_congr rfl fun i _ => congrArg₂ (fun a b : EReal => a * b) ?_ (blk_weights m c t i k)
  refine congrArg₂ (fun a b : EReal => a * b) (congrArg gelu (blk_branch m c t _ i r _ rfl rfl)) ?_
  exact congrArg₂ (fun a b : EReal => a + b) (blk_forward m c t _ i r rfl) (blk_backward m c t _ i r rfl)

theorem frame_ri : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

/-- In exact arithmetic the kernel's result array is the reference's. -/
theorem algebraic : Cert.algebraic_Kernel8Ideal_Reference8Ideal := by
  pair_intro
  · run_from Cert.Kernel8Ideal.Value.run_blocks m g
  · run_from Cert.Reference8Ideal.Value.run m' g'
    rw [final m c]
    obtain ⟨e0, e1, e2, e3, e4, e5⟩ := hagree c
    refine (Cert.Reference8Ideal.Read.val_main_v54_eq m' c).trans ?_
    unfold arg0 arg1 arg2 arg3 arg4 arg5
    rw [e0, e1, e2, e3, e4, e5]

/-- The rounded halves and the words that hold them carry the same values. -/
theorem preserves : Cert.preserves_Kernel8_Kernel8Ideal :=
  ⟨IdealRules.bf16_pair.bufferStatement _ _, IdealRules.bf16_pair.bufferStatement _ _,
    IdealRules.bf16_pair.statement _ _, IdealRules.bf16_pack.statement _⟩

end Cert.Proof.OutOdd

end
-- ==== Proof.Combine.lean ====
/- The last step of the last layer: each block the kernel writes is the reference's. -/
module

public import proofs.«01_k».proof.Defs
public import proofs.«01_k».proof.Proof.LayerNorm
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise
public import Idealize.ShloMosaic.Lib.StableHlo.ReadAt
public import Idealize.ShloMosaic.Lib.Pipeline.ValueKit
public import Idealize.ShloMosaic.Lib.Claim

@[expose] public section

set_option maxRecDepth 16384

noncomputable section

namespace Cert.Proof.Combine

open Cert.Kernel9Ideal Cert.Kernel9Ideal.Gen Idealize.ShloMosaic Idealize.ShloMosaic.Pointwise Idealize.SL.Sem
open Cert.Reference9Ideal.Read

variable (m : (ℓ : Loc nD τ sig) → Buf (Elt Ideal) ℓ) (c : Dev nD)

/-- The arguments. -/
abbrev arg0 : FVec Ideal S2x8192x2048 .f32 := m ((c.tc : Thread nD τ).loc main_arg0)
abbrev arg1 : FVec Ideal S2x2x8192x2048 .f32 := m ((c.tc : Thread nD τ).loc main_arg1)
abbrev arg2 : FVec Ideal S2x2x8192 .f32 := m ((c.tc : Thread nD τ).loc main_arg2)
abbrev arg3 : FVec Ideal S2x2048 .f32 := m ((c.tc : Thread nD τ).loc main_arg3)
abbrev arg4 : FVec Ideal S2x2048 .f32 := m ((c.tc : Thread nD τ).loc main_arg4)

/-- The residual: the array handed to the kernel. -/
theorem resid_apply (r : Fin 16384) (k : Fin 2048) :
    (V (F := Ideal) m c main_v0 : FVec Ideal S16384x2048 .f32) (ix2 r k) = arg0 m c (ix3 ⟨r.val / 8192, by omega⟩ ⟨r.val % 8192, by omega⟩ k) := by
  unfold V
  after_reads_at

theorem index_resid : ∀ t : Fin cfg0.N, (cfg0.win 0).index t = ![(grid0.coords t 0).val, 0] := by
  decide +kernel

/-- The residual: the block of a grid point. -/
theorem blk_resid (t : Fin cfg0.N) (a : Fin 512) (k : Fin 2048) (r : Fin 16384) (h : r.val = (grid0.coords t 0).val * 512 + a.val) :
    (iblk m c 0 t : FVec Ideal S512x2048 .f32) (ix2 a k) = arg0 m c (ix3 ⟨r.val / 8192, by omega⟩ ⟨r.val % 8192, by omega⟩ k) := by
  rw [← resid_apply]
  have e := index_resid t
  blk_simp [iblk]
  refine congrArg (V m c main_v0) (funext fun z => Fin.ext ?_)
  match z with
  | ⟨0, _⟩ =>
    refine (Pipeline.Window.rect_emb_val (cfg0.win 0) t _ ⟨0, by decide⟩).trans ?_
    rw [e]
    exact h.symm
  | ⟨1, _⟩ =>
    refine (Pipeline.Window.rect_emb_val (cfg0.win 0) t _ ⟨1, by decide⟩).trans ?_
    rw [e]
    show 0 * 2048 + k.val = k.val
    omega

/-- The rows of the first choice: the array handed to the kernel. -/
theorem first_apply (p : Fin 32768) (r : Fin 16384) (k : Fin 2048) (h : p.val = 0 + r.val) :
    (V (F := Ideal) m c main_v2 : FVec Ideal S32768x2048 .bf16) (ix2 p k)
      = arg1 m c (ix4 0 ⟨r.val / 8192, by omega⟩ ⟨r.val % 8192, by omega⟩ k) := by
  have e : (V (F := Ideal) m c main_v2 : FVec Ideal S32768x2048 .bf16) (ix2 p k)
      = arg1 m c (ix4 ⟨p.val / 16384, by omega⟩ ⟨p.val / 8192 % 2, by omega⟩ ⟨p.val % 8192, by omega⟩ k) := by
    unfold V
    after_reads_at
  rw [e]
  refine congrArg (arg1 m c) (funext fun z => Fin.ext ?_)
  match z with
  | ⟨0, _⟩ => show p.val / 16384 = 0; omega
  | ⟨1, _⟩ => show p.val / 8192 % 2 = r.val / 8192; omega
  | ⟨2, _⟩ => show p.val % 8192 = r.val % 8192; omega
  | ⟨3, _⟩ => rfl

theorem index_first : ∀ t : Fin cfg0.N, (cfg0.win 1).index t = ![(grid0.coords t 0).val, 0] := by
  decide +kernel

/-- The rows of the first choice: the block of a grid point. -/
theorem blk_first (t : Fin cfg0.N) (a : Fin 512) (k : Fin 2048) (r : Fin 16384) (h : r.val = (grid0.coords t 0).val * 512 + a.val) :
    (iblk m c 1 t : FVec Ideal S512x2048 .bf16) (ix2 a k) = arg1 m c (ix4 0 ⟨r.val / 8192, by omega⟩ ⟨r.val % 8192, by omega⟩ k) := by
  rw [← first_apply m c ⟨0 + r.val, by omega⟩ r k rfl]
  have e := index_first t
  blk_simp [iblk]
  refine congrArg (V m c main_v2) (funext fun z => Fin.ext ?_)
  match z with
  | ⟨0, _⟩ =>
    refine (Pipeline.Window.rect_emb_val (cfg0.win 1) t _ ⟨0, by decide⟩).trans ?_
    rw [e]
    show ((grid0.coords t 0).val) * 512 + a.val = r.val
    omega
  | ⟨1, _⟩ =>
    refine (Pipeline.Window.rect_emb_val (cfg0.win 1) t _ ⟨1, by decide⟩).trans ?_
    rw [e]
    show 0 * 2048 + k.val = k.val
    omega

/-- The rows of the second choice: the array handed to the kernel. -/
theorem second_apply (p : Fin 32768) (r : Fin 16384) (k : Fin 2048) (h : p.val = 16384 + r.val) :
    (V (F := Ideal) m c main_v2 : FVec Ideal S32768x2048 .bf16) (ix2 p k)
      = arg1 m c (ix4 1 ⟨r.val / 8192, by omega⟩ ⟨r.val % 8192, by omega⟩ k) := by
  have e : (V (F := Ideal) m c main_v2 : FVec Ideal S32768x2048 .bf16) (ix2 p k)
      = arg1 m c (ix4 ⟨p.val / 16384, by omega⟩ ⟨p.val / 8192 % 2, by omega⟩ ⟨p.val % 8192, by omega⟩ k) := by
    unfold V
    after_reads_at
  rw [e]
  refine congrArg (arg1 m c) (funext fun z => Fin.ext ?_)
  match z with
  | ⟨0, _⟩ => show p.val / 16384 = 1; omega
  | ⟨1, _⟩ => show p.val / 8192 % 2 = r.val / 8192; omega
  | ⟨2, _⟩ => show p.val % 8192 = r.val % 8192; omega
  | ⟨3, _⟩ => rfl

theorem index_second : ∀ t : Fin cfg0.N, (cfg0.win 2).index t = ![32 + (grid0.coords t 0).val, 0] := by
  decide +kernel

/-- The rows of the second choice: the block of a grid point. -/
theorem blk_second (t : Fin cfg0.N) (a : Fin 512) (k : Fin 2048) (r : Fin 16384) (h : r.val = (grid0.coords t 0).val * 512 + a.val) :
    (iblk m c 2 t : FVec Ideal S512x2048 .bf16) (ix2 a k) = arg1 m c (ix4 1 ⟨r.val / 8192, by omega⟩ ⟨r.val % 8192, by omega⟩ k) := by
  rw [← second_apply m c ⟨16384 + r.val, by omega⟩ r k rfl]
  have e := index_second t
  blk_simp [iblk]
  refine congrArg (V m c main_v2) (funext fun z => Fin.ext ?_)
  match z with
  | ⟨0, _⟩ =>
    refine (Pipeline.Window.rect_emb_val (cfg0.win 2) t _ ⟨0, by decide⟩).trans ?_
    rw [e]
    show (32 + (grid0.coords t 0).val) * 512 + a.val = 16384 + r.val
    omega
  | ⟨1, _⟩ =>
    refine (Pipeline.Window.rect_emb_val (cfg0.win 2) t _ ⟨1, by decide⟩).trans ?_
    rw [e]
    show 0 * 2048 + k.val = k.val
    omega

/-- The gates: the array handed to the kernel. -/
theorem gate_apply (r : Fin 16384) (k : Fin 2) :
    (V (F := Ideal) m c main_v4 : FVec Ideal S16384x2 .f32) (ix2 r k) = arg2 m c (ix3 k ⟨r.val / 8192, by omega⟩ ⟨r.val % 8192, by omega⟩) := by
  unfold V
  after_reads_at

theorem index_gate : ∀ t : Fin cfg0.N, (cfg0.win 3).index t = ![(grid0.coords t 0).val, 0] := by
  decide +kernel

/-- The gates: the block of a grid point. -/
theorem blk_gate (t : Fin cfg0.N) (a : Fin 512) (k : Fin 2) (r : Fin 16384) (h : r.val = (grid0.coords t 0).val * 512 + a.val) :
    (iblk m c 3 t : FVec Ideal S512x2 .f32) (ix2 a k) = arg2 m c (ix3 k ⟨r.val / 8192, by omega⟩ ⟨r.val % 8192, by omega⟩) := by
  rw [← gate_apply]
  have e := index_gate t
  blk_simp [iblk]
  refine congrArg (V m c main_v4) (funext fun z => Fin.ext ?_)
  match z with
  | ⟨0, _⟩ =>
    refine (Pipeline.Window.rect_emb_val (cfg0.win 3) t _ ⟨0, by decide⟩).trans ?_
    rw [e]
    exact h.symm
  | ⟨1, _⟩ =>
    refine (Pipeline.Window.rect_emb_val (cfg0.win 3) t _ ⟨1, by decide⟩).trans ?_
    rw [e]
    show 0 * 2 + k.val = k.val
    omega

/-- The scale: the array handed to the kernel. -/
theorem scale_apply (j : Fin 2048) :
    (V (F := Ideal) m c main_v9 : FVec Ideal S1x2048 .f32) (ix2 0 j) = arg3 m c (ix2 1 j) := by
  unfold V
  after_reads_at

theorem index_scale : ∀ t : Fin cfg0.N, (cfg0.win 4).index t = ![0, 0] := by
  decide +kernel

/-- The scale: the block of a grid point. -/
theorem blk_scale (t : Fin cfg0.N) (j : Fin 2048) :
    (iblk m c 4 t : FVec Ideal S1x2048 .f32) (ix2 0 j) = arg3 m c (ix2 1 j) := by
  rw [← scale_apply]
  have e := index_scale t
  blk_simp [iblk]
  refine congrArg (V m c main_v9) (funext fun z => Fin.ext ?_)
  match z with
  | ⟨0, _⟩ =>
    refine (Pipeline.Window.rect_emb_val (cfg0.win 4) t _ ⟨0, by decide⟩).trans ?_
    rw [e]
    show 0 * 1 + 0 = 0
    omega
  | ⟨1, _⟩ =>
    refine (Pipeline.Window.rect_emb_val (cfg0.win 4) t _ ⟨1, by decide⟩).trans ?_
    rw [e]
    show 0 * 2048 + j.val = j.val
    omega

/-- The shift: the array handed to the kernel. -/
theorem shift_apply (j : Fin 2048) :
    (V (F := Ideal) m c main_v10 : FVec Ideal S1x2048 .f32) (ix2 0 j) = arg4 m c (ix2 1 j) := by
  unfold V
  after_reads_at

theorem index_shift : ∀ t : Fin cfg0.N, (cfg0.win 5).index t = ![0, 0] := by
  decide +kernel

/-- The shift: the block of a grid point. -/
theorem blk_shift (t : Fin cfg0.N) (j : Fin 2048) :
    (iblk m c 5 t : FVec Ideal S1x2048 .f32) (ix2 0 j) = arg4 m c (ix2 1 j) := by
  rw [← shift_apply]
  have e := index_shift t
  blk_simp [iblk]
  refine congrArg (V m c main_v10) (funext fun z => Fin.ext ?_)
  match z with
  | ⟨0, _⟩ =>
    refine (Pipeline.Window.rect_emb_val (cfg0.win 5) t _ ⟨0, by decide⟩).trans ?_
    rw [e]
    show 0 * 1 + 0 = 0
    omega
  | ⟨1, _⟩ =>
    refine (Pipeline.Window.rect_emb_val (cfg0.win 5) t _ ⟨1, by decide⟩).trans ?_
    rw [e]
    show 0 * 2048 + j.val = j.val
    omega

/-- What a grid point writes, from its blocks. -/
theorem pay_apply (x : FVec Ideal S512x2 .f32) (y0 y1 : FVec Ideal S512x2048 .bf16) (h : FVec Ideal S512x2048 .f32)
    (g b : FVec Ideal S1x2048 .f32) (a : Fin 512) (j : Fin 2048) :
    k0_pay1 (F := Ideal) (k0_pay2 b) (k0_pay3 x y0 y1 h) (k0_pay4 g) (ix2 a j)
      = normed (fun k => alpha * h (ix2 a k) + (x (ix2 a 0) * y0 (ix2 a k) + x (ix2 a 1) * y1 (ix2 a k)))
          (g (ix2 0 j)) (b (ix2 0 j)) j := by
  pointwise [k0_pay1, k0_pay2, k0_pay3, k0_pay4]
  rfl

/-- The reference at an index. -/
theorem ref_apply (h : FVec Ideal S2x8192x2048 .f32) (y : FVec Ideal S2x2x8192x2048 .f32) (x : FVec Ideal S2x2x8192 .f32)
    (g b : FVec Ideal S2x2048 .f32) (r : Fin 16384) (j : Fin 2048) :
    val_main_v35 (F := Ideal) h y x g b (ix2 r j)
      = normed (fun k => alpha * h (ix3 ⟨r.val / 8192, by omega⟩ ⟨r.val % 8192, by omega⟩ k) + ∑ q : Fin 2, y (ix4 q ⟨r.val / 8192, by omega⟩ ⟨r.val % 8192, by omega⟩ k) * x (ix3 q ⟨r.val / 8192, by omega⟩ ⟨r.val % 8192, by omega⟩))
          (g (ix2 1 j)) (b (ix2 1 j)) j := by
  pointwise [val_main_v35, val_main_v34, val_main_v33, val_main_v32, val_main_v31, val_main_v30, val_main_v29, val_main_v28, val_main_v27, val_main_v26, val_main_v25, val_main_v24, val_main_cst_5, val_main_v23, val_main_v22, val_main_v21, val_main_v20, val_main_cst_4, val_main_v19, val_main_v18, val_main_cst_3, val_main_v17, val_main_v16, val_main_v15, val_main_v14, val_main_v13, val_main_cst_2, val_main_v12, val_main_v11, val_main_cst_1, val_main_v10, val_main_v9, val_main_v8, val_main_v7, val_main_v6, val_main_v5, val_main_v4, val_main_cst_0, val_main_v3, val_main_cst, val_main_v2, val_main_v1, val_main_v0]
  rfl

theorem index_out : ∀ t : Fin cfg0.N, (cfg0.win 6).index t = ![(grid0.coords t 0).val, 0] := by
  decide +kernel

theorem covers : (cfg0.win 6).Covers := by decide +kernel

/-- The array the grid points leave. -/
theorem final : (dats m 0 c).arrAt 6 cfg0.N = val_main_v35 (F := Ideal) (arg0 m c) (arg1 m c) (arg2 m c) (arg3 m c) (arg4 m c) := by
  refine (dats m 0 c).arrAt_eq_of_covers 6 _ covers fun t hf y => ?_
  blk_simp
  rw [after0_6]
  frame_out
  have hr : (grid0.coords t 0).val < 32 := (grid0.coords t 0).isLt
  have h0 : (y 0).val < 512 := (y 0).isLt
  have h1 : (y 1).val < 2048 := (y 1).isLt
  let r : Fin 16384 := ⟨(grid0.coords t 0).val * 512 + (y 0).val, by omega⟩
  let j : Fin 2048 := y 1
  have ey : (y : S512x2048.Idx) = ix2 (y 0) (y 1) := ValueIdx.eq_ix2 _
  have ez : ((View.whole main_v11).slice (win0_6.rect t)).emb y = ix2 r j := by
    have e := index_out t
    refine funext fun z => Fin.ext ?_
    match z with
    | ⟨0, _⟩ => refine (Pipeline.Window.rect_emb_val (cfg0.win 6) t y ⟨0, by decide⟩).trans ?_; rw [e]; rfl
    | ⟨1, _⟩ =>
      refine (Pipeline.Window.rect_emb_val (cfg0.win 6) t y ⟨1, by decide⟩).trans ?_
      rw [e]
      show 0 * 2048 + (y 1).val = (y 1).val
      omega
  rw [ez, ref_apply]
  refine (congrArg _ ey).trans ((pay_apply _ _ _ _ _ _ (y 0) (y 1)).trans ?_)
  refine normed_congr _ (fun k => ?_) (blk_scale m c t _) (blk_shift m c t _)
  rw [Fin.sum_univ_two]
  refine congrArg₂ (fun a b : EReal => a + b) (congrArg (fun a : EReal => alpha * a) (blk_resid m c t _ k r rfl)) ?_
  refine congrArg₂ (fun a b : EReal => a + b) ?_ ?_
  · exact (congrArg₂ (fun a b : EReal => a * b) (blk_gate m c t _ 0 r rfl) (blk_first m c t _ k r rfl)).trans (mul_comm _ _)
  · exact (congrArg₂ (fun a b : EReal => a * b) (blk_gate m c t _ 1 r rfl) (blk_second m c t _ k r rfl)).trans (mul_comm _ _)

theorem frame_ri : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

/-- In exact arithmetic the kernel's result array is the reference's. -/
theorem algebraic : Cert.algebraic_Kernel9Ideal_Reference9Ideal := by
  pair_intro
  · run_from Cert.Kernel9Ideal.Value.run_blocks m g
  · run_from Cert.Reference9Ideal.Value.run m' g'
    rw [final m c]
    obtain ⟨e0, e1, e2, e3, e4⟩ := hagree c
    refine (Cert.Reference9Ideal.Read.val_main_v35_eq m' c).trans ?_
    unfold arg0 arg1 arg2 arg3 arg4
    rw [e0, e1, e2, e3, e4]

end Cert.Proof.Combine

end
-- ==== Proof.TopTwo.lean ====
/-
  The greatest entry of a finite family of extended reals and the greatest of the others, each with its first index on
  a tie. A stable sort "greater first" puts the two first; taking the maximum, then the least index that attains it,
  finds the same two.
-/
module

public import Idealize.ShloMosaic.Lib.SortFacts
public import Idealize.ShloMosaic.Lib.SortPrefix
public import Idealize.ShloMosaic.PureOps.Ideal
public import Idealize.ShloMosaic.PureOps.Reduce

@[expose] public section

namespace Cert.Proof.TopTwo

open Idealize.ShloMosaic

variable {n : Nat}

/-- `i` is the first index of the greatest entry of `x`. -/
structure First (x : Fin n → EReal) (i : Fin n) : Prop where
  le : ∀ k, x k ≤ x i
  lt : ∀ k, k < i → x k < x i

/-- `j` is the first index of the greatest entry of `x` among the indices other than `i`. -/
structure Second (x : Fin n → EReal) (i j : Fin n) : Prop where
  ne : j ≠ i
  le : ∀ k, k ≠ i → x k ≤ x j
  lt : ∀ k, k ≠ i → k < j → x k < x j

/-- Among the indices of a nonempty set one is the first of a greatest entry. -/
theorem exists_first_on (x : Fin n → EReal) (S : Finset (Fin n)) (h : S.Nonempty) :
    ∃ i ∈ S, (∀ k ∈ S, x k ≤ x i) ∧ ∀ k ∈ S, k < i → x k < x i := by
  obtain ⟨m, hm, hmax⟩ := S.exists_max_image x h
  have hne : (S.filter fun k => x k = x m).Nonempty := ⟨m, by simp [hm]⟩
  have hmin := Finset.min'_mem _ hne
  set i := (S.filter fun k => x k = x m).min' hne with hi
  obtain ⟨hiS, hix⟩ := Finset.mem_filter.mp hmin
  refine ⟨i, hiS, fun k hk => hix ▸ hmax k hk, fun k hk hlt => ?_⟩
  rcases (hmax k hk).lt_or_eq with h' | h'
  · rw [hix]; exact h'
  · exact absurd (Finset.min'_le _ k (Finset.mem_filter.mpr ⟨hk, h'⟩)) (not_le.mpr (hi ▸ hlt))

theorem exists_first [NeZero n] (x : Fin n → EReal) : ∃ i, First x i := by
  obtain ⟨i, -, h, h'⟩ := exists_first_on x Finset.univ ⟨0, Finset.mem_univ _⟩
  exact ⟨i, fun k => h k (Finset.mem_univ k), fun k => h' k (Finset.mem_univ k)⟩

theorem exists_second (x : Fin n → EReal) (i : Fin n) (hn : 2 ≤ n) : ∃ j, Second x i j := by
  have hne : ((Finset.univ : Finset (Fin n)).erase i).Nonempty := by
    rw [← Finset.card_pos, Finset.card_erase_of_mem (Finset.mem_univ i), Finset.card_univ, Fintype.card_fin]; omega
  obtain ⟨j, hj, h, h'⟩ := exists_first_on x _ hne
  exact ⟨j, Finset.ne_of_mem_erase hj, fun k hk => h k (Finset.mem_erase.mpr ⟨hk, Finset.mem_univ k⟩),
    fun k hk => h' k (Finset.mem_erase.mpr ⟨hk, Finset.mem_univ k⟩)⟩

/-! ## The stable sort -/

/-- "Greater, or equal at an earlier index": the strict total order a stable sort "greater first" sorts by. -/
noncomputable def before (x : Fin n → EReal) (k k' : Fin n) : Bool :=
  decide (x k' < x k) || (decide (x k = x k') && decide (k < k'))

theorem before_total (x : Fin n → EReal) : StrictTotalBefore (before x) :=
  StrictTotalBefore.of_key_then_position (fun a b : EReal => decide (b < a)) x (fun a => by simp)
    (fun a b c hab hbc => by simp only [decide_eq_true_eq] at *; exact hbc.trans hab)
    (fun a b => by simp only [decide_eq_true_eq]; rcases lt_trichotomy a b with h | h | h <;> simp [h])

/-- The stable sort "greater first" is the sort by that order: an element is only inserted into later ones. -/
theorem stableSort_eq (x : Fin n → EReal) (l : List (Fin n)) (hl : l.Pairwise (· < ·)) :
    stableSort (fun k k' => decide (x k' < x k)) l
      = stableSort (before x) l := by
  induction l with
  | nil => rfl
  | cons a l ih =>
    obtain ⟨ha, hl⟩ := List.pairwise_cons.mp hl
    unfold stableSort
    rw [ih hl]
    refine insertBefore_congr _ _ a _ fun b hb => ?_
    have hab : a < b := ha b ((perm_stableSort _ l).mem_iff.mp hb)
    simp [before, not_lt.mpr hab.le]

theorem sortedFrom_eq (x : Fin n → EReal) :
    sortedFrom (fun k k' => decide (x k' < x k)) = sortedFrom (before x) := by
  have h : sortPositions n (fun k k' => decide (x k' < x k)) = sortPositions n (before x) :=
    stableSort_eq x _ (List.pairwise_lt_finRange n)
  funext k
  unfold sortedFrom
  simp only [List.get_eq_getElem, h, Fin.val_cast]

/-- The sort's first place holds the first index of the greatest entry. -/
theorem sortedFrom_first (x : Fin n → EReal) (i : Fin n) (h : First x i) (q : Fin n) (hq : q.val = 0) :
    sortedFrom (fun k k' => decide (x k' < x k)) q = i := by
  have hn : 1 ≤ n := Nat.one_le_of_lt q.isLt
  rw [sortedFrom_eq]
  have := (before_total x).sortedFrom_eq_of_prefix (k := 1) hn (fun _ => i) (fun a b _ => Subsingleton.elim a b)
    (fun a b hab => absurd (Subsingleton.elim a b) hab.ne)
    (fun _ p hp => by
      have hp : i ≠ p := hp 0
      simp only [before, Bool.or_eq_false_iff, decide_eq_false_iff_not, not_lt, Bool.and_eq_false_iff]
      refine ⟨h.le p, ?_⟩
      by_cases e : x p = x i
      · right; exact le_of_not_gt fun hlt => (h.lt p hlt).ne e
      · left; exact e) 0
  rw [← this]; congr 1; exact Fin.ext hq

/-- Its second place holds the first index of the greatest of the others. -/
theorem sortedFrom_second (x : Fin n → EReal) (i j : Fin n) (h : First x i) (h2 : Second x i j) (q : Fin n)
    (hq : q.val = 1) : sortedFrom (fun k k' => decide (x k' < x k)) q = j := by
  have hn : 2 ≤ n := by have := q.isLt; omega
  rw [sortedFrom_eq]
  have key : ∀ p, p ≠ i → before x p i = false := fun p hp => by
    simp only [before, Bool.or_eq_false_iff, decide_eq_false_iff_not, not_lt, Bool.and_eq_false_iff]
    refine ⟨h.le p, ?_⟩
    by_cases e : x p = x i
    · right; exact le_of_not_gt fun hlt => (h.lt p hlt).ne e
    · left; exact e
  have key2 : ∀ p, p ≠ i → p ≠ j → before x p j = false := fun p hp hpj => by
    simp only [before, Bool.or_eq_false_iff, decide_eq_false_iff_not, not_lt, Bool.and_eq_false_iff]
    refine ⟨h2.le p hp, ?_⟩
    by_cases e : x p = x j
    · right; exact le_of_not_gt fun hlt => (h2.lt p hp hlt).ne e
    · left; exact e
  have := (before_total x).sortedFrom_eq_of_prefix (k := 2) hn ![i, j]
    (fun a b hab => by
      fin_cases a <;> fin_cases b <;> first | rfl | exact absurd hab h2.ne.symm | exact absurd hab h2.ne)
    (fun a b hab => by
      fin_cases a <;> fin_cases b <;> first | exact absurd hab (by decide) | exact key j h2.ne)
    (fun a p hp => by
      have h0 : p ≠ i := fun e => hp 0 e.symm
      have h1 : p ≠ j := fun e => hp 1 e.symm
      fin_cases a
      · exact key p h0
      · exact key2 p h0 h1) 1
  show _ = (![i, j] : Fin 2 → Fin n) 1
  rw [← this]; congr 1; exact Fin.ext hq

/-! ## Maximum, then least index -/

theorem fold_max_first (x : Fin n → EReal) (i : Fin n) (h : First x i) :
    (Finset.univ : Finset (Fin n)).fold max ⊥ x = x i := by
  apply le_antisymm
  · exact (Finset.fold_max_le _).mpr ⟨bot_le, fun k _ => h.le k⟩
  · exact (Finset.le_fold_max _).mpr (Or.inr ⟨i, Finset.mem_univ i, le_rfl⟩)

/-- With the greatest entry put out of the way, what is left has the second as its first greatest entry. -/
theorem first_of_second (x : Fin n → EReal) (i j : Fin n) (h2 : Second x i j) (hx : ∀ k, ⊥ < x k) :
    First (fun k => if k = i then ⊥ else x k) j where
  le k := by
    simp only [if_neg h2.ne]
    split
    · exact bot_le
    · exact h2.le k ‹_›
  lt k hk := by
    simp only [if_neg h2.ne]
    split
    · exact hx j
    · exact h2.lt k ‹_› hk

theorem toInt_minsi (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.mp h)]

/-- The least of the index words, of those that attain the greatest entry, is the first such index's. -/
theorem fold_min_first (x : Fin n → EReal) (i : Fin n) (h : First x i) (hn : n < 2147483647) (g : Fin n → BitVec 32)
    (hg : ∀ k, g k = if x k = x i then BitVec.ofNat 32 k.val else BitVec.ofNat 32 n) :
    (Finset.univ : Finset (Fin n)).fold IntOp.minsi 2147483647#32 g = BitVec.ofNat 32 i.val := by
  have hv : ∀ v : Nat, v ≤ n → (BitVec.ofNat 32 v).toInt = v := fun v hv => by
    rw [BitVec.toInt_eq_toNat_of_lt (by simp only [BitVec.toNat_ofNat]; omega), BitVec.toNat_ofNat]
    congr 1; omega
  apply BitVec.eq_of_toInt_eq
  rw [← Finset.fold_hom (op' := min) (m := BitVec.toInt) (f := g) toInt_minsi, hv i.val i.isLt.le]
  apply le_antisymm
  · refine (Finset.fold_min_le _).mpr (Or.inr ⟨i, Finset.mem_univ i, ?_⟩)
    rw [hg, if_pos rfl, hv i.val i.isLt.le]
  · refine (Finset.le_fold_min _).mpr ⟨?_, fun k _ => ?_⟩
    · have := i.isLt
      rw [show (2147483647#32 : BitVec 32).toInt = 2147483647 from by decide]; omega
    · rw [hg]
      split
      · rename_i e
        rw [hv k.val k.isLt.le]
        have : ¬ k < i := fun hlt => (h.lt k hlt).ne e
        exact_mod_cast not_lt.mp this
      · rw [hv n le_rfl]; exact_mod_cast i.isLt.le

/-- Adding words of which all but one are zero gives that one. -/
theorem fold_add_single (i : Fin 4) (v g : Fin 4 → BitVec 32) (hg : ∀ k, g k = if k = i then v k else 0#32) :
    (Finset.univ : Finset (Fin 4)).fold IntOp.addi 0#32 g = v i := by
  have hu : (Finset.univ : Finset (Fin 4)) = {0, 1, 2, 3} := rfl
  rw [hu, Finset.fold_insert (by decide), Finset.fold_insert (by decide), Finset.fold_insert (by decide),
    Finset.fold_singleton, hg, hg, hg, hg]
  fin_cases i <;> simp [IntOp.addi]

/-- Index words are equal exactly when the indices are. -/
theorem ofNat_inj {k : Nat} (hk : k < 4294967296) (a b : Fin k) : BitVec.ofNat 32 a.val = BitVec.ofNat 32 b.val ↔ a = b := by
  constructor
  · intro e
    have := congrArg BitVec.toNat e
    simp only [BitVec.toNat_ofNat] at this
    have ha := a.isLt; have hb := b.isLt
    apply Fin.ext; omega
  · rintro rfl; rfl

end Cert.Proof.TopTwo
-- ==== Proof.RouterBlock.lean ====
/- The router's block of 1024 tokens, read token by token. -/
module

public import proofs.«01_k».proof.Defs
public import proofs.«01_k».proof.Proof.TopTwo
public import proofs.«01_k».proof.Proof.Gen.Kernel10Ideal.Skeleton
public import Idealize.ShloMosaic.Lib.Pointwise

@[expose] public section

set_option maxRecDepth 16384

noncomputable section

namespace Cert.Proof.Router

open Cert.Kernel10Ideal Cert.Kernel10Ideal.Gen Idealize.ShloMosaic Idealize.ShloMosaic.Pointwise
open TopTwo

/-- The word of −∞. -/
theorem negInf : Ideal.ofBits .f32 0xFF800000#32 = ⊥ := by simp [Ideal.ofBits, Ideal.ieee]

/-- A choice by comparing two index words is a choice by comparing the indices. -/
theorem select_index {α : Type} {k : Nat} (hk : k < 4294967296) (a b : Fin k) (u v : α) :
    Scalar.select (IntOp.cmpi .eq (BitVec.ofNat 32 a.val) (BitVec.ofNat 32 b.val)) u v = if a = b then u else v := by
  unfold Scalar.select IntOp.cmpi
  by_cases h : a = b
  · subst h; simp
  · have h' : BitVec.ofNat 32 a.val ≠ BitVec.ofNat 32 b.val := fun e => h ((ofNat_inj hk a b).mp e)
    rw [if_neg h, beq_false_of_ne h']; rfl

theorem select_ite {α : Type} (q : Prop) [Decidable q] (u v : α) :
    Scalar.select (if q then 1#1 else 0#1) u v = if q then u else v := by
  by_cases h : q <;> simp [Scalar.select, h]

section Part1

variable (v0 : Vec Ideal S1024x2048 .f32) (v6 v9 v12 : Vec Ideal S1x32x2048 .bf16) (v19 : Vec Ideal S4x8x1 .f32)

/-- The scores. -/
theorem pay4 (g : Fin 4) (e : Fin 8) (r : Fin 1024) (w x : Fin 2048 → ℝ)
    (hx : ∀ k, v0 (ix2 r k) = (x k : EReal)) (h6 : ∀ k, v6 (ix3 0 ⟨g.val * 8 + e.val, by omega⟩ k) = (w k : EReal))
    (h9 : ∀ k, v9 (ix3 0 ⟨g.val * 8 + e.val, by omega⟩ k) = (w k : EReal))
    (h12 : ∀ k, v12 (ix3 0 ⟨g.val * 8 + e.val, by omega⟩ k) = 0) :
    k0_pay4 (F := Ideal) v0 v6 v9 v12 (ix3 g e r) = Ideal.div 1 (1 + Ideal.exp (-∑ k, (x k : EReal) * (w k : EReal))) := by
  pointwise [k0_pay4]
  simp only [hx, h6, h9, h12, zero_mul, Finset.sum_const_zero, add_zero]
  have z : ∀ k, (w k : EReal) * ((x k : EReal) - (x k : EReal)) = 0 := fun k => by
    rw [← EReal.coe_sub, sub_self, EReal.coe_zero, mul_zero]
  simp only [z, Finset.sum_const_zero, add_zero, Ideal.logistic]
  simp only [mul_comm]

theorem pay5 (g : Fin 4) (e : Fin 8) (r : Fin 1024) :
    k0_pay5 (F := Ideal) v0 v6 v9 v12 v19 (ix3 g e r)
      = k0_pay4 (F := Ideal) v0 v6 v9 v12 (ix3 g e r) + v19 (ix3 g e 0) := by
  pointwise [k0_pay5]

/-- The greatest selection score of a group, its index, … -/
theorem pay6 (g : Fin 4) (r : Fin 1024) (i : Fin 8)
    (h : First (fun e => k0_pay5 (F := Ideal) v0 v6 v9 v12 v19 (ix3 g e r)) i) :
    k0_pay6 (F := Ideal) v0 v6 v9 v12 v19 (ix3 g 0 r) = k0_pay5 (F := Ideal) v0 v6 v9 v12 v19 (ix3 g i r) := by
  rw [← fold_max_first _ i h]
  pointwise [k0_pay6]
  rw [negInf]

theorem pay7 (g : Fin 4) (r : Fin 1024) (i : Fin 8)
    (h : First (fun e => k0_pay5 (F := Ideal) v0 v6 v9 v12 v19 (ix3 g e r)) i) :
    k0_pay7 (F := Ideal) v0 v6 v9 v12 v19 (ix3 g 0 r) = BitVec.ofNat 32 i.val := by
  pointwise [k0_pay7]
  rw [pay6 v0 v6 v9 v12 v19 g r i h]
  exact fold_min_first _ i h (by decide) _ fun k => rfl

/-- … the scores with that one put to −∞, … -/
theorem pay8 (g : Fin 4) (e : Fin 8) (r : Fin 1024) (i : Fin 8)
    (h : First (fun e => k0_pay5 (F := Ideal) v0 v6 v9 v12 v19 (ix3 g e r)) i) :
    k0_pay8 (F := Ideal) v0 v6 v9 v12 v19 (ix3 g e r)
      = if e = i then ⊥ else k0_pay5 (F := Ideal) v0 v6 v9 v12 v19 (ix3 g e r) := by
  pointwise [k0_pay8]
  rw [pay7 v0 v6 v9 v12 v19 g r i h, select_index (by decide), negInf]

/-- … and the greatest of the others. -/
theorem pay9 (g : Fin 4) (r : Fin 1024) (j : Fin 8)
    (h : First (fun e => k0_pay8 (F := Ideal) v0 v6 v9 v12 v19 (ix3 g e r)) j) :
    k0_pay9 (F := Ideal) v0 v6 v9 v12 v19 (ix2 g r) = k0_pay8 (F := Ideal) v0 v6 v9 v12 v19 (ix3 g j r) := by
  rw [← fold_max_first _ j h]
  pointwise [k0_pay9]
  rw [negInf]

end Part1

section Part2

variable (v18 : FVec Ideal S4x8x1024 .f32) (v25 : FVec Ideal S4x1x1024 .f32) (v31 : IVec S4x1x1024 32)
  (v35 : FVec Ideal S4x8x1024 .f32) (v36 : FVec Ideal S4x1024 .f32) (r : Fin 1024) (p : Fin 4)
  (hp : First (fun g => v25 (ix3 g 0 r) + v36 (ix2 g r)) p)

include hp

/-- The group of the greatest score, … -/
theorem pay11 : k0_pay11 (F := Ideal) v25 v36 (ix3 0 0 r) = BitVec.ofNat 32 p.val := by
  have hm := fold_max_first _ p hp
  pointwise [k0_pay11, k0_pay10]
  rw [negInf, hm]
  exact fold_min_first _ p hp (by decide) _ fun k => rfl

theorem pay12 (g : Fin 4) : k0_pay12 (F := Ideal) v25 v36 (ix3 g 0 r) = if g = p then 1#1 else 0#1 := by
  pointwise [k0_pay12]
  rw [pay11 v25 v36 r p hp]
  have := select_index (by decide) g p 1#1 0#1
  rw [← this]
  have hc : ∀ b : BitVec 1, b = Scalar.select b 1#1 0#1 := by decide
  exact hc _

/-- … the two indices in it, … -/
theorem pay13 : k0_pay13 (F := Ideal) v25 v31 v36 (ix2 0 r) = v31 (ix3 p 0 r) := by
  pointwise [k0_pay13]
  exact fold_add_single p (fun g => v31 (ix3 g 0 r)) _ fun k => by rw [pay12 v25 v36 r p hp, select_ite]

theorem pay14 (j : Fin 8) (hj : First (fun e => v35 (ix3 p e r)) j) (hv : v36 (ix2 p r) = v35 (ix3 p j r)) :
    k0_pay14 (F := Ideal) (iota .tc S4x8x1024 32 [1] iota_S4x8x1024_d1_w32) v25 v35 v36 (ix2 0 r) = BitVec.ofNat 32 j.val := by
  pointwise [k0_pay14, k0_pay10]
  refine (fold_add_single p _ _ fun k => by rw [pay12 v25 v36 r p hp, select_ite]).trans ?_
  simp only [hv]
  exact fold_min_first _ j hj (by decide) _ fun k => rfl

/-- … its scores, … -/
theorem pay15 (e : Fin 8) : k0_pay15 (F := Ideal) v18 v25 v36 (ix2 e r) = v18 (ix3 p e r) := by
  pointwise [k0_pay15]
  simp only [pay12 v25 v36 r p hp, select_ite, Finset.sum_ite_eq', Finset.mem_univ, if_true]

/-- … and the scores at the two indices. -/
theorem pay16 (i : Fin 8) (hi : v31 (ix3 p 0 r) = BitVec.ofNat 32 i.val) :
    k0_pay16 (F := Ideal) v18 v25 v31 v36 (ix2 0 r) = v18 (ix3 p i r) := by
  pointwise [k0_pay16]
  rw [pay13 v25 v31 v36 r p hp, hi]
  simp only [select_index (k := 8) (by decide), pay15 v18 v25 v36 r p hp, Finset.sum_ite_eq', Finset.mem_univ, if_true]

theorem pay17 (j : Fin 8) (hj : First (fun e => v35 (ix3 p e r)) j) (hv : v36 (ix2 p r) = v35 (ix3 p j r)) :
    k0_pay17 (F := Ideal) v18 (iota .tc S4x8x1024 32 [1] iota_S4x8x1024_d1_w32) v25 v35 v36 (ix2 0 r) = v18 (ix3 p j r) := by
  pointwise [k0_pay17]
  rw [pay14 v25 v35 v36 r p hp j hj hv]
  simp only [select_index (k := 8) (by decide), pay15 v18 v25 v36 r p hp, Finset.sum_ite_eq', Finset.mem_univ, if_true]

theorem pay19 : k0_pay19 (F := Ideal) v25 v36 (ix2 0 r) = BitVec.ofNat 32 p.val := by
  pointwise [k0_pay19]
  exact pay11 v25 v36 r p hp

end Part2

section Part3

variable (v58 v61 v81 : IVec S1x1024 32) (v73 v79 v80 : FVec Ideal S1x1024 .f32) (r : Fin 1024)

theorem pay23_first : k0_pay23 v58 v61 v81 (ix2 0 r) = IntOp.addi (IntOp.muli (v81 (ix2 0 r)) 8#32) (v58 (ix2 0 r)) := by
  pointwise [k0_pay23, k0_pay21, k0_pay20]

theorem pay23_second : k0_pay23 v58 v61 v81 (ix2 1 r) = IntOp.addi (IntOp.muli (v81 (ix2 0 r)) 8#32) (v61 (ix2 0 r)) := by
  pointwise [k0_pay23, k0_pay22, k0_pay20]

theorem pay24_first : k0_pay24 (F := Ideal) v73 v79 v80 (ix2 0 r) = Ideal.div (v73 (ix2 0 r)) (v80 (ix2 0 r)) := by
  pointwise [k0_pay24]

theorem pay24_second : k0_pay24 (F := Ideal) v73 v79 v80 (ix2 1 r) = Ideal.div (v79 (ix2 0 r)) (v80 (ix2 0 r)) := by
  pointwise [k0_pay24]

end Part3

/-! ## What the router computes of one token

`s` the scores and `x` the scores with their biases, group by group: `i` and `j` the indices of the two greatest of `x`
in the group `p`, whose sum of the two greatest is the first greatest of the groups'. -/

structure Picks (x : Fin 4 → Fin 8 → EReal) (i j : Fin 4 → Fin 8) (p : Fin 4) : Prop where
  first : ∀ g, First (x g) (i g)
  second : ∀ g, Second (x g) (i g) (j g)
  group : First (fun g => x g (i g) + x g (j g)) p

theorem exists_picks (x : Fin 4 → Fin 8 → EReal) : ∃ i j p, Picks x i j p := by
  choose i hi using fun g => exists_first (x g)
  choose j hj using fun g => exists_second (x g) (i g) (by decide)
  obtain ⟨p, hp⟩ := exists_first (fun g => x g (i g) + x g (j g))
  exact ⟨i, j, p, hi, hj, hp⟩

section Token

variable (v0 : Vec Ideal S1024x2048 .f32) (v6 v9 v12 : Vec Ideal S1x32x2048 .bf16) (v19 : Vec Ideal S4x8x1 .f32)
  (r : Fin 1024) (i j : Fin 4 → Fin 8) (p : Fin 4)
  (h : Picks (fun g e => k0_pay5 (F := Ideal) v0 v6 v9 v12 v19 (ix3 g e r)) i j p)
  (hx : ∀ g e, ⊥ < k0_pay5 (F := Ideal) v0 v6 v9 v12 v19 (ix3 g e r))

include h hx

theorem rest_first (g : Fin 4) : First (fun e => k0_pay8 (F := Ideal) v0 v6 v9 v12 v19 (ix3 g e r)) (j g) := by
  have := first_of_second _ _ _ (h.second g) (hx g)
  have e : (fun e => k0_pay8 (F := Ideal) v0 v6 v9 v12 v19 (ix3 g e r))
      = fun k => if k = i g then ⊥ else k0_pay5 (F := Ideal) v0 v6 v9 v12 v19 (ix3 g k r) :=
    funext fun k => pay8 v0 v6 v9 v12 v19 g k r (i g) (h.first g)
  rw [e]; exact this

theorem second_value (g : Fin 4) :
    k0_pay9 (F := Ideal) v0 v6 v9 v12 v19 (ix2 g r) = k0_pay5 (F := Ideal) v0 v6 v9 v12 v19 (ix3 g (j g) r) := by
  rw [pay9 v0 v6 v9 v12 v19 g r (j g) (rest_first v0 v6 v9 v12 v19 r i j p h hx g),
    pay8 v0 v6 v9 v12 v19 g (j g) r (i g) (h.first g), if_neg (h.second g).ne]

theorem group_first : First (fun g => k0_pay6 (F := Ideal) v0 v6 v9 v12 v19 (ix3 g 0 r)
    + k0_pay9 (F := Ideal) v0 v6 v9 v12 v19 (ix2 g r)) p := by
  have e : (fun g => k0_pay6 (F := Ideal) v0 v6 v9 v12 v19 (ix3 g 0 r) + k0_pay9 (F := Ideal) v0 v6 v9 v12 v19 (ix2 g r))
      = fun g => k0_pay5 (F := Ideal) v0 v6 v9 v12 v19 (ix3 g (i g) r) + k0_pay5 (F := Ideal) v0 v6 v9 v12 v19 (ix3 g (j g) r) :=
    funext fun g => by
      rw [pay6 v0 v6 v9 v12 v19 g r (i g) (h.first g), second_value v0 v6 v9 v12 v19 r i j p h hx g]
  rw [e]; exact h.group

theorem second_tie : k0_pay9 (F := Ideal) v0 v6 v9 v12 v19 (ix2 p r)
    = k0_pay8 (F := Ideal) v0 v6 v9 v12 v19 (ix3 p (j p) r) :=
  pay9 v0 v6 v9 v12 v19 p r (j p) (rest_first v0 v6 v9 v12 v19 r i j p h hx p)

/-- The experts. -/
theorem experts (q : Fin 2) :
    k0_pay23
      (k0_pay13 (F := Ideal) (k0_pay6 v0 v6 v9 v12 v19) (k0_pay7 v0 v6 v9 v12 v19) (k0_pay9 v0 v6 v9 v12 v19))
      (k0_pay14 (F := Ideal) (iota .tc S4x8x1024 32 [1] iota_S4x8x1024_d1_w32) (k0_pay6 v0 v6 v9 v12 v19)
        (k0_pay8 v0 v6 v9 v12 v19) (k0_pay9 v0 v6 v9 v12 v19))
      (k0_pay19 (F := Ideal) (k0_pay6 v0 v6 v9 v12 v19) (k0_pay9 v0 v6 v9 v12 v19)) (ix2 q r)
    = IntOp.addi (IntOp.muli (BitVec.ofNat 32 p.val) 8#32) (BitVec.ofNat 32 (if q = 0 then i p else j p).val) := by
  have hg := group_first v0 v6 v9 v12 v19 r i j p h hx
  fin_cases q
  · refine (pay23_first _ _ _ r).trans ?_
    rw [pay19 _ _ r p hg, pay13 _ _ _ r p hg, pay7 v0 v6 v9 v12 v19 p r (i p) (h.first p)]
    rfl
  · refine (pay23_second _ _ _ r).trans ?_
    rw [pay19 _ _ r p hg, pay14 _ _ _ r p hg (j p) (rest_first v0 v6 v9 v12 v19 r i j p h hx p)
      (second_tie v0 v6 v9 v12 v19 r i j p h hx)]
    rfl

/-- The gates. -/
theorem gates (q : Fin 2) :
    k0_pay24 (F := Ideal)
      (k0_pay16 (k0_pay4 v0 v6 v9 v12) (k0_pay6 v0 v6 v9 v12 v19) (k0_pay7 v0 v6 v9 v12 v19) (k0_pay9 v0 v6 v9 v12 v19))
      (k0_pay17 (k0_pay4 v0 v6 v9 v12) (iota .tc S4x8x1024 32 [1] iota_S4x8x1024_d1_w32) (k0_pay6 v0 v6 v9 v12 v19)
        (k0_pay8 v0 v6 v9 v12 v19) (k0_pay9 v0 v6 v9 v12 v19))
      (k0_pay18 (k0_pay4 v0 v6 v9 v12) (iota .tc S4x8x1024 32 [1] iota_S4x8x1024_d1_w32) (k0_pay6 v0 v6 v9 v12 v19)
        (k0_pay7 v0 v6 v9 v12 v19) (k0_pay8 v0 v6 v9 v12 v19) (k0_pay9 v0 v6 v9 v12 v19)) (ix2 q r)
    = Ideal.div (k0_pay4 (F := Ideal) v0 v6 v9 v12 (ix3 p (if q = 0 then i p else j p) r))
        (k0_pay4 (F := Ideal) v0 v6 v9 v12 (ix3 p (i p) r) + k0_pay4 (F := Ideal) v0 v6 v9 v12 (ix3 p (j p) r)) := by
  have hg := group_first v0 v6 v9 v12 v19 r i j p h hx
  have h16 := pay16 (k0_pay4 v0 v6 v9 v12) _ _ _ r p hg (i p) (pay7 v0 v6 v9 v12 v19 p r (i p) (h.first p))
  have h17 := pay17 (k0_pay4 v0 v6 v9 v12) _ _ _ r p hg (j p) (rest_first v0 v6 v9 v12 v19 r i j p h hx p)
    (second_tie v0 v6 v9 v12 v19 r i j p h hx)
  have h18 : ∀ (a b : FVec Ideal S1x1024 .f32), addf a b (ix2 0 r) = a (ix2 0 r) + b (ix2 0 r) := fun _ _ => rfl
  fin_cases q
  · refine (pay24_first _ _ _ r).trans ?_
    unfold k0_pay18
    rw [h18, h16, h17]
    rfl
  · refine (pay24_second _ _ _ r).trans ?_
    unfold k0_pay18
    rw [h18, h16, h17]
    rfl

end Token

end Cert.Proof.Router
-- ==== Proof.RouterReference.lean ====
/- The reference's routing, read token by token. -/
module

public import proofs.«01_k».proof.Defs
public import proofs.«01_k».proof.Proof.TopTwo
public import proofs.«01_k».proof.Proof.RouterBlock
public import proofs.«01_k».proof.Proof.Gen.Reference10Ideal.Run
public import proofs.«01_k».proof.Proof.Gen.Reference10Ideal.Read
public import Idealize.ShloMosaic.Lib.Pointwise

@[expose] public section

set_option maxRecDepth 16384

noncomputable section

namespace Cert.Proof.Router

open Cert.Reference10Ideal Cert.Reference10Ideal.Read Idealize.ShloMosaic Idealize.ShloMosaic.Pointwise
open TopTwo

/-- "Greater" as the sort compares. -/
theorem greater (a b : EReal) :
    (FloatOps.cmpfTotal (F := Ideal) (φ := .f32) CmpDirection.gt a b == 1#1) = decide (b < a) := by
  rw [Ideal.cmpfTotal_def]
  show (BitVec.ofBool (decide (b < a)) == 1#1) = decide (b < a)
  by_cases h : b < a <;> simp [h]

theorem along3 (t : Fin 16384) (g : Fin 4) (q k : Fin 8) :
    Shape.Idx.along (s := S16384x4x8) (ix3 t g q) 2 k = ix3 t g k := by
  funext a
  match a with
  | ⟨0, _⟩ => rfl
  | ⟨1, _⟩ => rfl
  | ⟨2, _⟩ => rfl

theorem along2 (t : Fin 16384) (q k : Fin 8) : Shape.Idx.along (s := S16384x8) (ix2 t q) 1 k = ix2 t k := by
  funext a
  match a with
  | ⟨0, _⟩ => rfl
  | ⟨1, _⟩ => rfl

theorem along1 (t : Fin 16384) (q k : Fin 4) : Shape.Idx.along (s := S16384x4) (ix2 t q) 1 k = ix2 t k := by
  funext a
  match a with
  | ⟨0, _⟩ => rfl
  | ⟨1, _⟩ => rfl

/-- A gather of a token's group. -/
theorem gather_group (y : FVec Ideal S16384x4x8 .f32) (w : IVec S16384x1x1 32) (t : Fin 16384) (e : Fin 8) (p : Fin 4)
    (h : w (ix3 t 0 0) = BitVec.ofNat 32 p.val) :
    Host.gather gather_S16384x4x8_S16384x1x1_S16384x1x8_2_1_0_0_1_2_118 y w (ix3 t 0 e) = y (ix3 t p e) := by
  unfold Host.gather
  refine congrArg y (funext fun a => Fin.ext ?_)
  have hp : ∀ p : Fin 4, min (BitVec.ofNat 32 p.val).toInt.toNat 3 = p.val := by decide
  match a with
  | ⟨0, _⟩ => show 0 + t.val + 0 = t.val; omega
  | ⟨1, _⟩ =>
    refine Eq.trans ?_ (hp p)
    rw [← h]
    show min (w _).toInt.toNat 3 + 0 + 0 = _
    refine congrArg (fun z => min (w z).toInt.toNat 3) (funext fun b => ?_)
    match b with
    | ⟨0, _⟩ => rfl
    | ⟨1, _⟩ => rfl
    | ⟨2, _⟩ => rfl
  | ⟨2, _⟩ => show 0 + 0 + e.val = e.val; omega

/-- A gather of one entry of a token's row. -/
theorem gather_entry (y : FVec Ideal S16384x8 .f32) (w : IVec S16384x2x1 32) (t : Fin 16384) (q : Fin 2) (p : Fin 8)
    (h : w (ix3 t q 0) = BitVec.ofNat 32 p.val) :
    Host.gather gather_S16384x8_S16384x2x1_S16384x2_n_1_0_0_1_2_11 y w (ix2 t q) = y (ix2 t p) := by
  unfold Host.gather
  refine congrArg y (funext fun a => Fin.ext ?_)
  have hp : ∀ p : Fin 8, min (BitVec.ofNat 32 p.val).toInt.toNat 7 = p.val := by decide
  match a with
  | ⟨0, _⟩ => show 0 + t.val + 0 = t.val; omega
  | ⟨1, _⟩ =>
    refine Eq.trans ?_ (hp p)
    rw [← h]
    show min (w _).toInt.toNat 7 + 0 + 0 = _
    refine congrArg (fun z => min (w z).toInt.toNat 7) (funext fun b => ?_)
    match b with
    | ⟨0, _⟩ => rfl
    | ⟨1, _⟩ => rfl
    | ⟨2, _⟩ => rfl

/-- An index word is not negative: it is taken as it is. -/
theorem wrap4 (p : Fin 4) (u : BitVec 32) :
    Scalar.select (IntOp.cmpi .slt (BitVec.ofNat 32 p.val) 0#32) u (BitVec.ofNat 32 p.val) = BitVec.ofNat 32 p.val := by
  have : ∀ p : Fin 4, IntOp.cmpi .slt (BitVec.ofNat 32 p.val) 0#32 = 0#1 := by decide
  rw [this]; rfl

theorem wrap8 (p : Fin 8) (u : BitVec 32) :
    Scalar.select (IntOp.cmpi .slt (BitVec.ofNat 32 p.val) 0#32) u (BitVec.ofNat 32 p.val) = BitVec.ofNat 32 p.val := by
  have : ∀ p : Fin 8, IntOp.cmpi .slt (BitVec.ofNat 32 p.val) 0#32 = 0#1 := by decide
  rw [this]; rfl

section Token

variable (x0 : FVec Ideal S2x8192x2048 .f32) (x1 : FVec Ideal S2048x32 .f32) (x2 : FVec Ideal S32 .f32)

/-- The scores, and the scores with their biases. -/
theorem ref_score (t : Fin 16384) (g : Fin 4) (e : Fin 8) :
    val_main_v17 (F := Ideal) x0 x1 (ix3 t g e)
      = Ideal.div 1 (1 + Ideal.exp (-∑ k, x0 (ix3 ⟨t.val / 8192, by omega⟩ ⟨t.val % 8192, by omega⟩ k) * x1 (ix2 k ⟨g.val * 8 + e.val, by omega⟩))) := by
  pointwise [val_main_v17, val_main_v7, val_main_v6, val_main_v5, val_main_v4, val_main_v3, val_main_v2, val_main_v1, val_main_v0, val_main_cst, val_main_cst_0]

theorem ref_biased (t : Fin 16384) (g : Fin 4) (e : Fin 8) :
    val_main_v11 (F := Ideal) x0 x1 x2 (ix3 t g e)
      = val_main_v17 (F := Ideal) x0 x1 (ix3 t g e) + x2 (ix1 ⟨g.val * 8 + e.val, by omega⟩) := by
  pointwise [val_main_v11, val_main_v10, val_main_v9, val_main_v8, val_main_v17]

variable (t : Fin 16384) (i j : Fin 4 → Fin 8) (p : Fin 4)
  (h : Picks (fun g e => val_main_v11 (F := Ideal) x0 x1 x2 (ix3 t g e)) i j p)

include h

/-- The two greatest of a group. -/
theorem ref_values (g : Fin 4) (q : Fin 2) :
    val_main_values (F := Ideal) x0 x1 x2 (ix3 t g q)
      = val_main_v11 (F := Ideal) x0 x1 x2 (ix3 t g (if q = 0 then i g else j g)) := by
  pointwise [val_main_values, Host.topK, Host.sort2]
  simp only [along3, greater]
  fin_cases q
  · rw [sortedFrom_first _ _ (h.first g) _ rfl]; rfl
  · rw [sortedFrom_second _ _ _ (h.first g) (h.second g) _ rfl]; rfl

/-- A group's score. -/
theorem ref_group (g : Fin 4) :
    val_main_v12 (F := Ideal) x0 x1 x2 (ix2 t g)
      = val_main_v11 (F := Ideal) x0 x1 x2 (ix3 t g (i g)) + val_main_v11 (F := Ideal) x0 x1 x2 (ix3 t g (j g)) := by
  pointwise [val_main_v12, val_main_cst_1]
  rw [Fin.sum_univ_two, ref_values x0 x1 x2 t i j p h, ref_values x0 x1 x2 t i j p h]
  rfl

/-- The group chosen. -/
theorem ref_chosen : val_main_indices_3 (F := Ideal) x0 x1 x2 (ix2 t 0) = BitVec.ofNat 32 p.val := by
  have hf : First (fun g => val_main_v12 (F := Ideal) x0 x1 x2 (ix2 t g)) p := by
    simp only [ref_group x0 x1 x2 t i j p h]; exact h.group
  pointwise [val_main_indices_3, Host.topK, Host.sort2]
  simp only [along1, greater]
  rw [sortedFrom_first _ _ hf _ rfl]
  rfl

/-- Its scores with their biases, … -/
theorem ref_row (e : Fin 8) :
    val_main_v16 (F := Ideal) x0 x1 x2 (ix2 t e) = val_main_v11 (F := Ideal) x0 x1 x2 (ix3 t p e) := by
  have hc := ref_chosen x0 x1 x2 t i j p h
  pointwise [val_main_v16, val_main_v15]
  refine gather_group _ _ t e p ?_
  pointwise [val_main_call0_v4, val_main_call0_v1, val_main_call0_v3, val_main_call0_v0, val_main_call0_v2, val_main_call0_c,
    val_main_call0_c_0, val_main_v14, val_main_v13]
  rw [hc]
  exact wrap4 p _

/-- … and without. -/
theorem ref_scores (e : Fin 8) :
    val_main_v20 (F := Ideal) x0 x1 x2 (ix2 t e) = val_main_v17 (F := Ideal) x0 x1 (ix3 t p e) := by
  have hc := ref_chosen x0 x1 x2 t i j p h
  pointwise [val_main_v20, val_main_v19]
  refine gather_group _ _ t e p ?_
  pointwise [val_main_call1_v4, val_main_call1_v1, val_main_call1_v3, val_main_call1_v0, val_main_call1_v2, val_main_call1_c,
    val_main_call1_c_0, val_main_v18, val_main_v13]
  rw [hc]
  exact wrap4 p _

/-- The indices of the two experts in their group. -/
theorem ref_local (q : Fin 2) :
    val_main_indices_5 (F := Ideal) x0 x1 x2 (ix2 t q) = BitVec.ofNat 32 (if q = 0 then i p else j p).val := by
  have h1 : First (fun e => val_main_v16 (F := Ideal) x0 x1 x2 (ix2 t e)) (i p) := by
    simp only [ref_row x0 x1 x2 t i j p h]; exact h.first p
  have h2 : Second (fun e => val_main_v16 (F := Ideal) x0 x1 x2 (ix2 t e)) (i p) (j p) := by
    simp only [ref_row x0 x1 x2 t i j p h]; exact h.second p
  pointwise [val_main_indices_5, Host.topK, Host.sort2]
  simp only [along2, greater]
  fin_cases q
  · rw [sortedFrom_first _ _ h1 _ rfl]; rfl
  · rw [sortedFrom_second _ _ _ h1 h2 _ rfl]; rfl

/-- Their scores. -/
theorem ref_weight (q : Fin 2) :
    val_main_v21 (F := Ideal) x0 x1 x2 (ix2 t q)
      = val_main_v17 (F := Ideal) x0 x1 (ix3 t p (if q = 0 then i p else j p)) := by
  have hl := ref_local x0 x1 x2 t i j p h q
  rw [← ref_scores x0 x1 x2 t i j p h]
  pointwise [val_main_v21]
  refine gather_entry _ _ t q _ ?_
  pointwise [val_main_call2_v5, val_main_call2_v4, val_main_call2_v1, val_main_call2_v3, val_main_call2_v0, val_main_call2_v2,
    val_main_call2_c, val_main_call2_c_0]
  rw [hl]
  exact wrap8 _ _

/-- The experts. -/
theorem ref_experts (q : Fin 2) :
    val_main_v40 (F := Ideal) x0 x1 x2 (ix2 q t)
      = IntOp.addi (IntOp.muli (BitVec.ofNat 32 p.val) 8#32) (BitVec.ofNat 32 (if q = 0 then i p else j p).val) := by
  rw [← ref_local x0 x1 x2 t i j p h, ← ref_chosen x0 x1 x2 t i j p h]
  pointwise [val_main_v40, val_main_v30, val_main_v29, val_main_v28, val_main_v26, val_main_v27, val_main_c, val_main_v13]

/-- The gates. -/
theorem ref_gates (q : Fin 2) :
    val_main_v41 (F := Ideal) x0 x1 x2 (ix2 q t)
      = Ideal.div (val_main_v17 (F := Ideal) x0 x1 (ix3 t p (if q = 0 then i p else j p)))
          (val_main_v17 (F := Ideal) x0 x1 (ix3 t p (i p)) + val_main_v17 (F := Ideal) x0 x1 (ix3 t p (j p))) := by
  pointwise [val_main_v41, val_main_v25, val_main_v24, val_main_v23, val_main_v22, val_main_cst_6]
  rw [Fin.sum_univ_two, ref_weight x0 x1 x2 t i j p h, ref_weight x0 x1 x2 t i j p h, ref_weight x0 x1 x2 t i j p h]
  rfl

end Token

end Cert.Proof.Router
-- ==== Proof.Router.lean ====
/- The routing of the last layer's tokens: the experts and gates the kernel writes are the reference's. -/
module

public import proofs.«01_k».proof.Defs
public import proofs.«01_k».proof.Proof.Finite
public import proofs.«01_k».proof.Proof.RouterBlock
public import proofs.«01_k».proof.Proof.RouterReference
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pointwise
public import Idealize.ShloMosaic.Lib.StableHlo.ReadAt
public import Idealize.ShloMosaic.Lib.Pipeline.ValueKit
public import Idealize.ShloMosaic.Lib.Claim

@[expose] public section

set_option maxRecDepth 16384

noncomputable section

namespace Cert.Proof.Router

open Cert.Kernel10Ideal Cert.Kernel10Ideal.Gen Idealize.ShloMosaic Idealize.ShloMosaic.Pointwise Idealize.SL.Sem
open Cert.Reference10Ideal.Read
open TopTwo

/-- The shape facts the precondition's operations take. -/
instance shapes : Cert.Pre_finite_tokens.Facts where
  bcast_S_S2x8192x2048 := by decide
  reducesTo_S2x8192x2048_S_d0_1_2 := by decide
  h_S_ := by decide
  bcast_S_S2048x32 := by decide
  reducesTo_S2048x32_S_d0_1 := by decide
  bcast_S_S32 := by decide
  reducesTo_S32_S_d0 := by decide

/-- The two sides of a conjunction of `i1` arrays that is true. -/
theorem and_true (a b : IVec Cert.Pre_finite_tokens.S_ 1) (j : Cert.Pre_finite_tokens.S_.Idx) (h : andi a b j = 1#1) : a j = 1#1 ∧ b j = 1#1 :=
  IntOp.andi_eq_one.1 h

/-- A finite sum of real numbers, read as extended reals. -/
theorem sum_coe {ι : Type} (s : Finset ι) (f : ι → ℝ) : ∑ k ∈ s, (f k : EReal) = ((∑ k ∈ s, f k : ℝ) : EReal) := by
  classical
  induction s using Finset.induction_on with
  | empty => simp
  | insert x s hx ih => rw [Finset.sum_insert hx, Finset.sum_insert hx, ih, EReal.coe_add]

/-- What the precondition says: every element of the arguments is a real number. -/
theorem reals_of_pre [Cert.Pre_finite_tokens.Facts] (x0 : FVec Ideal S2x8192x2048 .f32) (x1 : FVec Ideal S2048x32 .f32) (x2 : FVec Ideal S32 .f32)
    (h : Cert.Pre_finite_tokens.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  let j : Cert.Pre_finite_tokens.S_.Idx := fun k => k.elim0
  have h' := congrFun h j
  unfold Cert.Pre_finite_tokens.fn at h'
  obtain ⟨h', h2⟩ := and_true _ _ j h'
  obtain ⟨h0, h1⟩ := and_true _ _ j h'
  exact ⟨Finite.real_of_all x0 _ _ _ j h0, Finite.real_of_all x1 _ _ _ j h1, Finite.real_of_all x2 _ _ _ j h2⟩

variable (m : (ℓ : Loc nD τ sig) → Buf (Elt Ideal) ℓ) (c : Dev nD)

/-- The arguments. -/
abbrev arg0 : FVec Ideal S2x8192x2048 .f32 := m ((c.tc : Thread nD τ).loc main_arg0)
abbrev arg1 : FVec Ideal S2048x32 .f32 := m ((c.tc : Thread nD τ).loc main_arg1)
abbrev arg2 : FVec Ideal S32 .f32 := m ((c.tc : Thread nD τ).loc main_arg2)

/-- The activations: the array handed to the kernel. -/
theorem tokens_apply (r : Fin 16384) (k : Fin 2048) :
    (V (F := Ideal) m c main_v0 : FVec Ideal S16384x2048 .f32) (ix2 r k) = arg0 m c (ix3 ⟨r.val / 8192, by omega⟩ ⟨r.val % 8192, by omega⟩ k) := by
  unfold V
  after_reads_at

theorem index_tokens : ∀ t : Fin cfg0.N, (cfg0.win 0).index t = ![(grid0.coords t 0).val, 0] := by
  decide +kernel

/-- The activations: the block of a grid point. -/
theorem blk_tokens (t : Fin cfg0.N) (a : Fin 1024) (k : Fin 2048) (r : Fin 16384) (h : r.val = (grid0.coords t 0).val * 1024 + a.val) :
    (iblk m c 0 t : FVec Ideal S1024x2048 .f32) (ix2 a k) = arg0 m c (ix3 ⟨r.val / 8192, by omega⟩ ⟨r.val % 8192, by omega⟩ k) := by
  rw [← tokens_apply]
  have e := index_tokens t
  blk_simp [iblk]
  refine congrArg (V m c main_v0) (funext fun z => Fin.ext ?_)
  match z with
  | ⟨0, _⟩ =>
    refine (Pipeline.Window.rect_emb_val (cfg0.win 0) t _ ⟨0, by decide⟩).trans ?_
    rw [e]
    exact h.symm
  | ⟨1, _⟩ =>
    refine (Pipeline.Window.rect_emb_val (cfg0.win 0) t _ ⟨1, by decide⟩).trans ?_
    rw [e]
    show 0 * 2048 + k.val = k.val
    omega

/-- The router's weights in two parts: the array handed to the kernel. -/
theorem high_apply (e : Fin 32) (k : Fin 2048) :
    (V (F := Ideal) m c main_v16 : FVec Ideal S2x32x2048 .bf16) (ix3 0 e k) = arg1 m c (ix2 k e) := by
  unfold V
  after_reads_at

theorem low_apply (e : Fin 32) (k : Fin 2048) :
    (V (F := Ideal) m c main_v16 : FVec Ideal S2x32x2048 .bf16) (ix3 1 e k) = arg1 m c (ix2 k e) - arg1 m c (ix2 k e) := by
  unfold V
  after_reads_at

theorem index_weights : ∀ t : Fin cfg0.N, (cfg0.win 1).index t = ![0, 0, 0] := by
  decide +kernel

/-- The router's weights: the block of a grid point is the whole array. -/
theorem blk_weights (t : Fin cfg0.N) (q : Fin 2) (e : Fin 32) (k : Fin 2048) :
    (iblk m c 1 t : FVec Ideal S2x32x2048 .bf16) (ix3 q e k) = (V (F := Ideal) m c main_v16 : FVec Ideal S2x32x2048 .bf16) (ix3 q e k) := by
  have ei := index_weights t
  blk_simp [iblk]
  refine congrArg (V m c main_v16) (funext fun z => Fin.ext ?_)
  match z with
  | ⟨0, _⟩ =>
    refine (Pipeline.Window.rect_emb_val (cfg0.win 1) t _ ⟨0, by decide⟩).trans ?_
    rw [ei]
    show 0 * 2 + q.val = q.val
    omega
  | ⟨1, _⟩ =>
    refine (Pipeline.Window.rect_emb_val (cfg0.win 1) t _ ⟨1, by decide⟩).trans ?_
    rw [ei]
    show 0 * 32 + e.val = e.val
    omega
  | ⟨2, _⟩ =>
    refine (Pipeline.Window.rect_emb_val (cfg0.win 1) t _ ⟨2, by decide⟩).trans ?_
    rw [ei]
    show 0 * 2048 + k.val = k.val
    omega

/-- The biases: the array handed to the kernel. -/
theorem bias_apply (g : Fin 4) (e : Fin 8) :
    (V (F := Ideal) m c main_v17 : FVec Ideal S4x8x1 .f32) (ix3 g e 0) = arg2 m c (ix1 ⟨g.val * 8 + e.val, by omega⟩) := by
  unfold V
  after_reads_at

theorem index_bias : ∀ t : Fin cfg0.N, (cfg0.win 2).index t = ![0, 0, 0] := by
  decide +kernel

/-- The biases: the block of a grid point is the whole array. -/
theorem blk_bias (t : Fin cfg0.N) (g : Fin 4) (e : Fin 8) :
    (iblk m c 2 t : FVec Ideal S4x8x1 .f32) (ix3 g e 0) = arg2 m c (ix1 ⟨g.val * 8 + e.val, by omega⟩) := by
  rw [← bias_apply]
  have ei := index_bias t
  blk_simp [iblk]
  refine congrArg (V m c main_v17) (funext fun z => Fin.ext ?_)
  match z with
  | ⟨0, _⟩ =>
    refine (Pipeline.Window.rect_emb_val (cfg0.win 2) t _ ⟨0, by decide⟩).trans ?_
    rw [ei]
    show 0 * 4 + g.val = g.val
    omega
  | ⟨1, _⟩ =>
    refine (Pipeline.Window.rect_emb_val (cfg0.win 2) t _ ⟨1, by decide⟩).trans ?_
    rw [ei]
    show 0 * 8 + e.val = e.val
    omega
  | ⟨2, _⟩ =>
    refine (Pipeline.Window.rect_emb_val (cfg0.win 2) t _ ⟨2, by decide⟩).trans ?_
    rw [ei]
    rfl

/-- The two slices of the weights a grid point reads. -/
abbrev high (t : Fin cfg0.N) : Vec Ideal S1x32x2048 .bf16 :=
  View.ld (iblk m c 1 t : Vec Ideal S2x32x2048 .bf16) (Rect.unit ![0, 0, 0] ![1, 32, 2048] inb_S2x32x2048_S1x32x2048_0_0_0)
abbrev low (t : Fin cfg0.N) : Vec Ideal S1x32x2048 .bf16 :=
  View.ld (iblk m c 1 t : Vec Ideal S2x32x2048 .bf16) (Rect.unit ![1, 0, 0] ![1, 32, 2048] inb_S2x32x2048_S1x32x2048_1_0_0)

theorem high_eq (t : Fin cfg0.N) (e : Fin 32) (k : Fin 2048) : high m c t (ix3 0 e k) = arg1 m c (ix2 k e) := by
  rw [← high_apply, ← blk_weights m c t]
  pointwise [high]

theorem low_eq (t : Fin cfg0.N) (e : Fin 32) (k : Fin 2048) :
    low m c t (ix3 0 e k) = arg1 m c (ix2 k e) - arg1 m c (ix2 k e) := by
  rw [← low_apply, ← blk_weights m c t]
  pointwise [low]

section Token

variable (h0 : ∀ i, ∃ r : ℝ, arg0 m c i = (r : EReal)) (h1 : ∀ i, ∃ r : ℝ, arg1 m c i = (r : EReal))
  (h2 : ∀ i, ∃ r : ℝ, arg2 m c i = (r : EReal)) (t : Fin cfg0.N) (a : Fin 1024) (r : Fin 16384)
  (hr : r.val = (grid0.coords t 0).val * 1024 + a.val)

include h0 h1 hr

/-- A grid point's scores are the reference's. -/
theorem score_eq (g : Fin 4) (e : Fin 8) :
    k0_pay4 (F := Ideal) (iblk m c 0 t) (high m c t) (high m c t) (low m c t) (ix3 g e a)
      = val_main_v17 (F := Ideal) (arg0 m c) (arg1 m c) (ix3 r g e) := by
  choose x hx using h0
  choose w hw using h1
  refine (pay4 _ _ _ _ g e a (fun k => w (ix2 k ⟨g.val * 8 + e.val, by omega⟩))
    (fun k => x (ix3 ⟨r.val / 8192, by omega⟩ ⟨r.val % 8192, by omega⟩ k)) (fun k => ?_) (fun k => ?_) (fun k => ?_) (fun k => ?_)).trans ?_
  · exact (blk_tokens m c t a k r hr).trans (hx _)
  · exact (high_eq m c t _ k).trans (hw _)
  · exact (high_eq m c t _ k).trans (hw _)
  · rw [low_eq, hw, ← EReal.coe_sub, sub_self, EReal.coe_zero]
  · rw [ref_score]
    simp only [hx, hw]

theorem biased_eq (g : Fin 4) (e : Fin 8) :
    k0_pay5 (F := Ideal) (iblk m c 0 t) (high m c t) (high m c t) (low m c t) (iblk m c 2 t) (ix3 g e a)
      = val_main_v11 (F := Ideal) (arg0 m c) (arg1 m c) (arg2 m c) (ix3 r g e) := by
  rw [pay5, ref_biased, score_eq m c h0 h1 t a r hr]
  exact congrArg (fun z : EReal => _ + z) (blk_bias m c t g e)

omit hr in
/-- A score is a real number. -/
theorem score_real (g : Fin 4) (e : Fin 8) :
    ∃ s : ℝ, val_main_v17 (F := Ideal) (arg0 m c) (arg1 m c) (ix3 r g e) = (s : EReal) := by
  choose x hx using h0
  choose w hw using h1
  rw [ref_score]
  simp only [hx, hw]
  have hs : ∀ (u v : Fin 2048 → ℝ), ∑ k, (u k : EReal) * (v k : EReal) = ((∑ k, u k * v k : ℝ) : EReal) := fun u v => by
    rw [← sum_coe]; simp only [EReal.coe_mul]
  rw [hs, ← EReal.coe_neg, Ideal.exp_coe, ← EReal.coe_one, ← EReal.coe_add, Ideal.div_coe (by positivity), ← EReal.coe_mul]
  exact ⟨_, rfl⟩

include h2

omit hr in
theorem biased_gt (g : Fin 4) (e : Fin 8) : ⊥ < val_main_v11 (F := Ideal) (arg0 m c) (arg1 m c) (arg2 m c) (ix3 r g e) := by
  obtain ⟨s, hs⟩ := score_real m c h0 h1 r g e
  obtain ⟨b, hb⟩ := h2 (ix1 ⟨g.val * 8 + e.val, by omega⟩)
  rw [ref_biased, hs, hb, ← EReal.coe_add]
  exact EReal.bot_lt_coe _

end Token

theorem index_experts : ∀ t : Fin cfg0.N, (cfg0.win 4).index t = ![0, (grid0.coords t 0).val] := by
  decide +kernel
theorem index_gates : ∀ t : Fin cfg0.N, (cfg0.win 5).index t = ![0, (grid0.coords t 0).val] := by
  decide +kernel

theorem covers_experts : (cfg0.win 4).Covers := by decide +kernel
theorem covers_gates : (cfg0.win 5).Covers := by decide +kernel

section Final

variable (h0 : ∀ i, ∃ r : ℝ, arg0 m c i = (r : EReal)) (h1 : ∀ i, ∃ r : ℝ, arg1 m c i = (r : EReal))
  (h2 : ∀ i, ∃ r : ℝ, arg2 m c i = (r : EReal))

include h0 h1 h2

/-- The experts the grid points leave. -/
theorem final_experts : (dats m 0 c).arrAt 4 cfg0.N = val_main_v40 (F := Ideal) (arg0 m c) (arg1 m c) (arg2 m c) := by
  refine (dats m 0 c).arrAt_eq_of_covers 4 _ covers_experts fun t hf y => ?_
  have hg : (grid0.coords t 0).val < 16 := (grid0.coords t 0).isLt
  have hy1 : (y 1).val < 1024 := (y 1).isLt
  let q : Fin 2 := y 0
  let a : Fin 1024 := y 1
  let r : Fin 16384 := ⟨(grid0.coords t 0).val * 1024 + (y 1).val, by omega⟩
  have ey : (y : S2x1024.Idx) = ix2 q a := ValueIdx.eq_ix2 _
  obtain ⟨i, j, p, hp⟩ := exists_picks (fun g e => val_main_v11 (F := Ideal) (arg0 m c) (arg1 m c) (arg2 m c) (ix3 r g e))
  have hb := biased_eq m c h0 h1 t a r rfl
  have hk := experts (iblk m c 0 t) (high m c t) (high m c t) (low m c t) (iblk m c 2 t) a i j p
    (by simp only [hb]; exact hp) (fun g e => by rw [hb]; exact biased_gt m c h0 h1 h2 r g e) q
  have ez : ((View.whole main_v18_0).slice (win0_4.rect t)).emb y = ix2 q r := by
    have e := index_experts t
    refine funext fun z => Fin.ext ?_
    match z with
    | ⟨0, _⟩ =>
      refine (Pipeline.Window.rect_emb_val (cfg0.win 4) t y ⟨0, by decide⟩).trans ?_
      rw [e]
      show 0 * 2 + (y 0).val = (y 0).val
      omega
    | ⟨1, _⟩ => refine (Pipeline.Window.rect_emb_val (cfg0.win 4) t y ⟨1, by decide⟩).trans ?_; rw [e]; rfl
  have hw := hk.trans (ref_experts _ _ _ r i j p hp q).symm
  by_cases ht : t.val % 16 = 0
  · blk_simp
    rw [after0_4, outsAt0_A m c t ht, ez]
    dsimp only
    unfold out0_A_4
    frame_out
    exact (congrArg _ ey).trans hw
  · blk_simp
    rw [after0_4, outsAt0_B m c t ht, ez]
    dsimp only
    unfold out0_B_4
    frame_out
    exact (congrArg _ ey).trans hw

/-- The gates the grid points leave. -/
theorem final_gates : (dats m 0 c).arrAt 5 cfg0.N = val_main_v41 (F := Ideal) (arg0 m c) (arg1 m c) (arg2 m c) := by
  refine (dats m 0 c).arrAt_eq_of_covers 5 _ covers_gates fun t hf y => ?_
  have hg : (grid0.coords t 0).val < 16 := (grid0.coords t 0).isLt
  have hy1 : (y 1).val < 1024 := (y 1).isLt
  let q : Fin 2 := y 0
  let a : Fin 1024 := y 1
  let r : Fin 16384 := ⟨(grid0.coords t 0).val * 1024 + (y 1).val, by omega⟩
  have ey : (y : S2x1024.Idx) = ix2 q a := ValueIdx.eq_ix2 _
  obtain ⟨i, j, p, hp⟩ := exists_picks (fun g e => val_main_v11 (F := Ideal) (arg0 m c) (arg1 m c) (arg2 m c) (ix3 r g e))
  have hb := biased_eq m c h0 h1 t a r rfl
  have hk := gates (iblk m c 0 t) (high m c t) (high m c t) (low m c t) (iblk m c 2 t) a i j p
    (by simp only [hb]; exact hp) (fun g e => by rw [hb]; exact biased_gt m c h0 h1 h2 r g e) q
  have ez : ((View.whole main_v18_1).slice (win0_5.rect t)).emb y = ix2 q r := by
    have e := index_gates t
    refine funext fun z => Fin.ext ?_
    match z with
    | ⟨0, _⟩ =>
      refine (Pipeline.Window.rect_emb_val (cfg0.win 5) t y ⟨0, by decide⟩).trans ?_
      rw [e]
      show 0 * 2 + (y 0).val = (y 0).val
      omega
    | ⟨1, _⟩ => refine (Pipeline.Window.rect_emb_val (cfg0.win 5) t y ⟨1, by decide⟩).trans ?_; rw [e]; rfl
  rw [score_eq m c h0 h1 t a r rfl, score_eq m c h0 h1 t a r rfl, score_eq m c h0 h1 t a r rfl] at hk
  have hw := hk.trans (ref_gates _ _ _ r i j p hp q).symm
  by_cases ht : t.val % 16 = 0
  · blk_simp
    rw [after0_5, outsAt0_A m c t ht, ez]
    dsimp only
    unfold out0_A_5
    frame_out
    exact (congrArg _ ey).trans hw
  · blk_simp
    rw [after0_5, outsAt0_B m c t ht, ez]
    dsimp only
    unfold out0_B_5
    frame_out
    exact (congrArg _ ey).trans hw

end Final

/-- The reference ends with its arguments unchanged and, having no semaphore, with every counter at zero. -/
theorem frame_ri : Cert.quiescent_Reference10Ideal := fun m g _ =>
  (θ_run Cert.Reference10Ideal.defs _ _).mono (fun r h => ⟨fun c => (h c).2.2.2, sem_eq_zero_of_no_sems (by decide) r.2⟩)
    (Cert.Reference10Ideal.Value.run (F := Ideal) m g)

end Cert.Proof.Router

end
-- ==== Proof.RouterCounts.lean ====
/- The number of tokens routed to each expert: the kernel's running sums of zeros and ones are the reference's counts. -/
module

public import proofs.«01_k».proof.Proof.Router
public import Idealize.ShloMosaic.Lib.IndicatorCount
public import Idealize.ShloMosaic.Lib.Pipeline.ReadBack

@[expose] public section

set_option maxRecDepth 16384

noncomputable section

namespace Cert.Proof.Router

open Cert.Kernel10Ideal Cert.Kernel10Ideal.Gen Idealize.ShloMosaic Idealize.ShloMosaic.Pointwise Idealize.SL.Sem
open Cert.Reference10Ideal.Read
open TopTwo

/-! ## The block -/

section Block

variable (v58 v61 v81 : IVec S1x1024 32) (v106 : Vec Ideal S1024x1024 .bf16) (v124 : Vec Ideal S32x1 .f32)
  (e : Fin 32)

/-- One where the token's expert is `e`, zero elsewhere. -/
theorem pay28 (a : Fin 1024) :
    k0_pay28 (F := Ideal) v58 v61 v81 (ix2 e a)
      = Scalar.select (IntOp.cmpi .eq (BitVec.ofNat 32 e.val) (k0_pay23 v58 v61 v81 (ix2 0 a))) 1
          (Scalar.select (IntOp.cmpi .eq (BitVec.ofNat 32 e.val) (k0_pay23 v58 v61 v81 (ix2 1 a))) 1 0) := by
  rw [pay23_first, pay23_second]
  pointwise [k0_pay28, k0_pay26, k0_pay27, k0_pay21, k0_pay22, k0_pay20]

/-- The triangle's last column is all ones: the product with it is the sum over the block's tokens. -/
theorem pay29 (h : ∀ k : Fin 1024, v106 (ix2 k 1023) = 1) :
    k0_pay29 (F := Ideal) v58 v61 v81 v106 (ix2 e 1023) = ∑ a : Fin 1024, k0_pay28 (F := Ideal) v58 v61 v81 (ix2 e a) := by
  pointwise [k0_pay29]
  simp only [h, mul_one]

theorem pay2 (v108 : FVec Ideal S32x1024 .f32) : k0_pay2 (F := Ideal) v108 v124 (ix2 e 0) = v124 (ix2 e 0) + v108 (ix2 e 1023) := by
  pointwise [k0_pay2]

theorem pay25 : k0_pay25 (F := Ideal) (ix2 e 0) = 0 := by
  pointwise [k0_pay25]

theorem pay3 : k0_pay3 (F := Ideal) v124 (ix2 e 0) = Ideal.fptosi 32 (v124 (ix2 e 0)) := by
  pointwise [k0_pay3]
  rfl

end Block

/-- A number below 2³¹, converted to an integer. -/
theorem fptosi_nat (n : Nat) (h : n < 2147483648) : Ideal.fptosi 32 (((n : ℝ) : EReal)) = BitVec.ofNat 32 n := by
  unfold Ideal.fptosi
  rw [Ideal.toIntClamped_coe, if_pos (Nat.cast_nonneg n), Int.floor_natCast]
  have e : max (-((2 ^ (32 - 1) : Nat) : Int)) (min (((2 ^ (32 - 1) : Nat) : Int) - 1) (n : Int)) = (n : Int) := by
    norm_num
    omega
  rw [e]
  exact BitVec.ofInt_natCast 32 n

/-- A sum over an even number of places, two by two. -/
theorem sum_pairs (f : Nat → Nat) (n : Nat) :
    ∑ k ∈ Finset.range (2 * n), f k = ∑ i ∈ Finset.range n, (f (2 * i) + f (2 * i + 1)) := by
  induction n with
  | zero => simp
  | succ n ih => rw [Finset.sum_range_succ, ← ih, show 2 * (n + 1) = 2 * n + 1 + 1 by omega, Finset.sum_range_succ, Finset.sum_range_succ, add_assoc]

variable (m : (ℓ : Loc nD τ sig) → Buf (Elt Ideal) ℓ) (c : Dev nD)

/-- The triangle: its last column. -/
theorem triangle_apply (k : Fin 1024) : (V (F := Ideal) m c main_v8 : FVec Ideal S1024x1024 .bf16) (ix2 k 1023) = (1 : EReal) := by
  have h : ∀ k : Fin 1024, IntOp.cmpi .sle (BitVec.ofNat 32 k.val) (BitVec.ofNat 32 (1023 : Fin 1024).val) = 1#1 := by decide +kernel
  unfold V
  after_reads_at
  refine (congrArg (fun b : BitVec 1 => (FloatOps.uitofp FTy.bf16 b : Ideal .bf16)) (h k)).trans ?_
  show ((((1#1 : BitVec 1).toNat : ℝ)) : EReal) = 1
  norm_num

theorem index_triangle : ∀ t : Fin cfg0.N, (cfg0.win 3).index t = ![0, 0] := by
  decide +kernel

/-- The triangle: the block of a grid point is the whole array. -/
theorem blk_triangle (t : Fin cfg0.N) (k : Fin 1024) : (iblk m c 3 t : FVec Ideal S1024x1024 .bf16) (ix2 k 1023) = (1 : EReal) := by
  rw [← triangle_apply m c k]
  have ei := index_triangle t
  blk_simp [iblk]
  refine congrArg (V m c main_v8) (funext fun z => Fin.ext ?_)
  match z with
  | ⟨0, _⟩ =>
    refine (Pipeline.Window.rect_emb_val (cfg0.win 3) t _ ⟨0, by decide⟩).trans ?_
    rw [ei]
    show 0 * 1024 + k.val = k.val
    omega
  | ⟨1, _⟩ =>
    refine (Pipeline.Window.rect_emb_val (cfg0.win 3) t _ ⟨1, by decide⟩).trans ?_
    rw [ei]
    rfl

/-- How many of a token's two experts are the expert `e`; none past the last token. -/
def hits (e : Fin 32) (n : Nat) : Nat :=
  if h : n < 16384 then
    (if val_main_v40 (F := Ideal) (arg0 m c) (arg1 m c) (arg2 m c) (ix2 0 ⟨n, h⟩) = BitVec.ofNat 32 e.val then 1 else 0)
      + (if val_main_v40 (F := Ideal) (arg0 m c) (arg1 m c) (arg2 m c) (ix2 1 ⟨n, h⟩) = BitVec.ofNat 32 e.val then 1 else 0)
  else 0

theorem hits_le (e : Fin 32) (n : Nat) : hits m c e n ≤ 2 := by
  unfold hits
  split_ifs <;> omega

/-- A choice by comparing two words. -/
theorem select_eq {α : Type} (x y : BitVec 32) (u v : α) : Scalar.select (IntOp.cmpi .eq x y) u v = if x = y then u else v := by
  unfold Scalar.select IntOp.cmpi
  by_cases h : x = y
  · subst h; simp
  · rw [if_neg h, beq_false_of_ne h]; rfl

/-- The words of a grid point's two experts of each token, and of their group. -/
abbrev firstOf (t : Fin cfg0.N) : IVec S1x1024 32 :=
  k0_pay13 (F := Ideal) (k0_pay6 (iblk m c 0 t) (high m c t) (high m c t) (low m c t) (iblk m c 2 t))
    (k0_pay7 (iblk m c 0 t) (high m c t) (high m c t) (low m c t) (iblk m c 2 t))
    (k0_pay9 (iblk m c 0 t) (high m c t) (high m c t) (low m c t) (iblk m c 2 t))
abbrev secondOf (t : Fin cfg0.N) : IVec S1x1024 32 :=
  k0_pay14 (F := Ideal) (iota .tc S4x8x1024 32 [1] iota_S4x8x1024_d1_w32)
    (k0_pay6 (iblk m c 0 t) (high m c t) (high m c t) (low m c t) (iblk m c 2 t))
    (k0_pay8 (iblk m c 0 t) (high m c t) (high m c t) (low m c t) (iblk m c 2 t))
    (k0_pay9 (iblk m c 0 t) (high m c t) (high m c t) (low m c t) (iblk m c 2 t))
abbrev groupOf (t : Fin cfg0.N) : IVec S1x1024 32 :=
  k0_pay19 (F := Ideal) (k0_pay6 (iblk m c 0 t) (high m c t) (high m c t) (low m c t) (iblk m c 2 t))
    (k0_pay9 (iblk m c 0 t) (high m c t) (high m c t) (low m c t) (iblk m c 2 t))

theorem coords_val : ∀ t : Fin cfg0.N, (grid0.coords t 0).val = t.val := by
  decide +kernel

/-- The reference's counts. -/
theorem ref_counts (e : Fin 32) :
    val_main_v42 (F := Ideal) (arg0 m c) (arg1 m c) (arg2 m c) (ix2 e 0)
      = BitVec.ofNat 32 (∑ n ∈ Finset.range 16384, hits m c e n) := by
  have ht : ∀ (n : Fin 16384) (q : Fin 2), val_main_v40 (F := Ideal) (arg0 m c) (arg1 m c) (arg2 m c) (ix2 q n)
      = val_main_v30 (F := Ideal) (arg0 m c) (arg1 m c) (arg2 m c) (ix2 n q) := fun n q => by
    pointwise [val_main_v40]
  pointwise [val_main_v42, val_main_v39, val_main_c_7, val_main_v38, val_main_v37, val_main_v36, val_main_v35, val_main_v34, val_main_v33, val_main_v32, val_main_v31]
  refine (IndicatorCount.fold_addi_setWidth_eq_card _ _).trans (congrArg _ ?_)
  let f : Nat → Nat := fun k => if h : k < 32768 then
    (if val_main_v30 (F := Ideal) (arg0 m c) (arg1 m c) (arg2 m c) (ix2 ⟨k / 2, by omega⟩ ⟨k % 2, by omega⟩) = BitVec.ofNat 32 e.val then 1 else 0) else 0
  have hc : ∀ x y : BitVec 32, IntOp.cmpi .eq x y = 1#1 ↔ x = y := fun x y => by
    unfold IntOp.cmpi
    by_cases h : x = y
    · subst h; simp
    · simp [beq_false_of_ne h, h]
  rw [Finset.card_filter]
  refine Eq.trans (b := ∑ k ∈ Finset.range (2 * 16384), f k) ?_ ?_
  · rw [Finset.sum_range]
    refine Finset.sum_congr rfl fun k _ => ?_
    have hk : k.val < 32768 := k.isLt
    show _ = if h : k.val < 32768 then _ else 0
    rw [dif_pos hk]
    simp only [hc]
  · rw [sum_pairs]
    refine Finset.sum_congr rfl fun n hn => ?_
    have hn' : n < 16384 := Finset.mem_range.1 hn
    have e0 : f (2 * n) = if val_main_v30 (F := Ideal) (arg0 m c) (arg1 m c) (arg2 m c) (ix2 ⟨n, hn'⟩ 0) = BitVec.ofNat 32 e.val then 1 else 0 := by
      show (if h : 2 * n < 32768 then _ else 0) = _
      rw [dif_pos (by omega)]
      have a : (⟨2 * n / 2, by omega⟩ : Fin 16384) = ⟨n, hn'⟩ := Fin.ext (by show 2 * n / 2 = n; omega)
      have b : (⟨2 * n % 2, by omega⟩ : Fin 2) = 0 := Fin.ext (by show 2 * n % 2 = 0; omega)
      rw [a, b]
    have e1 : f (2 * n + 1) = if val_main_v30 (F := Ideal) (arg0 m c) (arg1 m c) (arg2 m c) (ix2 ⟨n, hn'⟩ 1) = BitVec.ofNat 32 e.val then 1 else 0 := by
      show (if h : 2 * n + 1 < 32768 then _ else 0) = _
      rw [dif_pos (by omega)]
      have a : (⟨(2 * n + 1) / 2, by omega⟩ : Fin 16384) = ⟨n, hn'⟩ := Fin.ext (by show (2 * n + 1) / 2 = n; omega)
      have b : (⟨(2 * n + 1) % 2, by omega⟩ : Fin 2) = 1 := Fin.ext (by show (2 * n + 1) % 2 = 1; omega)
      rw [a, b]
    rw [e0, e1]
    unfold hits
    rw [dif_pos hn', ht, ht]

section Final

variable (h0 : ∀ i, ∃ r : ℝ, arg0 m c i = (r : EReal)) (h1 : ∀ i, ∃ r : ℝ, arg1 m c i = (r : EReal))
  (h2 : ∀ i, ∃ r : ℝ, arg2 m c i = (r : EReal))

include h0 h1 h2

/-- A grid point's experts are the reference's. -/
theorem block_experts (t : Fin cfg0.N) (a : Fin 1024) (q : Fin 2) (r : Fin 16384) (hr : r.val = t.val * 1024 + a.val) :
    k0_pay23 (firstOf m c t) (secondOf m c t) (groupOf m c t) (ix2 q a)
      = val_main_v40 (F := Ideal) (arg0 m c) (arg1 m c) (arg2 m c) (ix2 q r) := by
  have hr' : r.val = (grid0.coords t 0).val * 1024 + a.val := by rw [coords_val]; exact hr
  obtain ⟨i, j, p, hp⟩ := exists_picks (fun g e => val_main_v11 (F := Ideal) (arg0 m c) (arg1 m c) (arg2 m c) (ix3 r g e))
  have hb := biased_eq m c h0 h1 t a r hr'
  have hk := experts (iblk m c 0 t) (high m c t) (high m c t) (low m c t) (iblk m c 2 t) a i j p
    (by simp only [hb]; exact hp) (fun g e => by rw [hb]; exact biased_gt m c h0 h1 h2 r g e) q
  exact hk.trans (ref_experts _ _ _ r i j p hp q).symm

omit h0 h1 h2 in
/-- A token's two experts differ. -/
theorem experts_ne (r : Fin 16384) :
    val_main_v40 (F := Ideal) (arg0 m c) (arg1 m c) (arg2 m c) (ix2 0 r)
      ≠ val_main_v40 (F := Ideal) (arg0 m c) (arg1 m c) (arg2 m c) (ix2 1 r) := by
  obtain ⟨i, j, p, hp⟩ := exists_picks (fun g e => val_main_v11 (F := Ideal) (arg0 m c) (arg1 m c) (arg2 m c) (ix3 r g e))
  rw [ref_experts _ _ _ r i j p hp, ref_experts _ _ _ r i j p hp]
  intro h
  have h' := (ofNat_inj (k := 8) (by decide) (i p) (j p)).mp ((BitVec.add_right_inj _).mp h)
  exact (hp.second p).ne h'.symm

/-- The sum of a block's zeros and ones. -/
theorem block_sum (t : Fin cfg0.N) (e : Fin 32) :
    ∑ a : Fin 1024, k0_pay28 (F := Ideal) (firstOf m c t) (secondOf m c t) (groupOf m c t) (ix2 e a)
      = ((((∑ k ∈ Finset.range 1024, hits m c e (t.val * 1024 + k) : ℕ) : ℝ)) : EReal) := by
  have hN : t.val < 16 := t.isLt
  rw [Finset.sum_range, Nat.cast_sum, ← sum_coe]
  refine Finset.sum_congr rfl fun a _ => ?_
  have ha : a.val < 1024 := a.isLt
  have hr : t.val * 1024 + a.val < 16384 := by omega
  rw [pay28, block_experts m c h0 h1 h2 t a 0 ⟨_, hr⟩ rfl, block_experts m c h0 h1 h2 t a 1 ⟨_, hr⟩ rfl, select_eq, select_eq]
  unfold hits
  rw [dif_pos hr]
  have hne := experts_ne m c ⟨_, hr⟩
  by_cases ea : BitVec.ofNat 32 e.val = val_main_v40 (F := Ideal) (arg0 m c) (arg1 m c) (arg2 m c) (ix2 0 ⟨_, hr⟩)
  · rw [if_pos ea, if_pos ea.symm, if_neg (fun h => hne (ea.symm.trans h.symm))]
    norm_num
  · rw [if_neg ea, if_neg (Ne.symm ea)]
    by_cases eb : BitVec.ofNat 32 e.val = val_main_v40 (F := Ideal) (arg0 m c) (arg1 m c) (arg2 m c) (ix2 1 ⟨_, hr⟩)
    · rw [if_pos eb, if_pos eb.symm]
      norm_num
    · rw [if_neg eb, if_neg (Ne.symm eb)]
      norm_num

/-- The running count after a grid point. -/
theorem running (e : Fin 32) (n : Nat) (hn : n < cfg0.N) :
    ((outsAt0 m c n hn).2.2.2.2 : FVec Ideal S32x1 .f32) (ix2 e 0)
      = ((((∑ k ∈ Finset.range ((n + 1) * 1024), hits m c e k : ℕ) : ℝ)) : EReal) := by
  induction n with
  | zero =>
    have hs := block_sum m c h0 h1 h2 ⟨0, hn⟩ e
    rw [outsAt0_A m c ⟨0, hn⟩ rfl]
    dsimp only
    unfold sout0_A_0
    frame_out
    rw [pay2, pay29 _ _ _ _ e (blk_triangle m c ⟨0, hn⟩), pay25, zero_add]
    refine hs.trans ?_
    simp only [Nat.zero_mul, Nat.zero_add, Nat.one_mul]
  | succ n ih =>
    have hn' : n + 1 < 16 := hn
    have hs := block_sum m c h0 h1 h2 ⟨n + 1, hn⟩ e
    have hb : ¬ (⟨n + 1, hn⟩ : Fin cfg0.N).val % 16 = 0 := by show ¬ (n + 1) % 16 = 0; omega
    rw [outsAt0_B m c ⟨n + 1, hn⟩ hb]
    dsimp only
    unfold sout0_B_0
    frame_out
    rw [pay2, pay29 _ _ _ _ e (blk_triangle m c ⟨n + 1, hn⟩), read_unread_whole]
    refine (congrArg₂ (fun x y : EReal => x + y) (ih _) hs).trans ?_
    rw [← EReal.coe_add, ← Nat.cast_add, show (n + 1 + 1) * 1024 = (n + 1) * 1024 + 1024 by omega, Finset.sum_range_add]

omit h0 h1 h2 in
/-- The counts a grid point writes are its running counts, converted to integers. -/
theorem block_counts (t : Fin cfg0.N) (ht : ¬ t.val % 16 = 0) :
    (outsAt0 m c t.val t.isLt).2.2.2.1 = k0_pay3 (F := Ideal) (outsAt0 m c t.val t.isLt).2.2.2.2 := by
  rw [outsAt0_B m c t ht]
  dsimp only
  unfold out0_B_7 sout0_B_0
  frame_out

omit h0 h1 h2 in
/-- The counts are copied out after the last grid point. -/
theorem last_counts : ∀ t : Fin cfg0.N, (cfg0.win 7).flush t = true → t.val = 15 := by
  decide +kernel
omit h0 h1 h2 in
theorem index_counts : ∀ t : Fin cfg0.N, (cfg0.win 7).index t = ![0, 0] := by
  decide +kernel
omit h0 h1 h2 in
theorem covers_counts : (cfg0.win 7).Covers := by decide +kernel

/-- The counts the grid points leave. -/
theorem final_counts : (dats m 0 c).arrAt 7 cfg0.N = val_main_v42 (F := Ideal) (arg0 m c) (arg1 m c) (arg2 m c) := by
  refine (dats m 0 c).arrAt_eq_of_covers 7 _ covers_counts fun t hf y => ?_
  have hl := last_counts t hf
  let e : Fin 32 := y 0
  have ey : (y : S32x1.Idx) = ix2 e 0 := by
    refine (ValueIdx.eq_ix2 _).trans ?_
    exact congrArg (ix2 e) (Subsingleton.elim (α := Fin 1) _ _)
  have ez : ((View.whole main_v18_3).slice (win0_7.rect t)).emb y = ix2 e 0 := by
    have ei := index_counts t
    refine funext fun z => Fin.ext ?_
    match z with
    | ⟨0, _⟩ =>
      refine (Pipeline.Window.rect_emb_val (cfg0.win 7) t y ⟨0, by decide⟩).trans ?_
      rw [ei]
      show 0 * 32 + (y 0).val = (y 0).val
      omega
    | ⟨1, _⟩ =>
      refine (Pipeline.Window.rect_emb_val (cfg0.win 7) t y ⟨1, by decide⟩).trans ?_
      rw [ei]
      have : (y 1).val < 1 := (y 1).isLt
      show 0 * 1 + (y 1).val = 0
      omega
  have hb : ∑ k ∈ Finset.range 16384, hits m c e k < 2147483648 := by
    have := Finset.sum_le_card_nsmul (Finset.range 16384) (hits m c e) 2 fun n _ => hits_le m c e n
    rw [Finset.card_range] at this
    exact lt_of_le_of_lt this (by decide)
  blk_simp
  rw [after0_7, block_counts m c t (by omega), ez]
  refine (congrArg _ ey).trans ?_
  rw [pay3, ref_counts]
  refine (congrArg (Ideal.fptosi 32) (running m c h0 h1 h2 e t.val t.isLt)).trans ?_
  rw [hl]
  exact fptosi_nat _ hb

end Final

/-- In exact arithmetic, on real arguments, the kernel's experts, gates and counts are the reference's. -/
theorem algebraic [Cert.Pre_finite_tokens.Facts] : Cert.algebraic_Kernel10Ideal_Reference10Ideal_pre_finite_tokens := by
  pair_intro
  · run_from Cert.Kernel10Ideal.Value.run_blocks m g
  · refine θ_run_mono (Cert.Reference10Ideal.Value.run m' g') fun r hr c => ?_
    obtain ⟨h40, h41, h42, hargs⟩ := hr c
    obtain ⟨h0, h1, h2⟩ := reals_of_pre _ _ _ (hpre c)
    obtain ⟨e0, e1, e2⟩ := hagree c
    refine ⟨h40.trans ((val_main_v40_eq m' c).trans ?_), h41.trans ((val_main_v41_eq m' c).trans ?_),
      h42.trans ((val_main_v42_eq m' c).trans ?_), hargs⟩
    · rw [e0, e1, e2]
      exact (final_experts m c h0 h1 h2).symm
    · rw [e0, e1, e2]
      exact (final_gates m c h0 h1 h2).symm
    · rw [e0, e1, e2]
      exact (final_counts m c h0 h1 h2).symm

end Cert.Proof.Router

end
-- ==== Proof.CombineFirst.lean ====
/- The last step of the first layer: each block the kernel writes, in both formats, is the reference's. -/
module

public import proofs.«01_k».proof.Defs
public import proofs.«01_k».proof.Proof.LayerNorm
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pointwise
public import Idealize.ShloMosaic.Lib.StableHlo.ReadAt
public import Idealize.ShloMosaic.Lib.Pipeline.ValueKit
public import Idealize.ShloMosaic.Lib.Claim

@[expose] public section

set_option maxRecDepth 16384

noncomputable section

namespace Cert.Proof.CombineFirst

open Cert.Kernel11Ideal Cert.Kernel11Ideal.Gen Idealize.ShloMosaic Idealize.ShloMosaic.Pointwise Idealize.SL.Sem
open Cert.Reference11Ideal.Read

variable (m : (ℓ : Loc nD τ sig) → Buf (Elt Ideal) ℓ) (c : Dev nD)

/-- The arguments. -/
abbrev arg0 : FVec Ideal S2x8192x2048 .f32 := m ((c.tc : Thread nD τ).loc main_arg0)
abbrev arg1 : FVec Ideal S2x2x8192x2048 .f32 := m ((c.tc : Thread nD τ).loc main_arg1)
abbrev arg2 : FVec Ideal S2x2x8192 .f32 := m ((c.tc : Thread nD τ).loc main_arg2)
abbrev arg3 : FVec Ideal S2x2048 .f32 := m ((c.tc : Thread nD τ).loc main_arg3)
abbrev arg4 : FVec Ideal S2x2048 .f32 := m ((c.tc : Thread nD τ).loc main_arg4)

/-- The residual: the array handed to the kernel. -/
theorem resid_apply (r : Fin 16384) (k : Fin 2048) :
    (V (F := Ideal) m c main_v0 : FVec Ideal S16384x2048 .f32) (ix2 r k) = arg0 m c (ix3 ⟨r.val / 8192, by omega⟩ ⟨r.val % 8192, by omega⟩ k) := by
  unfold V
  after_reads_at

theorem index_resid : ∀ t : Fin cfg0.N, (cfg0.win 0).index t = ![(grid0.coords t 0).val, 0] := by
  decide +kernel

/-- The residual: the block of a grid point. -/
theorem blk_resid (t : Fin cfg0.N) (a : Fin 512) (k : Fin 2048) (r : Fin 16384) (h : r.val = (grid0.coords t 0).val * 512 + a.val) :
    (iblk m c 0 t : FVec Ideal S512x2048 .f32) (ix2 a k) = arg0 m c (ix3 ⟨r.val / 8192, by omega⟩ ⟨r.val % 8192, by omega⟩ k) := by
  rw [← resid_apply]
  have e := index_resid t
  blk_simp [iblk]
  refine congrArg (V m c main_v0) (funext fun z => Fin.ext ?_)
  match z with
  | ⟨0, _⟩ =>
    refine (Pipeline.Window.rect_emb_val (cfg0.win 0) t _ ⟨0, by decide⟩).trans ?_
    rw [e]
    exact h.symm
  | ⟨1, _⟩ =>
    refine (Pipeline.Window.rect_emb_val (cfg0.win 0) t _ ⟨1, by decide⟩).trans ?_
    rw [e]
    show 0 * 2048 + k.val = k.val
    omega

/-- The rows of the first choice: the array handed to the kernel. -/
theorem first_apply (p : Fin 32768) (r : Fin 16384) (k : Fin 2048) (h : p.val = 0 + r.val) :
    (V (F := Ideal) m c main_v2 : FVec Ideal S32768x2048 .bf16) (ix2 p k)
      = arg1 m c (ix4 0 ⟨r.val / 8192, by omega⟩ ⟨r.val % 8192, by omega⟩ k) := by
  have e : (V (F := Ideal) m c main_v2 : FVec Ideal S32768x2048 .bf16) (ix2 p k)
      = arg1 m c (ix4 ⟨p.val / 16384, by omega⟩ ⟨p.val / 8192 % 2, by omega⟩ ⟨p.val % 8192, by omega⟩ k) := by
    unfold V
    after_reads_at
  rw [e]
  refine congrArg (arg1 m c) (funext fun z => Fin.ext ?_)
  match z with
  | ⟨0, _⟩ => show p.val / 16384 = 0; omega
  | ⟨1, _⟩ => show p.val / 8192 % 2 = r.val / 8192; omega
  | ⟨2, _⟩ => show p.val % 8192 = r.val % 8192; omega
  | ⟨3, _⟩ => rfl

theorem index_first : ∀ t : Fin cfg0.N, (cfg0.win 1).index t = ![(grid0.coords t 0).val, 0] := by
  decide +kernel

/-- The rows of the first choice: the block of a grid point. -/
theorem blk_first (t : Fin cfg0.N) (a : Fin 512) (k : Fin 2048) (r : Fin 16384) (h : r.val = (grid0.coords t 0).val * 512 + a.val) :
    (iblk m c 1 t : FVec Ideal S512x2048 .bf16) (ix2 a k) = arg1 m c (ix4 0 ⟨r.val / 8192, by omega⟩ ⟨r.val % 8192, by omega⟩ k) := by
  rw [← first_apply m c ⟨0 + r.val, by omega⟩ r k rfl]
  have e := index_first t
  blk_simp [iblk]
  refine congrArg (V m c main_v2) (funext fun z => Fin.ext ?_)
  match z with
  | ⟨0, _⟩ =>
    refine (Pipeline.Window.rect_emb_val (cfg0.win 1) t _ ⟨0, by decide⟩).trans ?_
    rw [e]
    show ((grid0.coords t 0).val) * 512 + a.val = r.val
    omega
  | ⟨1, _⟩ =>
    refine (Pipeline.Window.rect_emb_val (cfg0.win 1) t _ ⟨1, by decide⟩).trans ?_
    rw [e]
    show 0 * 2048 + k.val = k.val
    omega

/-- The rows of the second choice: the array handed to the kernel. -/
theorem second_apply (p : Fin 32768) (r : Fin 16384) (k : Fin 2048) (h : p.val = 16384 + r.val) :
    (V (F := Ideal) m c main_v2 : FVec Ideal S32768x2048 .bf16) (ix2 p k)
      = arg1 m c (ix4 1 ⟨r.val / 8192, by omega⟩ ⟨r.val % 8192, by omega⟩ k) := by
  have e : (V (F := Ideal) m c main_v2 : FVec Ideal S32768x2048 .bf16) (ix2 p k)
      = arg1 m c (ix4 ⟨p.val / 16384, by omega⟩ ⟨p.val / 8192 % 2, by omega⟩ ⟨p.val % 8192, by omega⟩ k) := by
    unfold V
    after_reads_at
  rw [e]
  refine congrArg (arg1 m c) (funext fun z => Fin.ext ?_)
  match z with
  | ⟨0, _⟩ => show p.val / 16384 = 1; omega
  | ⟨1, _⟩ => show p.val / 8192 % 2 = r.val / 8192; omega
  | ⟨2, _⟩ => show p.val % 8192 = r.val % 8192; omega
  | ⟨3, _⟩ => rfl

theorem index_second : ∀ t : Fin cfg0.N, (cfg0.win 2).index t = ![32 + (grid0.coords t 0).val, 0] := by
  decide +kernel

/-- The rows of the second choice: the block of a grid point. -/
theorem blk_second (t : Fin cfg0.N) (a : Fin 512) (k : Fin 2048) (r : Fin 16384) (h : r.val = (grid0.coords t 0).val * 512 + a.val) :
    (iblk m c 2 t : FVec Ideal S512x2048 .bf16) (ix2 a k) = arg1 m c (ix4 1 ⟨r.val / 8192, by omega⟩ ⟨r.val % 8192, by omega⟩ k) := by
  rw [← second_apply m c ⟨16384 + r.val, by omega⟩ r k rfl]
  have e := index_second t
  blk_simp [iblk]
  refine congrArg (V m c main_v2) (funext fun z => Fin.ext ?_)
  match z with
  | ⟨0, _⟩ =>
    refine (Pipeline.Window.rect_emb_val (cfg0.win 2) t _ ⟨0, by decide⟩).trans ?_
    rw [e]
    show (32 + (grid0.coords t 0).val) * 512 + a.val = 16384 + r.val
    omega
  | ⟨1, _⟩ =>
    refine (Pipeline.Window.rect_emb_val (cfg0.win 2) t _ ⟨1, by decide⟩).trans ?_
    rw [e]
    show 0 * 2048 + k.val = k.val
    omega

/-- The gates: the array handed to the kernel. -/
theorem gate_apply (r : Fin 16384) (k : Fin 2) :
    (V (F := Ideal) m c main_v4 : FVec Ideal S16384x2 .f32) (ix2 r k) = arg2 m c (ix3 k ⟨r.val / 8192, by omega⟩ ⟨r.val % 8192, by omega⟩) := by
  unfold V
  after_reads_at

theorem index_gate : ∀ t : Fin cfg0.N, (cfg0.win 3).index t = ![(grid0.coords t 0).val, 0] := by
  decide +kernel

/-- The gates: the block of a grid point. -/
theorem blk_gate (t : Fin cfg0.N) (a : Fin 512) (k : Fin 2) (r : Fin 16384) (h : r.val = (grid0.coords t 0).val * 512 + a.val) :
    (iblk m c 3 t : FVec Ideal S512x2 .f32) (ix2 a k) = arg2 m c (ix3 k ⟨r.val / 8192, by omega⟩ ⟨r.val % 8192, by omega⟩) := by
  rw [← gate_apply]
  have e := index_gate t
  blk_simp [iblk]
  refine congrArg (V m c main_v4) (funext fun z => Fin.ext ?_)
  match z with
  | ⟨0, _⟩ =>
    refine (Pipeline.Window.rect_emb_val (cfg0.win 3) t _ ⟨0, by decide⟩).trans ?_
    rw [e]
    exact h.symm
  | ⟨1, _⟩ =>
    refine (Pipeline.Window.rect_emb_val (cfg0.win 3) t _ ⟨1, by decide⟩).trans ?_
    rw [e]
    show 0 * 2 + k.val = k.val
    omega

/-- The scale: the array handed to the kernel. -/
theorem scale_apply (j : Fin 2048) :
    (V (F := Ideal) m c main_v9 : FVec Ideal S1x2048 .f32) (ix2 0 j) = arg3 m c (ix2 0 j) := by
  unfold V
  after_reads_at

theorem index_scale : ∀ t : Fin cfg0.N, (cfg0.win 4).index t = ![0, 0] := by
  decide +kernel

/-- The scale: the block of a grid point. -/
theorem blk_scale (t : Fin cfg0.N) (j : Fin 2048) :
    (iblk m c 4 t : FVec Ideal S1x2048 .f32) (ix2 0 j) = arg3 m c (ix2 0 j) := by
  rw [← scale_apply]
  have e := index_scale t
  blk_simp [iblk]
  refine congrArg (V m c main_v9) (funext fun z => Fin.ext ?_)
  match z with
  | ⟨0, _⟩ =>
    refine (Pipeline.Window.rect_emb_val (cfg0.win 4) t _ ⟨0, by decide⟩).trans ?_
    rw [e]
    show 0 * 1 + 0 = 0
    omega
  | ⟨1, _⟩ =>
    refine (Pipeline.Window.rect_emb_val (cfg0.win 4) t _ ⟨1, by decide⟩).trans ?_
    rw [e]
    show 0 * 2048 + j.val = j.val
    omega

/-- The shift: the array handed to the kernel. -/
theorem shift_apply (j : Fin 2048) :
    (V (F := Ideal) m c main_v10 : FVec Ideal S1x2048 .f32) (ix2 0 j) = arg4 m c (ix2 0 j) := by
  unfold V
  after_reads_at

theorem index_shift : ∀ t : Fin cfg0.N, (cfg0.win 5).index t = ![0, 0] := by
  decide +kernel

/-- The shift: the block of a grid point. -/
theorem blk_shift (t : Fin cfg0.N) (j : Fin 2048) :
    (iblk m c 5 t : FVec Ideal S1x2048 .f32) (ix2 0 j) = arg4 m c (ix2 0 j) := by
  rw [← shift_apply]
  have e := index_shift t
  blk_simp [iblk]
  refine congrArg (V m c main_v10) (funext fun z => Fin.ext ?_)
  match z with
  | ⟨0, _⟩ =>
    refine (Pipeline.Window.rect_emb_val (cfg0.win 5) t _ ⟨0, by decide⟩).trans ?_
    rw [e]
    show 0 * 1 + 0 = 0
    omega
  | ⟨1, _⟩ =>
    refine (Pipeline.Window.rect_emb_val (cfg0.win 5) t _ ⟨1, by decide⟩).trans ?_
    rw [e]
    show 0 * 2048 + j.val = j.val
    omega

/-- What a grid point writes, from its blocks. -/
theorem pay_apply (x : FVec Ideal S512x2 .f32) (y0 y1 : FVec Ideal S512x2048 .bf16) (h : FVec Ideal S512x2048 .f32)
    (g b : FVec Ideal S1x2048 .f32) (a : Fin 512) (j : Fin 2048) :
    k0_pay1 (F := Ideal) (k0_pay3 b) (k0_pay4 x y0 y1 h) (k0_pay5 g) (ix2 a j)
      = normed (fun k => alpha * h (ix2 a k) + (x (ix2 a 0) * y0 (ix2 a k) + x (ix2 a 1) * y1 (ix2 a k)))
          (g (ix2 0 j)) (b (ix2 0 j)) j := by
  pointwise [k0_pay1, k0_pay3, k0_pay4, k0_pay5]
  rfl

/-- The reference at an index. -/
theorem ref_apply (h : FVec Ideal S2x8192x2048 .f32) (y : FVec Ideal S2x2x8192x2048 .f32) (x : FVec Ideal S2x2x8192 .f32)
    (g b : FVec Ideal S2x2048 .f32) (r : Fin 16384) (j : Fin 2048) :
    val_main_v35 (F := Ideal) h y x g b (ix2 r j)
      = normed (fun k => alpha * h (ix3 ⟨r.val / 8192, by omega⟩ ⟨r.val % 8192, by omega⟩ k) + ∑ q : Fin 2, y (ix4 q ⟨r.val / 8192, by omega⟩ ⟨r.val % 8192, by omega⟩ k) * x (ix3 q ⟨r.val / 8192, by omega⟩ ⟨r.val % 8192, by omega⟩))
          (g (ix2 0 j)) (b (ix2 0 j)) j := by
  pointwise [val_main_v35, val_main_v34, val_main_v33, val_main_v32, val_main_v31, val_main_v30, val_main_v29, val_main_v28, val_main_v27, val_main_v26, val_main_v25, val_main_v24, val_main_cst_5, val_main_v23, val_main_v22, val_main_v21, val_main_v20, val_main_cst_4, val_main_v19, val_main_v18, val_main_cst_3, val_main_v17, val_main_v16, val_main_v15, val_main_v14, val_main_v13, val_main_cst_2, val_main_v12, val_main_v11, val_main_cst_1, val_main_v10, val_main_v9, val_main_v8, val_main_v7, val_main_v6, val_main_v5, val_main_v4, val_main_cst_0, val_main_v3, val_main_cst, val_main_v2, val_main_v1, val_main_v0]
  rfl

theorem index_out : ∀ t : Fin cfg0.N, (cfg0.win 6).index t = ![(grid0.coords t 0).val, 0] := by
  decide +kernel

theorem covers : (cfg0.win 6).Covers := by decide +kernel

/-- The array the grid points leave. -/
theorem final : (dats m 0 c).arrAt 6 cfg0.N = val_main_v35 (F := Ideal) (arg0 m c) (arg1 m c) (arg2 m c) (arg3 m c) (arg4 m c) := by
  refine (dats m 0 c).arrAt_eq_of_covers 6 _ covers fun t hf y => ?_
  blk_simp
  rw [after0_6]
  unfold_out out0_6
  frame_out
  have hr : (grid0.coords t 0).val < 32 := (grid0.coords t 0).isLt
  have h0 : (y 0).val < 512 := (y 0).isLt
  have h1 : (y 1).val < 2048 := (y 1).isLt
  let r : Fin 16384 := ⟨(grid0.coords t 0).val * 512 + (y 0).val, by omega⟩
  let j : Fin 2048 := y 1
  have ey : (y : S512x2048.Idx) = ix2 (y 0) (y 1) := ValueIdx.eq_ix2 _
  have ez : ((View.whole main_v11_0).slice (win0_6.rect t)).emb y = ix2 r j := by
    have e := index_out t
    refine funext fun z => Fin.ext ?_
    match z with
    | ⟨0, _⟩ => refine (Pipeline.Window.rect_emb_val (cfg0.win 6) t y ⟨0, by decide⟩).trans ?_; rw [e]; rfl
    | ⟨1, _⟩ =>
      refine (Pipeline.Window.rect_emb_val (cfg0.win 6) t y ⟨1, by decide⟩).trans ?_
      rw [e]
      show 0 * 2048 + (y 1).val = (y 1).val
      omega
  rw [ez, ref_apply]
  refine (congrArg _ ey).trans ((pay_apply _ _ _ _ _ _ (y 0) (y 1)).trans ?_)
  refine normed_congr _ (fun k => ?_) (blk_scale m c t _) (blk_shift m c t _)
  rw [Fin.sum_univ_two]
  refine congrArg₂ (fun a b : EReal => a + b) (congrArg (fun a : EReal => alpha * a) (blk_resid m c t _ k r rfl)) ?_
  refine congrArg₂ (fun a b : EReal => a + b) ?_ ?_
  · exact (congrArg₂ (fun a b : EReal => a * b) (blk_gate m c t _ 0 r rfl) (blk_first m c t _ k r rfl)).trans (mul_comm _ _)
  · exact (congrArg₂ (fun a b : EReal => a * b) (blk_gate m c t _ 1 r rfl) (blk_second m c t _ k r rfl)).trans (mul_comm _ _)

theorem index_half : ∀ t : Fin cfg0.N, (cfg0.win 7).index t = ![(grid0.coords t 0).val, 0] := by
  decide +kernel

theorem covers_half : (cfg0.win 7).Covers := by decide +kernel

/-- The second array the grid points leave, in bfloat16: the same rows. -/
theorem final_half : (dats m 0 c).arrAt 7 cfg0.N = val_main_v36 (F := Ideal) (arg0 m c) (arg1 m c) (arg2 m c) (arg3 m c) (arg4 m c) := by
  refine (dats m 0 c).arrAt_eq_of_covers 7 _ covers_half fun t hf y => ?_
  blk_simp
  rw [after0_7]
  unfold_out out0_7
  frame_out
  have hr : (grid0.coords t 0).val < 32 := (grid0.coords t 0).isLt
  have h0 : (y 0).val < 512 := (y 0).isLt
  have h1 : (y 1).val < 2048 := (y 1).isLt
  let r : Fin 16384 := ⟨(grid0.coords t 0).val * 512 + (y 0).val, by omega⟩
  let j : Fin 2048 := y 1
  have ey : (y : S512x2048.Idx) = ix2 (y 0) (y 1) := ValueIdx.eq_ix2 _
  have ez : ((View.whole main_v11_1).slice (win0_7.rect t)).emb y = ix2 r j := by
    have e := index_half t
    refine funext fun z => Fin.ext ?_
    match z with
    | ⟨0, _⟩ => refine (Pipeline.Window.rect_emb_val (cfg0.win 7) t y ⟨0, by decide⟩).trans ?_; rw [e]; rfl
    | ⟨1, _⟩ =>
      refine (Pipeline.Window.rect_emb_val (cfg0.win 7) t y ⟨1, by decide⟩).trans ?_
      rw [e]
      show 0 * 2048 + (y 1).val = (y 1).val
      omega
  rw [ez]
  show _ = val_main_v35 (F := Ideal) (arg0 m c) (arg1 m c) (arg2 m c) (arg3 m c) (arg4 m c) (ix2 r j)
  rw [ref_apply]
  refine (congrArg _ ey).trans ((pay_apply _ _ _ _ _ _ (y 0) (y 1)).trans ?_)
  refine normed_congr _ (fun k => ?_) (blk_scale m c t _) (blk_shift m c t _)
  rw [Fin.sum_univ_two]
  refine congrArg₂ (fun a b : EReal => a + b) (congrArg (fun a : EReal => alpha * a) (blk_resid m c t _ k r rfl)) ?_
  refine congrArg₂ (fun a b : EReal => a + b) ?_ ?_
  · exact (congrArg₂ (fun a b : EReal => a * b) (blk_gate m c t _ 0 r rfl) (blk_first m c t _ k r rfl)).trans (mul_comm _ _)
  · exact (congrArg₂ (fun a b : EReal => a * b) (blk_gate m c t _ 1 r rfl) (blk_second m c t _ k r rfl)).trans (mul_comm _ _)

theorem frame_ri : Cert.quiescent_Reference11Ideal := fun m g _ =>
  (θ_run Cert.Reference11Ideal.defs _ _).mono (fun r h => ⟨fun c => (h c).2.2, sem_eq_zero_of_no_sems (by decide) r.2⟩)
    (Cert.Reference11Ideal.Value.run (F := Ideal) m g)

/-- In exact arithmetic both of the kernel's result arrays are the reference's. -/
theorem algebraic : Cert.algebraic_Kernel11Ideal_Reference11Ideal := by
  pair_intro
  · run_from Cert.Kernel11Ideal.Value.run_blocks m g
  · run_from Cert.Reference11Ideal.Value.run m' g'
    · rw [final m c]
      obtain ⟨e0, e1, e2, e3, e4⟩ := hagree c
      refine (Cert.Reference11Ideal.Read.val_main_v35_eq m' c).trans ?_
      unfold arg0 arg1 arg2 arg3 arg4
      rw [e0, e1, e2, e3, e4]
    · rw [final_half m c]
      obtain ⟨e0, e1, e2, e3, e4⟩ := hagree c
      refine (Cert.Reference11Ideal.Read.val_main_v36_eq m' c).trans ?_
      unfold arg0 arg1 arg2 arg3 arg4
      rw [e0, e1, e2, e3, e4]

end Cert.Proof.CombineFirst

end
-- ==== Proof.lean ====
module

public import proofs.«01_k».proof.Defs
public import proofs.«01_k».proof.Proof.Gen.Kernel.Frame
public import proofs.«01_k».proof.Proof.Gen.KernelIdeal.Frame
public import proofs.«01_k».proof.Proof.Claims
public import proofs.«01_k».proof.Proof.ProjOdd
public import proofs.«01_k».proof.Proof.ProjHyena
public import proofs.«01_k».proof.Proof.ProjQueries
public import proofs.«01_k».proof.Proof.ProjKeys
public import proofs.«01_k».proof.Proof.ProjValues
public import proofs.«01_k».proof.Proof.OutEven
public import proofs.«01_k».proof.Proof.OutOdd
public import proofs.«01_k».proof.Proof.Combine
public import proofs.«01_k».proof.Proof.RouterCounts
public import proofs.«01_k».proof.Proof.CombineFirst

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Claims.shapes, Router.shapes,
    fun m g _ => Cert.Kernel.Gen.frame m g,
    fun m g _ => Cert.KernelIdeal.Gen.frame m g,
    fun m g _ => Cert.KernelIdeal.Gen.frame m g,
    Claims.frame_ri,
    fun m g _ => Claims.frame_ri m g trivial,
    fun m g _ => Cert.Kernel2.Gen.frame m g,
    fun m g _ => Cert.Kernel2Ideal.Gen.frame m g,
    ProjOdd.frame_ri,
    fun m g _ => Cert.Kernel3.Gen.frame m g,
    fun m g _ => Cert.Kernel3Ideal.Gen.frame m g,
    ProjHyena.frame_ri,
    fun m g _ => Cert.Kernel4.Gen.frame m g,
    fun m g _ => Cert.Kernel4Ideal.Gen.frame m g,
    ProjQueries.frame_ri,
    fun m g _ => Cert.Kernel5.Gen.frame m g,
    fun m g _ => Cert.Kernel5Ideal.Gen.frame m g,
    ProjKeys.frame_ri,
    fun m g _ => Cert.Kernel6.Gen.frame m g,
    fun m g _ => Cert.Kernel6Ideal.Gen.frame m g,
    ProjValues.frame_ri,
    fun m g _ => Cert.Kernel7.Gen.frame m g,
    fun m g _ => Cert.Kernel7Ideal.Gen.frame m g,
    OutEven.frame_ri,
    fun m g _ => Cert.Kernel8.Gen.frame m g,
    fun m g _ => Cert.Kernel8Ideal.Gen.frame m g,
    OutOdd.frame_ri,
    fun m g _ => Cert.Kernel9.Gen.frame m g,
    fun m g _ => Cert.Kernel9Ideal.Gen.frame m g,
    Combine.frame_ri,
    fun m g _ => Cert.Kernel10.Gen.frame m g,
    fun m g _ => Cert.Kernel10Ideal.Gen.frame m g,
    fun m g _ => Cert.Kernel10Ideal.Gen.frame m g,
    Router.frame_ri,
    fun m g _ => Router.frame_ri m g trivial,
    fun m g _ => Cert.Kernel11.Gen.frame m g,
    fun m g _ => Cert.Kernel11Ideal.Gen.frame m g,
    CombineFirst.frame_ri,
    trivial,
    Claims.algebraic,
    trivial,
    ProjOdd.algebraic,
    trivial,
    ProjHyena.algebraic,
    trivial,
    ProjQueries.algebraic,
    trivial,
    ProjKeys.algebraic,
    trivial,
    ProjValues.algebraic,
    OutEven.preserves,
    OutEven.algebraic,
    OutOdd.preserves,
    OutOdd.algebraic,
    trivial,
    Combine.algebraic,
    trivial,
    Router.algebraic,
    trivial,
    CombineFirst.algebraic⟩

end Cert.Proof

end
